-- ==== Defs.lean ====
def Pre_Kernel [hPre_counts_fit : Cert.Pre_counts_fit.Facts] (m : (ℓ : Loc Cert.Kernel.nD Cert.Kernel.τ Cert.Kernel.sig) → Buf (Elt Bits) ℓ) : Prop :=
  ∀ c : Dev Cert.Kernel.nD,
    (Cert.Pre_counts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_counts_fit : Cert.Pre_counts_fit.Facts] (m : (ℓ : Loc Cert.KernelIdeal.nD Cert.KernelIdeal.τ Cert.KernelIdeal.sig) → Buf (Elt Ideal) ℓ) : Prop :=
  ∀ c : Dev Cert.KernelIdeal.nD,
    (Cert.Pre_counts_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_fit [hPre_counts_fit : Cert.Pre_counts_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_fit [hReferenceIdeal : Cert.ReferenceIdeal.Facts] [hPre_counts_fit : Cert.Pre_counts_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_counts_fit : Cert.Pre_counts_fit.Facts),
    quiescent_Kernel (hKernel := hKernel) (hPre_counts_fit := hPre_counts_fit)
    ∧ quiescent_KernelIdeal (hKernelIdeal := hKernelIdeal) (hPre_counts_fit := hPre_counts_fit)
    ∧ quiescent_ReferenceIdeal (hReferenceIdeal := hReferenceIdeal)
    ∧ quiescent_ReferenceIdeal_pre_counts_fit (hReferenceIdeal := hReferenceIdeal) (hPre_counts_fit := hPre_counts_fit)
    ∧ preserves_Kernel_KernelIdeal
    ∧ algebraic_KernelIdeal_ReferenceIdeal (hKernelIdeal := hKernelIdeal) (hReferenceIdeal := hReferenceIdeal) (hPre_counts_fit := hPre_counts_fit)
-- ==== Pre_counts_fit.lean ====
abbrev S342016x128 : Shape := ⟨2, ![342016, 128]⟩
abbrev S32 : Shape := ⟨1, ![32]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S342016x128 .f32) (main_arg1 : IVec S32 32) (main_arg2 : FVec F S2x32x1024x512 .f32) (main_arg3 : FVec F S2x32x1024x512 .f32) (main_arg4 : FVec F S2x32x512x1024 .f32) : IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 34816#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg1 main_c_1
  let main_c_2 : IVec S_ 32 := constantI S_ 32 34816#32
  let main_v6 : IVec S_ 1 := cmpi .sle main_v5 main_c_2
  let main_v7 : IVec S32 1 := broadcastInDim S32 ![] bcast_S_S32 main_v6
  let main_v8 : IVec S32 1 := andi main_v4 main_v7
  main_v8
-- ==== Kernel.lean ====
abbrev S342016x128 : Shape := ⟨2, ![342016, 128]⟩
abbrev S32 : Shape := ⟨1, ![32]⟩
abbrev S2x32x1024x512 : Shape := ⟨4, ![2, 32, 1024, 512]⟩
abbrev S2x32x512x1024 : Shape := ⟨4, ![2, 32, 512, 1024]⟩
abbrev S_ : Shape := ⟨0, ![]⟩
abbrev S167 : Shape := ⟨1, ![167]⟩
abbrev S1 : Shape := ⟨1, ![1]⟩
abbrev S1x32 : Shape := ⟨2, ![1, 32]⟩
abbrev S167x1 : Shape := ⟨2, ![167, 1]⟩
abbrev S167x32 : Shape := ⟨2, ![167, 32]⟩
abbrev S2048x128 : Shape := ⟨2, ![2048, 128]⟩
abbrev S1024x512 : Shape := ⟨2, ![1024, 512]⟩
abbrev S512x1024 : Shape := ⟨2, ![512, 1024]⟩
abbrev S2x1024x512 : Shape := ⟨3, ![2, 1024, 512]⟩
abbrev S2x512x1024 : Shape := ⟨3, ![2, 512, 1024]⟩
abbrev S2 : Shape := ⟨1, ![2]⟩
abbrev S1x1024x512 : Shape := ⟨3, ![1, 1024, 512]⟩
abbrev S1x1x1024x512 : Shape := ⟨4, ![1, 1, 1024, 512]⟩
abbrev S1x512x1024 : Shape := ⟨3, ![1, 512, 1024]⟩
abbrev S1x1x512x1024 : Shape := ⟨4, ![1, 1, 512, 1024]⟩
abbrev S256x128 : Shape := ⟨2, ![256, 128]⟩
abbrev S256x1024 : Shape := ⟨2, ![256, 1024]⟩
abbrev S256x512 : Shape := ⟨2, ![256, 512]⟩

abbrev nBuf : Space → Nat
  | .hbm => 146
  | .vmem => 10
  | .smem => 4
  | _ => 0

abbrev hbmTy0_0 (i : Nat) : BufTy := match i % 128 with
  | 0 => ⟨S342016x128, .f32⟩
  | 1 => ⟨S32, .i32⟩
  | 2 => ⟨S2x32x1024x512, .f32⟩
  | 3 => ⟨S2x32x1024x512, .f32⟩
  | 4 => ⟨S2x32x512x1024, .f32⟩
  | 5 => ⟨S32, .i32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S167, .i32⟩
  | 37 => ⟨S_, .i32⟩
  | 38 => ⟨S167, .i32⟩
  | 39 => ⟨S167, .i32⟩
  | 40 => ⟨S1, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i1⟩
  | 51 => ⟨S_, .i1⟩
  | 52 => ⟨S_, .i32⟩
  | 53 => ⟨S_, .i32⟩
  | 54 => ⟨S_, .i32⟩
  | 55 => ⟨S1x32, .i32⟩
  | 56 => ⟨S167x1, .i32⟩
  | 57 => ⟨S167x32, .i32⟩
  | 58 => ⟨S167x32, .i32⟩
  | 59 => ⟨S167x32, .i1⟩
  | 60 => ⟨S167x32, .i32⟩
  | 61 => ⟨S_, .i32⟩
  | 62 => ⟨S167, .i32⟩
  | 63 => ⟨S_, .i32⟩
  | 64 => ⟨S_, .i32⟩
  | 65 => ⟨S_, .i32⟩
  | 66 => ⟨S_, .i32⟩
  | 67 => ⟨S32, .i32⟩
  | 68 => ⟨S32, .i1⟩
  | 69 => ⟨S32, .i32⟩
  | 70 => ⟨S_, .i32⟩
  | 71 => ⟨S_, .i32⟩
  | 72 => ⟨S1, .i32⟩
  | 73 => ⟨S_, .i32⟩
  | 74 => ⟨S167, .i32⟩
  | 75 => ⟨S167, .i1⟩
  | 76 => ⟨S_, .i32⟩
  | 77 => ⟨S167, .i32⟩
  | 78 => ⟨S167, .i32⟩
  | 79 => ⟨S167, .i32⟩
  | 80 => ⟨S167x1, .i32⟩
  | 81 => ⟨S1x32, .i32⟩
  | 82 => ⟨S167x32, .i32⟩
  | 83 => ⟨S167x32, .i32⟩
  | 84 => ⟨S167x32, .i1⟩
  | 85 => ⟨S_, .i32⟩
  | 86 => ⟨S_, .i32⟩
  | 87 => ⟨S167x32, .i32⟩
  | 88 => ⟨S167x32, .i32⟩
  | 89 => ⟨S167x32, .i32⟩
  | 90 => ⟨S_, .i32⟩
  | 91 => ⟨S167, .i32⟩
  | 92 => ⟨S1, .i32⟩
  | 93 => ⟨S_, .i32⟩
  | 94 => ⟨S167, .i32⟩
  | 95 => ⟨S167, .i1⟩
  | 96 => ⟨S1x32, .i32⟩
  | 97 => ⟨S167x1, .i32⟩
  | 98 => ⟨S167x32, .i32⟩
  | 99 => ⟨S167x32, .i32⟩
  | 100 => ⟨S167x32, .i1⟩
  | 101 => ⟨S167x32, .i32⟩
  | 102 => ⟨S_, .i32⟩
  | 103 => ⟨S167, .i32⟩
  | 104 => ⟨S_, .i32⟩
  | 105 => ⟨S167, .i32⟩
  | 106 => ⟨S167, .i32⟩
  | 107 => ⟨S_, .i32⟩
  | 108 => ⟨S_, .i32⟩
  | 109 => ⟨S167, .i32⟩
  | 110 => ⟨S1x32, .i32⟩
  | 111 => ⟨S167x1, .i32⟩
  | 112 => ⟨S167x32, .i32⟩
  | 113 => ⟨S167x32, .i32⟩
  | 114 => ⟨S167x32, .i1⟩
  | 115 => ⟨S1x32, .i32⟩
  | 116 => ⟨S_, .i32⟩
  | 117 => ⟨S1x32, .i32⟩
  | 118 => ⟨S1x32, .i1⟩
  | 119 => ⟨S167x32, .i1⟩
  | 120 => ⟨S167x32, .i1⟩
  | 121 => ⟨S167x32, .i32⟩
  | 122 => ⟨S_, .i32⟩
  | 123 => ⟨S167, .i32⟩
  | 124 => ⟨S_, .i32⟩
  | 125 => ⟨S_, .i32⟩
  | 126 => ⟨S_, .i32⟩
  | 127 => ⟨S_, .i1⟩
  | _ => ⟨S342016x128, .f32⟩

abbrev hbmTy0_1 (i : Nat) : BufTy := match i % 128 with
  | 0 => ⟨S_, .i32⟩
  | 1 => ⟨S_, .i32⟩
  | 2 => ⟨S167, .i32⟩
  | 3 => ⟨S167, .i32⟩
  | 4 => ⟨S_, .i32⟩
  | 5 => ⟨S167, .i32⟩
  | 6 => ⟨S167, .i1⟩
  | 7 => ⟨S_, .i32⟩
  | 8 => ⟨S167, .i32⟩
  | 9 => ⟨S167, .i1⟩
  | 10 => ⟨S_, .i32⟩
  | 11 => ⟨S_, .i1⟩
  | 12 => ⟨S167, .i1⟩
  | 13 => ⟨S167, .i1⟩
  | 14 => ⟨S167, .i1⟩
  | 15 => ⟨S167, .i32⟩
  | 16 => ⟨S167, .i32⟩
  | 17 => ⟨S342016x128, .f32⟩
  | _ => ⟨S342016x128, .f32⟩

abbrev hbmTy (i : Nat) : BufTy := match i / 128 with
  | 0 => hbmTy0_0 i
  | 1 => hbmTy0_1 i
  | _ => ⟨S342016x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S2x1024x512, .f32⟩
  | .local _ .vmem, ⟨8, _⟩ => ⟨S2x1024x512, .f32⟩
  | .local _ .vmem, ⟨9, _⟩ => ⟨S2x512x1024, .f32⟩
  | .local _ .smem, ⟨0, _⟩ => ⟨S167, .i32⟩
  | .local _ .smem, ⟨1, _⟩ => ⟨S1, .i32⟩
  | .local _ .smem, ⟨2, _⟩ => ⟨S167, .i32⟩
  | .local _ .smem, ⟨3, _⟩ => ⟨S167, .i32⟩
  | _, _ => ⟨S342016x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_call1_call0_c : Ref sig .tc := ⟨.hbm, 33, rfl⟩
abbrev main_call1_call0_v0 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c : Ref sig .tc := ⟨.hbm, 49, rfl⟩
abbrev main_call2_v6 : Ref sig .tc := ⟨.hbm, 50, rfl⟩
abbrev main_call2_v7 : Ref sig .tc := ⟨.hbm, 51, rfl⟩
abbrev main_call2_c_0 : Ref sig .tc := ⟨.hbm, 52, rfl⟩
abbrev main_call2_v8 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_5 : Ref sig .tc := ⟨.hbm, 61, rfl⟩
abbrev main_v21 : Ref sig .tc := ⟨.hbm, 62, rfl⟩
abbrev main_c_6 : Ref sig .tc := ⟨.hbm, 63, rfl⟩
abbrev main_v22 : Ref sig .tc := ⟨.hbm, 64, rfl⟩
abbrev main_c_7 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_8 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_c_9 : Ref sig .tc := ⟨.hbm, 76, rfl⟩
abbrev main_v32 : Ref sig .tc := ⟨.hbm, 77, rfl⟩
abbrev main_v33 : Ref sig .tc := ⟨.hbm, 78, rfl⟩
abbrev main_call3_v0 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_c_10 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v40 : Ref sig .tc := ⟨.hbm, 89, rfl⟩
abbrev main_c_11 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_12 : Ref sig .tc := ⟨.hbm, 102, rfl⟩
abbrev main_v52 : Ref sig .tc := ⟨.hbm, 103, rfl⟩
abbrev main_c_13 : Ref sig .tc := ⟨.hbm, 104, rfl⟩
abbrev main_v53 : Ref sig .tc := ⟨.hbm, 105, rfl⟩
abbrev main_v54 : Ref sig .tc := ⟨.hbm, 106, rfl⟩
abbrev main_c_14 : Ref sig .tc := ⟨.hbm, 107, rfl⟩
abbrev main_call5_v0 : Ref sig .tc := ⟨.hbm, 108, rfl⟩
abbrev main_call5_v1 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_c_15 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_c_16 : Ref sig .tc := ⟨.hbm, 122, rfl⟩
abbrev main_v67 : Ref sig .tc := ⟨.hbm, 123, rfl⟩
abbrev main_c_17 : Ref sig .tc := ⟨.hbm, 124, rfl⟩
abbrev main_call6_v0 : Ref sig .tc := ⟨.hbm, 125, rfl⟩
abbrev main_call6_c : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_v5 : Ref sig .tc := ⟨.hbm, 133, rfl⟩
abbrev main_call6_v6 : Ref sig .tc := ⟨.hbm, 134, rfl⟩
abbrev main_call6_c_2 : Ref sig .tc := ⟨.hbm, 135, rfl⟩
abbrev main_call6_v7 : Ref sig .tc := ⟨.hbm, 136, rfl⟩
abbrev main_call6_v8 : Ref sig .tc := ⟨.hbm, 137, rfl⟩
abbrev main_call6_c_3 : Ref sig .tc := ⟨.hbm, 138, rfl⟩
abbrev main_call6_v9 : Ref sig .tc := ⟨.hbm, 139, rfl⟩
abbrev main_call6_v10 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_v14 : Ref sig .tc := ⟨.hbm, 144, rfl⟩
abbrev main_v70 : Ref sig .tc := ⟨.hbm, 145, rfl⟩
abbrev main_v34 : Ref sig .tc := ⟨.smem, 0, rfl⟩
abbrev main_v69 : Ref sig .tc := ⟨.smem, 1, rfl⟩
abbrev main_v55 : Ref sig .tc := ⟨.smem, 2, rfl⟩
abbrev main_v68 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![167], ![false]⟩

abbrev pre0 : Pipeline.Prefetch sig := ⟨4, ![main_v34.idx, main_v69.idx, main_v55.idx, main_v68.idx], fun | 0 => main_v34.names | 1 => main_v69.names | 2 => main_v55.names | 3 => main_v68.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v9 : Index := Scalar.indexCast arg0
  ![v9.toNat]
def k0_off2 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_off3 (i : grid0.Coords) : Fin 1 → Nat :=
  let arg0 : BitVec 32 := BitVec.ofNat 32 (i 0).val
  let v61 : Index := Scalar.indexCast arg0
  ![v61.toNat]
def k0_cond3 (i : grid0.Coords) : BitVec 1 :=
  let arg0 : BitVec 32 := BitVec.ofNat 32 (i 0).val
  let c0_i32_41 : BitVec 32 := 0#32
  let v63 : BitVec 1 := Scalar.cmpi .eq arg0 c0_i32_41
  let v64 : BitVec 32 := Scalar.extui v63
  let c0_i32_42 : BitVec 32 := 0#32
  let v65 : BitVec 1 := Scalar.cmpi .ne v64 c0_i32_42
  v65

def k0_off4 (v62 : BitVec 32) : Fin 1 → Nat :=
  ![v62.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v10 : BitVec 32) (v14 : BitVec 32) : BitVec 1 :=
  let arg0 : BitVec 32 := BitVec.ofNat 32 (i 0).val
  let c0_i32_2 : BitVec 32 := 0#32
  let v8 : BitVec 1 := Scalar.cmpi .eq arg0 c0_i32_2
  let v15 : BitVec 1 := Scalar.cmpi .ne v10 v14
  let v16 : BitVec 1 := Scalar.ori v8 v15
  let v17 : BitVec 32 := Scalar.extui v16
  let c0_i32_4 : BitVec 32 := 0#32
  let v18 : BitVec 1 := Scalar.cmpi .ne v17 c0_i32_4
  v18

def k0_off5 (v62 : BitVec 32) : Fin 3 → Nat :=
  let c0_i32_74 : BitVec 32 := 0#32
  let c0_i32_75 : BitVec 32 := 0#32
  ![v62.toNat, 0, 0]
def k0_off6 (v112 : BitVec 32) : Fin 4 → Nat :=
  let c0_i32_73 : BitVec 32 := 0#32
  let c0_i32_76 : BitVec 32 := 0#32
  let c0_i32_77 : BitVec 32 := 0#32
  ![0, v112.toNat, 0, 0]

def k0_off7 (v62 : BitVec 32) : Fin 1 → Nat :=
  ![v62.toNat]
def k0_off8 (v62 : BitVec 32) : Fin 3 → Nat :=
  let c0_i32_79 : BitVec 32 := 0#32
  let c0_i32_80 : BitVec 32 := 0#32
  ![v62.toNat, 0, 0]
def k0_off9 (v62 : BitVec 32) : Fin 3 → Nat :=
  let c0_i32_84 : BitVec 32 := 0#32
  let c0_i32_85 : BitVec 32 := 0#32
  ![v62.toNat, 0, 0]
def k0_off10 (v112 : BitVec 32) : Fin 4 → Nat :=
  let c0_i32_83 : BitVec 32 := 0#32
  let c0_i32_86 : BitVec 32 := 0#32
  let c0_i32_87 : BitVec 32 := 0#32
  ![0, v112.toNat, 0, 0]

def k0_chk2 (i : grid0.Coords) (v0 : BitVec 32) (v10 : BitVec 32) (v14 : BitVec 32) (v112 : BitVec 32) : Prop :=
  (∀ (k0_h1 : k0_cond1 i v0 = 1#1), ∀ (k0_h2 : k0_cond2 i v10 v14 = 1#1), ∀ (k0_h3 : k0_cond3 i = 1#1), ∀ a, (k0_off6 v112) a + S1x1x1024x512.size a ≤ S2x32x1024x512.size a) ∧
  (∀ (k0_h1 : k0_cond1 i v0 = 1#1), ∀ (k0_h2 : k0_cond2 i v10 v14 = 1#1), ∀ (k0_h3 : k0_cond3 i = 1#1), ∀ a, (k0_off10 v112) a + S1x1x512x1024.size a ≤ S2x32x512x1024.size a)
theorem k0_off6_inb : ∀ (i : grid0.Coords) (v0 : BitVec 32) (v10 : BitVec 32) (v14 : BitVec 32) (v112 : BitVec 32) (k0_hw2 : k0_chk2 i v0 v10 v14 v112), ∀ (k0_h1 : k0_cond1 i v0 = 1#1), ∀ (k0_h2 : k0_cond2 i v10 v14 = 1#1), ∀ (k0_h3 : k0_cond3 i = 1#1), ∀ a, (k0_off6 v112) a + S1x1x1024x512.size a ≤ S2x32x1024x512.size a := fun i v0 v10 v14 v112 k0_hw2 k0_h1 k0_h2 k0_h3 => k0_hw2.1 k0_h1 k0_h2 k0_h3
theorem k0_off10_inb : ∀ (i : grid0.Coords) (v0 : BitVec 32) (v10 : BitVec 32) (v14 : BitVec 32) (v112 : BitVec 32) (k0_hw2 : k0_chk2 i v0 v10 v14 v112), ∀ (k0_h1 : k0_cond1 i v0 = 1#1), ∀ (k0_h2 : k0_cond2 i v10 v14 = 1#1), ∀ (k0_h3 : k0_cond3 i = 1#1), ∀ a, (k0_off10 v112) a + S1x1x512x1024.size a ≤ S2x32x512x1024.size a := fun i v0 v10 v14 v112 k0_hw2 k0_h1 k0_h2 k0_h3 => k0_hw2.2 k0_h1 k0_h2 k0_h3

def k0_off11 (i : grid0.Coords) : Fin 1 → Nat :=
  let arg0 : BitVec 32 := BitVec.ofNat 32 (i 0).val
  let v66 : Index := Scalar.indexCast arg0
  ![v66.toNat]
def k0_off12 (v62 : BitVec 32) : Fin 1 → Nat :=
  ![v62.toNat]
def k0_off13 (v62 : BitVec 32) : Fin 3 → Nat :=
  let c0_i32_44 : BitVec 32 := 0#32
  let c0_i32_45 : BitVec 32 := 0#32
  ![v62.toNat, 0, 0]
def k0_off14 (v67 : BitVec 32) : Fin 4 → Nat :=
  let c0_i32_43 : BitVec 32 := 0#32
  let c0_i32_46 : BitVec 32 := 0#32
  let c0_i32_47 : BitVec 32 := 0#32
  ![0, v67.toNat, 0, 0]

def k0_off15 (v62 : BitVec 32) : Fin 1 → Nat :=
  ![v62.toNat]
def k0_off16 (v62 : BitVec 32) : Fin 3 → Nat :=
  let c0_i32_49 : BitVec 32 := 0#32
  let c0_i32_50 : BitVec 32 := 0#32
  ![v62.toNat, 0, 0]
def k0_off17 (v62 : BitVec 32) : Fin 3 → Nat :=
  let c0_i32_54 : BitVec 32 := 0#32
  let c0_i32_55 : BitVec 32 := 0#32
  ![v62.toNat, 0, 0]
def k0_off18 (v67 : BitVec 32) : Fin 4 → Nat :=
  let c0_i32_53 : BitVec 32 := 0#32
  let c0_i32_56 : BitVec 32 := 0#32
  let c0_i32_57 : BitVec 32 := 0#32
  ![0, v67.toNat, 0, 0]

def k0_chk3 (i : grid0.Coords) (v0 : BitVec 32) (v10 : BitVec 32) (v14 : BitVec 32) (v67 : BitVec 32) : Prop :=
  (∀ (k0_h1 : k0_cond1 i v0 = 1#1), ∀ (k0_h2 : k0_cond2 i v10 v14 = 1#1), ∀ a, (k0_off14 v67) a + S1x1x1024x512.size a ≤ S2x32x1024x512.size a) ∧
  (∀ (k0_h1 : k0_cond1 i v0 = 1#1), ∀ (k0_h2 : k0_cond2 i v10 v14 = 1#1), ∀ a, (k0_off18 v67) a + S1x1x512x1024.size a ≤ S2x32x512x1024.size a)
theorem k0_off14_inb : ∀ (i : grid0.Coords) (v0 : BitVec 32) (v10 : BitVec 32) (v14 : BitVec 32) (v67 : BitVec 32) (k0_hw3 : k0_chk3 i v0 v10 v14 v67), ∀ (k0_h1 : k0_cond1 i v0 = 1#1), ∀ (k0_h2 : k0_cond2 i v10 v14 = 1#1), ∀ a, (k0_off14 v67) a + S1x1x1024x512.size a ≤ S2x32x1024x512.size a := fun i v0 v10 v14 v67 k0_hw3 k0_h1 k0_h2 => k0_hw3.1 k0_h1 k0_h2
theorem k0_off18_inb : ∀ (i : grid0.Coords) (v0 : BitVec 32) (v10 : BitVec 32) (v14 : BitVec 32) (v67 : BitVec 32) (k0_hw3 : k0_chk3 i v0 v10 v14 v67), ∀ (k0_h1 : k0_cond1 i v0 = 1#1), ∀ (k0_h2 : k0_cond2 i v10 v14 = 1#1), ∀ a, (k0_off18 v67) a + S1x1x512x1024.size a ≤ S2x32x512x1024.size a := fun i v0 v10 v14 v67 k0_hw3 k0_h1 k0_h2 => k0_hw3.2 k0_h1 k0_h2

def k0_off19 (v62 : BitVec 32) : Fin 3 → Nat :=
  let v86 : Index := Scalar.indexCast v62
  let c0_58 : Index := 0#32
  let c0_59 : Index := 0#32
  ![v86.toNat, 0, 0]
def k0_off20 (v62 : BitVec 32) : Fin 3 → Nat :=
  let v100 : Index := Scalar.indexCast v62
  let c0_66 : Index := 0#32
  let c0_67 : Index := 0#32
  ![v100.toNat, 0, 0]

def k0_chk1 (i : grid0.Coords) (v0 : BitVec 32) (v10 : BitVec 32) (v14 : BitVec 32) (v62 : BitVec 32) : Prop :=
  (∀ (k0_h1 : k0_cond1 i v0 = 1#1), ∀ (k0_h2 : k0_cond2 i v10 v14 = 1#1), ∀ (k0_h3 : k0_cond3 i = 1#1), ∀ a, (k0_off4 v62) a + S1.size a ≤ S2.size a) ∧
  (∀ (k0_h1 : k0_cond1 i v0 = 1#1), ∀ (k0_h2 : k0_cond2 i v10 v14 = 1#1), ∀ (k0_h3 : k0_cond3 i = 1#1), ∀ a, (k0_off5 v62) a + S1x1024x512.size a ≤ S2x1024x512.size a) ∧
  (∀ (k0_h1 : k0_cond1 i v0 = 1#1), ∀ (k0_h2 : k0_cond2 i v10 v14 = 1#1), ∀ (k0_h3 : k0_cond3 i = 1#1), ∀ a, (k0_off7 v62) a + S1.size a ≤ S2.size a) ∧
  (∀ (k0_h1 : k0_cond1 i v0 = 1#1), ∀ (k0_h2 : k0_cond2 i v10 v14 = 1#1), ∀ (k0_h3 : k0_cond3 i = 1#1), ∀ a, (k0_off8 v62) a + S1x1024x512.size a ≤ S2x1024x512.size a) ∧
  (∀ (k0_h1 : k0_cond1 i v0 = 1#1), ∀ (k0_h2 : k0_cond2 i v10 v14 = 1#1), ∀ (k0_h3 : k0_cond3 i = 1#1), ∀ a, (k0_off9 v62) a + S1x512x1024.size a ≤ S2x512x1024.size a) ∧
  (∀ (k0_h1 : k0_cond1 i v0 = 1#1), ∀ (k0_h2 : k0_cond2 i v10 v14 = 1#1), ∀ a, (k0_off12 v62) a + S1.size a ≤ S2.size a) ∧
  (∀ (k0_h1 : k0_cond1 i v0 = 1#1), ∀ (k0_h2 : k0_cond2 i v10 v14 = 1#1), ∀ a, (k0_off13 v62) a + S1x1024x512.size a ≤ S2x1024x512.size a) ∧
  (∀ (k0_h1 : k0_cond1 i v0 = 1#1), ∀ (k0_h2 : k0_cond2 i v10 v14 = 1#1), ∀ a, (k0_off15 v62) a + S1.size a ≤ S2.size a) ∧
  (∀ (k0_h1 : k0_cond1 i v0 = 1#1), ∀ (k0_h2 : k0_cond2 i v10 v14 = 1#1), ∀ a, (k0_off16 v62) a + S1x1024x512.size a ≤ S2x1024x512.size a) ∧
  (∀ (k0_h1 : k0_cond1 i v0 = 1#1), ∀ (k0_h2 : k0_cond2 i v10 v14 = 1#1), ∀ a, (k0_off17 v62) a + S1x512x1024.size a ≤ S2x512x1024.size a) ∧
  (∀ (k0_h1 : k0_cond1 i v0 = 1#1), ∀ (k0_h2 : k0_cond2 i v10 v14 = 1#1), ∀ a, (k0_off19 v62) a + S1x1024x512.size a ≤ S2x1024x512.size a) ∧
  (∀ (k0_h1 : k0_cond1 i v0 = 1#1), ∀ (k0_h2 : k0_cond2 i v10 v14 = 1#1), ∀ a, (k0_off20 v62) a + S1x512x1024.size a ≤ S2x512x1024.size a)
theorem k0_off4_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ (k0_h3 : k0_cond3 i = 1#1), ∀ a, (k0_off4 v62) a + S1.size a ≤ S2.size a := fun i v0 v10 v14 v62 k0_hw1 k0_h1 k0_h2 k0_h3 => k0_hw1.1 k0_h1 k0_h2 k0_h3
theorem k0_off5_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ (k0_h3 : k0_cond3 i = 1#1), ∀ a, (k0_off5 v62) a + S1x1024x512.size a ≤ S2x1024x512.size a := fun i v0 v10 v14 v62 k0_hw1 k0_h1 k0_h2 k0_h3 => k0_hw1.2.1 k0_h1 k0_h2 k0_h3
theorem k0_off7_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ (k0_h3 : k0_cond3 i = 1#1), ∀ a, (k0_off7 v62) a + S1.size a ≤ S2.size a := fun i v0 v10 v14 v62 k0_hw1 k0_h1 k0_h2 k0_h3 => k0_hw1.2.2.1 k0_h1 k0_h2 k0_h3
theorem k0_off8_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ (k0_h3 : k0_cond3 i = 1#1), ∀ a, (k0_off8 v62) a + S1x1024x512.size a ≤ S2x1024x512.size a := fun i v0 v10 v14 v62 k0_hw1 k0_h1 k0_h2 k0_h3 => k0_hw1.2.2.2.1 k0_h1 k0_h2 k0_h3
theorem k0_off9_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ (k0_h3 : k0_cond3 i = 1#1), ∀ a, (k0_off9 v62) a + S1x512x1024.size a ≤ S2x512x1024.size a := fun i v0 v10 v14 v62 k0_hw1 k0_h1 k0_h2 k0_h3 => k0_hw1.2.2.2.2.1 k0_h1 k0_h2 k0_h3
theorem k0_off12_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ a, (k0_off12 v62) a + S1.size a ≤ S2.size a := fun i v0 v10 v14 v62 k0_hw1 k0_h1 k0_h2 => k0_hw1.2.2.2.2.2.1 k0_h1 k0_h2
theorem k0_off13_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ a, (k0_off13 v62) a + S1x1024x512.size a ≤ S2x1024x512.size a := fun i v0 v10 v14 v62 k0_hw1 k0_h1 k0_h2 => k0_hw1.2.2.2.2.2.2.1 k0_h1 k0_h2
theorem k0_off15_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ a, (k0_off15 v62) a + S1.size a ≤ S2.size a := fun i v0 v10 v14 v62 k0_hw1 k0_h1 k0_h2 => k0_hw1.2.2.2.2.2.2.2.1 k0_h1 k0_h2
theorem k0_off16_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ a, (k0_off16 v62) a + S1x1024x512.size a ≤ S2x1024x512.size a := fun i v0 v10 v14 v62 k0_hw1 k0_h1 k0_h2 => k0_hw1.2.2.2.2.2.2.2.2.1 k0_h1 k0_h2
theorem k0_off17_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ a, (k0_off17 v62) a + S1x512x1024.size a ≤ S2x512x1024.size a := fun i v0 v10 v14 v62 k0_hw1 k0_h1 k0_h2 => k0_hw1.2.2.2.2.2.2.2.2.2.1 k0_h1 k0_h2
theorem k0_off19_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ a, (k0_off19 v62) a + S1x1024x512.size a ≤ S2x1024x512.size a := fun i v0 v10 v14 v62 k0_hw1 k0_h1 k0_h2 => k0_hw1.2.2.2.2.2.2.2.2.2.2.1 k0_h1 k0_h2
theorem k0_off20_inb : ∀ (i : grid0.Coords) (v0 : BitVec 32) (v10 : BitVec 32) (v14 : BitVec 32) (v62 : BitVec 32) (k0_hw1 : k0_chk1 i v0 v10 v14 v62), ∀ (k0_h1 : k0_cond1 i v0 = 1#1), ∀ (k0_h2 : k0_cond2 i v10 v14 = 1#1), ∀ a, (k0_off20 v62) a + S1x512x1024.size a ≤ S2x512x1024.size a := fun i v0 v10 v14 v62 k0_hw1 k0_h1 k0_h2 => k0_hw1.2.2.2.2.2.2.2.2.2.2.2 k0_h1 k0_h2

def k0_off21 (i : grid0.Coords) : Fin 1 → Nat :=
  let arg0 : BitVec 32 := BitVec.ofNat 32 (i 0).val
  let v107 : Index := Scalar.indexCast arg0
  ![v107.toNat]
def k0_off22 (i : grid0.Coords) : Fin 1 → Nat :=
  let arg0 : BitVec 32 := BitVec.ofNat 32 (i 0).val
  let v112 : Index := Scalar.indexCast arg0
  ![v112.toNat]
def k0_off23 (v62 : BitVec 32) : Fin 1 → Nat :=
  let c1_i32_72 : BitVec 32 := 1#32
  let v114 : BitVec 32 := Scalar.subi c1_i32_72 v62
  ![v114.toNat]
def k0_cond4 (v108 : BitVec 32) : BitVec 1 :=
  let c0_i32_70 : BitVec 32 := 0#32
  let v109 : BitVec 1 := Scalar.cmpi .sge v108 c0_i32_70
  let v110 : BitVec 32 := Scalar.extui v109
  let c0_i32_71 : BitVec 32 := 0#32
  let v111 : BitVec 1 := Scalar.cmpi .ne v110 c0_i32_71
  v111

def k0_off24 (v62 : BitVec 32) : Fin 3 → Nat :=
  let c1_i32_72 : BitVec 32 := 1#32
  let v114 : BitVec 32 := Scalar.subi c1_i32_72 v62
  let c0_i32_74 : BitVec 32 := 0#32
  let c0_i32_75 : BitVec 32 := 0#32
  ![v114.toNat, 0, 0]
def k0_off25 (v113 : BitVec 32) : Fin 4 → Nat :=
  let c0_i32_73 : BitVec 32 := 0#32
  let c0_i32_76 : BitVec 32 := 0#32
  let c0_i32_77 : BitVec 32 := 0#32
  ![0, v113.toNat, 0, 0]

def k0_off26 (v62 : BitVec 32) : Fin 1 → Nat :=
  let c1_i32_72 : BitVec 32 := 1#32
  let v114 : BitVec 32 := Scalar.subi c1_i32_72 v62
  ![v114.toNat]
def k0_off27 (v62 : BitVec 32) : Fin 3 → Nat :=
  let c1_i32_72 : BitVec 32 := 1#32
  let v114 : BitVec 32 := Scalar.subi c1_i32_72 v62
  let c0_i32_79 : BitVec 32 := 0#32
  let c0_i32_80 : BitVec 32 := 0#32
  ![v114.toNat, 0, 0]
def k0_off28 (v62 : BitVec 32) : Fin 3 → Nat :=
  let c1_i32_72 : BitVec 32 := 1#32
  let v114 : BitVec 32 := Scalar.subi c1_i32_72 v62
  let c0_i32_84 : BitVec 32 := 0#32
  let c0_i32_85 : BitVec 32 := 0#32
  ![v114.toNat, 0, 0]

def k0_chk4 (i : grid0.Coords) (v0 : BitVec 32) (v10 : BitVec 32) (v14 : BitVec 32) (v62 : BitVec 32) (v108 : BitVec 32) : Prop :=
  (∀ (k0_h1 : k0_cond1 i v0 = 1#1), ∀ (k0_h2 : k0_cond2 i v10 v14 = 1#1), ∀ (k0_h4 : k0_cond4 v108 = 1#1), ∀ a, (k0_off23 v62) a + S1.size a ≤ S2.size a) ∧
  (∀ (k0_h1 : k0_cond1 i v0 = 1#1), ∀ (k0_h2 : k0_cond2 i v10 v14 = 1#1), ∀ (k0_h4 : k0_cond4 v108 = 1#1), ∀ a, (k0_off24 v62) a + S1x1024x512.size a ≤ S2x1024x512.size a) ∧
  (∀ (k0_h1 : k0_cond1 i v0 = 1#1), ∀ (k0_h2 : k0_cond2 i v10 v14 = 1#1), ∀ (k0_h4 : k0_cond4 v108 = 1#1), ∀ a, (k0_off26 v62) a + S1.size a ≤ S2.size a) ∧
  (∀ (k0_h1 : k0_cond1 i v0 = 1#1), ∀ (k0_h2 : k0_cond2 i v10 v14 = 1#1), ∀ (k0_h4 : k0_cond4 v108 = 1#1), ∀ a, (k0_off27 v62) a + S1x1024x512.size a ≤ S2x1024x512.size a) ∧
  (∀ (k0_h1 : k0_cond1 i v0 = 1#1), ∀ (k0_h2 : k0_cond2 i v10 v14 = 1#1), ∀ (k0_h4 : k0_cond4 v108 = 1#1), ∀ a, (k0_off28 v62) a + S1x512x1024.size a ≤ S2x512x1024.size a)
theorem k0_off23_inb : ∀ (i : grid0.Coords) (v0 : BitVec 32) (v10 : BitVec 32) (v14 : BitVec 32) (v62 : BitVec 32) (v108 : BitVec 32) (k0_hw4 : k0_chk4 i v0 v10 v14 v62 v108), ∀ (k0_h1 : k0_cond1 i v0 = 1#1), ∀ (k0_h2 : k0_cond2 i v10 v14 = 1#1), ∀ (k0_h4 : k0_cond4 v108 = 1#1), ∀ a, (k0_off23 v62) a + S1.size a ≤ S2.size a := fun i v0 v10 v14 v62 v108 k0_hw4 k0_h1 k0_h2 k0_h4 => k0_hw4.1 k0_h1 k0_h2 k0_h4
theorem k0_off24_inb : ∀ (i : grid0.Coords) (v0 : BitVec 32) (v10 : BitVec 32) (v14 : BitVec 32) (v62 : BitVec 32) (v108 : BitVec 32) (k0_hw4 : k0_chk4 i v0 v10 v14 v62 v108), ∀ (k0_h1 : k0_cond1 i v0 = 1#1), ∀ (k0_h2 : k0_cond2 i v10 v14 = 1#1), ∀ (k0_h4 : k0_cond4 v108 = 1#1), ∀ a, (k0_off24 v62) a + S1x1024x512.size a ≤ S2x1024x512.size a := fun i v0 v10 v14 v62 v108 k0_hw4 k0_h1 k0_h2 k0_h4 => k0_hw4.2.1 k0_h1 k0_h2 k0_h4
theorem k0_off26_inb : ∀ (i : grid0.Coords) (v0 : BitVec 32) (v10 : BitVec 32) (v14 : BitVec 32) (v62 : BitVec 32) (v108 : BitVec 32) (k0_hw4 : k0_chk4 i v0 v10 v14 v62 v108), ∀ (k0_h1 : k0_cond1 i v0 = 1#1), ∀ (k0_h2 : k0_cond2 i v10 v14 = 1#1), ∀ (k0_h4 : k0_cond4 v108 = 1#1), ∀ a, (k0_off26 v62) a + S1.size a ≤ S2.size a := fun i v0 v10 v14 v62 v108 k0_hw4 k0_h1 k0_h2 k0_h4 => k0_hw4.2.2.1 k0_h1 k0_h2 k0_h4
theorem k0_off27_inb : ∀ (i : grid0.Coords) (v0 : BitVec 32) (v10 : BitVec 32) (v14 : BitVec 32) (v62 : BitVec 32) (v108 : BitVec 32) (k0_hw4 : k0_chk4 i v0 v10 v14 v62 v108), ∀ (k0_h1 : k0_cond1 i v0 = 1#1), ∀ (k0_h2 : k0_cond2 i v10 v14 = 1#1), ∀ (k0_h4 : k0_cond4 v108 = 1#1), ∀ a, (k0_off27 v62) a + S1x1024x512.size a ≤ S2x1024x512.size a := fun i v0 v10 v14 v62 v108 k0_hw4 k0_h1 k0_h2 k0_h4 => k0_hw4.2.2.2.1 k0_h1 k0_h2 k0_h4
theorem k0_off28_inb : ∀ (i : grid0.Coords) (v0 : BitVec 32) (v10 : BitVec 32) (v14 : BitVec 32) (v62 : BitVec 32) (v108 : BitVec 32) (k0_hw4 : k0_chk4 i v0 v10 v14 v62 v108), ∀ (k0_h1 : k0_cond1 i v0 = 1#1), ∀ (k0_h2 : k0_cond2 i v10 v14 = 1#1), ∀ (k0_h4 : k0_cond4 v108 = 1#1), ∀ a, (k0_off28 v62) a + S1x512x1024.size a ≤ S2x512x1024.size a := fun i v0 v10 v14 v62 v108 k0_hw4 k0_h1 k0_h2 k0_h4 => k0_hw4.2.2.2.2 k0_h1 k0_h2 k0_h4

def k0_off29 (v113 : BitVec 32) : Fin 4 → Nat :=
  let c0_i32_83 : BitVec 32 := 0#32
  let c0_i32_86 : BitVec 32 := 0#32
  let c0_i32_87 : BitVec 32 := 0#32
  ![0, v113.toNat, 0, 0]

def k0_chk5 (i : grid0.Coords) (v0 : BitVec 32) (v10 : BitVec 32) (v14 : BitVec 32) (v108 : BitVec 32) (v113 : BitVec 32) : Prop :=
  (∀ (k0_h1 : k0_cond1 i v0 = 1#1), ∀ (k0_h2 : k0_cond2 i v10 v14 = 1#1), ∀ (k0_h4 : k0_cond4 v108 = 1#1), ∀ a, (k0_off25 v113) a + S1x1x1024x512.size a ≤ S2x32x1024x512.size a) ∧
  (∀ (k0_h1 : k0_cond1 i v0 = 1#1), ∀ (k0_h2 : k0_cond2 i v10 v14 = 1#1), ∀ (k0_h4 : k0_cond4 v108 = 1#1), ∀ a, (k0_off29 v113) a + S1x1x512x1024.size a ≤ S2x32x512x1024.size a)
theorem k0_off25_inb : ∀ (i : grid0.Coords) (v0 : BitVec 32) (v10 : BitVec 32) (v14 : BitVec 32) (v108 : BitVec 32) (v113 : BitVec 32) (k0_hw5 : k0_chk5 i v0 v10 v14 v108 v113), ∀ (k0_h1 : k0_cond1 i v0 = 1#1), ∀ (k0_h2 : k0_cond2 i v10 v14 = 1#1), ∀ (k0_h4 : k0_cond4 v108 = 1#1), ∀ a, (k0_off25 v113) a + S1x1x1024x512.size a ≤ S2x32x1024x512.size a := fun i v0 v10 v14 v108 v113 k0_hw5 k0_h1 k0_h2 k0_h4 => k0_hw5.1 k0_h1 k0_h2 k0_h4
theorem k0_off29_inb : ∀ (i : grid0.Coords) (v0 : BitVec 32) (v10 : BitVec 32) (v14 : BitVec 32) (v108 : BitVec 32) (v113 : BitVec 32) (k0_hw5 : k0_chk5 i v0 v10 v14 v108 v113), ∀ (k0_h1 : k0_cond1 i v0 = 1#1), ∀ (k0_h2 : k0_cond2 i v10 v14 = 1#1), ∀ (k0_h4 : k0_cond4 v108 = 1#1), ∀ a, (k0_off29 v113) a + S1x1x512x1024.size a ≤ S2x32x512x1024.size a := fun i v0 v10 v14 v108 v113 k0_hw5 k0_h1 k0_h2 k0_h4 => k0_hw5.2 k0_h1 k0_h2 k0_h4

def k0_cond5 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S342016x128 : Shape := ⟨2, ![342016, 128]⟩
abbrev S32 : Shape := ⟨1, ![32]⟩
abbrev S2x32x1024x512 : Shape := ⟨4, ![2, 32, 1024, 512]⟩
abbrev S2x32x512x1024 : Shape := ⟨4, ![2, 32, 512, 1024]⟩
abbrev S42752x1024 : Shape := ⟨2, ![42752, 1024]⟩
abbrev S_ : Shape := ⟨0, ![]⟩
abbrev S42752 : Shape := ⟨1, ![42752]⟩
abbrev S42752x1 : Shape := ⟨2, ![42752, 1]⟩
abbrev S1x32 : Shape := ⟨2, ![1, 32]⟩
abbrev S42752x32 : Shape := ⟨2, ![42752, 32]⟩
abbrev S1x32x1024x512 : Shape := ⟨4, ![1, 32, 1024, 512]⟩
abbrev S32x1024x512 : Shape := ⟨3, ![32, 1024, 512]⟩
abbrev S1x32x512x1024 : Shape := ⟨4, ![1, 32, 512, 1024]⟩
abbrev S32x512x1024 : Shape := ⟨3, ![32, 512, 1024]⟩
abbrev S32x42752 : Shape := ⟨2, ![32, 42752]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x42752 : Shape := ⟨2, ![1, 42752]⟩
abbrev S42752x512 : Shape := ⟨2, ![42752, 512]⟩

abbrev nBuf : Space → Nat
  | .hbm => 101
  | .vmem => 0
  | .smem => 0
  | _ => 0

abbrev bufTy : (tb : Table) → Fin (tcTables nBuf tb) → BufTy
  | .hbm, ⟨0, _⟩ => ⟨S342016x128, .f32⟩
  | .hbm, ⟨1, _⟩ => ⟨S32, .i32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S42752x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S42752, .i32⟩
  | .hbm, ⟨34, _⟩ => ⟨S42752x1, .i32⟩
  | .hbm, ⟨35, _⟩ => ⟨S32, .i32⟩
  | .hbm, ⟨36, _⟩ => ⟨S1x32, .i32⟩
  | .hbm, ⟨37, _⟩ => ⟨S42752x32, .i32⟩
  | .hbm, ⟨38, _⟩ => ⟨S42752x32, .i32⟩
  | .hbm, ⟨39, _⟩ => ⟨S42752x32, .i1⟩
  | .hbm, ⟨40, _⟩ => ⟨S42752x1, .i32⟩
  | .hbm, ⟨41, _⟩ => ⟨S1x32, .i32⟩
  | .hbm, ⟨42, _⟩ => ⟨S42752x32, .i32⟩
  | .hbm, ⟨43, _⟩ => ⟨S42752x32, .i32⟩
  | .hbm, ⟨44, _⟩ => ⟨S42752x32, .i1⟩
  | .hbm, ⟨45, _⟩ => ⟨S42752x32, .i1⟩
  | .hbm, ⟨46, _⟩ => ⟨S42752x32, .f32⟩
  | .hbm, ⟨47, _⟩ => ⟨S_, .f32⟩
  | .hbm, ⟨48, _⟩ => ⟨S42752x1024, .f32⟩
  | .hbm, ⟨49, _⟩ => ⟨S1x32x1024x512, .f32⟩
  | .hbm, ⟨50, _⟩ => ⟨S32x1024x512, .f32⟩
  | .hbm, ⟨51, _⟩ => ⟨S1x32x1024x512, .f32⟩
  | .hbm, ⟨52, _⟩ => ⟨S32x1024x512, .f32⟩
  | .hbm, ⟨53, _⟩ => ⟨S1x32x512x1024, .f32⟩
  | .hbm, ⟨54, _⟩ => ⟨S32x512x1024, .f32⟩
  | .hbm, ⟨55, _⟩ => ⟨S32x42752, .f32⟩
  | .hbm, ⟨56, _⟩ => ⟨S_, .i32⟩
  | .hbm, ⟨57, _⟩ => ⟨S32x1024x512, .f32⟩
  | .hbm, ⟨58, _⟩ => ⟨S32x1024x512, .f32⟩
  | .hbm, ⟨59, _⟩ => ⟨S32x512x1024, .f32⟩
  | .hbm, ⟨60, _⟩ => ⟨S32x42752, .f32⟩
  | .hbm, ⟨61, _⟩ => ⟨S42752x1024, .f32⟩
  | .hbm, ⟨62, _⟩ => ⟨S_, .i32⟩
  | .hbm, ⟨63, _⟩ => ⟨S42752x1024, .f32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S1x1024x512, .f32⟩
  | .hbm, ⟨69, _⟩ => ⟨S1024x512, .f32⟩
  | .hbm, ⟨70, _⟩ => ⟨S_, .i32⟩
  | .hbm, ⟨71, _⟩ => ⟨S_, .i32⟩
  | .hbm, ⟨72, _⟩ => ⟨S1x1024x512, .f32⟩
  | .hbm, ⟨73, _⟩ => ⟨S1024x512, .f32⟩
  | .hbm, ⟨74, _⟩ => ⟨S_, .i32⟩
  | .hbm, ⟨75, _⟩ => ⟨S_, .i32⟩
  | .hbm, ⟨76, _⟩ => ⟨S1x512x1024, .f32⟩
  | .hbm, ⟨77, _⟩ => ⟨S512x1024, .f32⟩
  | .hbm, ⟨78, _⟩ => ⟨S_, .i32⟩
  | .hbm, ⟨79, _⟩ => ⟨S1x42752, .f32⟩
  | .hbm, ⟨80, _⟩ => ⟨S42752, .f32⟩
  | .hbm, ⟨81, _⟩ => ⟨S42752x512, .f32⟩
  | .hbm, ⟨82, _⟩ => ⟨S42752x512, .f32⟩
  | .hbm, ⟨83, _⟩ => ⟨S42752x512, .f32⟩
  | .hbm, ⟨84, _⟩ => ⟨S_, .f32⟩
  | .hbm, ⟨85, _⟩ => ⟨S42752x512, .f32⟩
  | .hbm, ⟨86, _⟩ => ⟨S42752x512, .f32⟩
  | .hbm, ⟨87, _⟩ => ⟨S_, .f32⟩
  | .hbm, ⟨88, _⟩ => ⟨S42752x512, .f32⟩
  | .hbm, ⟨89, _⟩ => ⟨S42752x512, .f32⟩
  | .hbm, ⟨90, _⟩ => ⟨S42752x512, .f32⟩
  | .hbm, ⟨91, _⟩ => ⟨S42752x512, .f32⟩
  | .hbm, ⟨92, _⟩ => ⟨S42752x512, .f32⟩
  | .hbm, ⟨93, _⟩ => ⟨S42752x1024, .f32⟩
  | .hbm, ⟨94, _⟩ => ⟨S42752x1, .f32⟩
  | .hbm, ⟨95, _⟩ => ⟨S42752x1024, .f32⟩
  | .hbm, ⟨96, _⟩ => ⟨S42752x1024, .f32⟩
  | .hbm, ⟨97, _⟩ => ⟨S42752x1024, .f32⟩
  | .hbm, ⟨98, _⟩ => ⟨S_, .i32⟩
  | .hbm, ⟨99, _⟩ => ⟨S_, .i32⟩
  | .hbm, ⟨100, _⟩ => ⟨S342016x128, .f32⟩
  | _, _ => ⟨S342016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_call1_call0_c : Ref sig .tc := ⟨.hbm, 30, rfl⟩
abbrev main_call1_call0_v0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_2 : Ref sig .tc := ⟨.hbm, 56, rfl⟩
abbrev main_v29_0 : Ref sig .tc := ⟨.hbm, 57, rfl⟩
abbrev main_v29_1 : Ref sig .tc := ⟨.hbm, 58, rfl⟩
abbrev main_v29_2 : Ref sig .tc := ⟨.hbm, 59, rfl⟩
abbrev main_v29_3 : Ref sig .tc := ⟨.hbm, 60, rfl⟩
abbrev main_v29_4 : Ref sig .tc := ⟨.hbm, 61, rfl⟩
abbrev main_v29_5 : Ref sig .tc := ⟨.hbm, 62, rfl⟩
abbrev main_v29_6 : Ref sig .tc := ⟨.hbm, 63, rfl⟩
abbrev main_while0c_c_9 : Ref sig .tc := ⟨.hbm, 64, rfl⟩
abbrev main_while0c_v31 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_v0 : Ref sig .tc := ⟨.hbm, 68, rfl⟩
abbrev main_while0b_v31 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_v0 : Ref sig .tc := ⟨.hbm, 72, rfl⟩
abbrev main_while0b_v32 : Ref sig .tc := ⟨.hbm, 73, rfl⟩
abbrev main_while0b_call4_c : Ref sig .tc := ⟨.hbm, 74, rfl⟩
abbrev main_while0b_call4_c_0 : Ref sig .tc := ⟨.hbm, 75, rfl⟩
abbrev main_while0b_call4_v0 : Ref sig .tc := ⟨.hbm, 76, rfl⟩
abbrev main_while0b_v33 : Ref sig .tc := ⟨.hbm, 77, rfl⟩
abbrev main_while0b_call5_c : Ref sig .tc := ⟨.hbm, 78, rfl⟩
abbrev main_while0b_call5_v0 : Ref sig .tc := ⟨.hbm, 79, rfl⟩
abbrev main_while0b_v34 : Ref sig .tc := ⟨.hbm, 80, rfl⟩
abbrev main_while0b_v35 : Ref sig .tc := ⟨.hbm, 81, rfl⟩
abbrev main_while0b_call6_v0 : Ref sig .tc := ⟨.hbm, 82, rfl⟩
abbrev main_while0b_call6_v1 : Ref sig .tc := ⟨.hbm, 83, rfl⟩
abbrev main_while0b_call6_cst : Ref sig .tc := ⟨.hbm, 84, rfl⟩
abbrev main_while0b_call6_v2 : Ref sig .tc := ⟨.hbm, 85, rfl⟩
abbrev main_while0b_call6_v3 : Ref sig .tc := ⟨.hbm, 86, rfl⟩
abbrev main_while0b_call6_cst_0 : Ref sig .tc := ⟨.hbm, 87, rfl⟩
abbrev main_while0b_call6_v4 : Ref sig .tc := ⟨.hbm, 88, rfl⟩
abbrev main_while0b_call6_v5 : Ref sig .tc := ⟨.hbm, 89, rfl⟩
abbrev main_while0b_v36 : Ref sig .tc := ⟨.hbm, 90, rfl⟩
abbrev main_while0b_v37 : Ref sig .tc := ⟨.hbm, 91, rfl⟩
abbrev main_while0b_v38 : Ref sig .tc := ⟨.hbm, 92, rfl⟩
abbrev main_while0b_v39 : Ref sig .tc := ⟨.hbm, 93, rfl⟩
abbrev main_while0b_v40 : Ref sig .tc := ⟨.hbm, 94, rfl⟩
abbrev main_while0b_v41 : Ref sig .tc := ⟨.hbm, 95, rfl⟩
abbrev main_while0b_v42 : Ref sig .tc := ⟨.hbm, 96, rfl⟩
abbrev main_while0b_v43 : Ref sig .tc := ⟨.hbm, 97, rfl⟩
abbrev main_while0b_c_9 : Ref sig .tc := ⟨.hbm, 98, rfl⟩
abbrev main_while0b_v44 : Ref sig .tc := ⟨.hbm, 99, rfl⟩
abbrev main_v30 : Ref sig .tc := ⟨.hbm, 100, rfl⟩

abbrev nD : Nat := 1
abbrev τ : Topo := Topo.v7x

variable {F : FTy → Type} [FloatOps F]

abbrev main_while0_count : Scf.Loop 32 := ⟨0#32, 32#32, 1#32⟩
-- ==== Proof.Ends.lean ====
/-
  Hand-written, untrusted. The operands of the experts' body and the ends of its own transfers: an expert's
  three weight matrices in HBM, the two slots of the three landing buffers, and the batch of three copies that
  is in flight from one grid point to a later one.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the transfers' counters. -/
abbrev RM (F : FTy → Type) [FloatOps F] := MT nD τ sig Unit (Elt F) ℕ (Pipeline.UD sig nD τ) ℕ

/-- The tables in SMEM: the tiles' experts, the number of tiles in use, the next expert, the slot. -/
abbrev tbE : Memref sig .tc .smem S167 .i32 := Memref.whole main_v34
abbrev tbN : Memref sig .tc .smem S1 .i32 := Memref.whole main_v69
abbrev tbX : Memref sig .tc .smem S167 .i32 := Memref.whole main_v55
abbrev tbP : Memref sig .tc .smem S167 .i32 := Memref.whole main_v68
/-- The weights in HBM. -/
abbrev hbA : Memref sig .tc .hbm S2x32x1024x512 .f32 := Memref.whole main_arg2
abbrev hbB : Memref sig .tc .hbm S2x32x1024x512 .f32 := Memref.whole main_arg3
abbrev hbC : Memref sig .tc .hbm S2x32x512x1024 .f32 := Memref.whole main_arg4
/-- The current expert's weights at 16 bits. -/
abbrev scA : Memref sig .tc .vmem S1024x512 .bf16 := Memref.whole cc0_scratch0
abbrev scB : Memref sig .tc .vmem S1024x512 .bf16 := Memref.whole cc0_scratch1
abbrev scC : Memref sig .tc .vmem S512x1024 .bf16 := Memref.whole cc0_scratch2
/-- The landing buffers, two slots each. -/
abbrev lnA : Memref sig .tc .vmem S2x1024x512 .f32 := Memref.whole cc0_scratch3
abbrev lnB : Memref sig .tc .vmem S2x1024x512 .f32 := Memref.whole cc0_scratch4
abbrev lnC : Memref sig .tc .vmem S2x512x1024 .f32 := Memref.whole cc0_scratch5

/-- A buffer's contents, of a memref. -/
abbrev BufOf (F : FTy → Type) [FloatOps F] (c : Dev nD) {sp : Space} {S : Shape} {e : EltTy} (M : Memref sig .tc sp S e) : Type := Buf (Elt F) (M.view.loc (c : Thread nD τ))

/-- An expert's matrix of layer 0, as the copies name it. -/
abbrev srcAB (M : Memref sig .tc .hbm S2x32x1024x512 .f32) (e : BitVec 32) (h : ∀ a, (![0, e.toNat, 0, 0] : Fin 4 → ℕ) a + S1x1x1024x512.size a ≤ S2x32x1024x512.size a) :
    Memref sig .tc .hbm S1024x512 .f32 :=
  (M.slice (Rect.unit (s := S2x32x1024x512) ![0, e.toNat, 0, 0] S1x1x1024x512.size h) (fun _ => rfl)).squeeze S1024x512 squeezes_S1x1x1024x512_S1024x512
abbrev srcC (M : Memref sig .tc .hbm S2x32x512x1024 .f32) (e : BitVec 32) (h : ∀ a, (![0, e.toNat, 0, 0] : Fin 4 → ℕ) a + S1x1x512x1024.size a ≤ S2x32x512x1024.size a) :
    Memref sig .tc .hbm S512x1024 .f32 :=
  (M.slice (Rect.unit (s := S2x32x512x1024) ![0, e.toNat, 0, 0] S1x1x512x1024.size h) (fun _ => rfl)).squeeze S512x1024 squeezes_S1x1x512x1024_S512x1024
/-- A slot of a landing buffer, as the copies name it. -/
abbrev sltAB (M : Memref sig .tc .vmem S2x1024x512 .f32) (k : ℕ) (h : ∀ a, (![k, 0, 0] : Fin 3 → ℕ) a + S1x1024x512.size a ≤ S2x1024x512.size a) :
    Memref sig .tc .vmem S1024x512 .f32 :=
  (M.slice (Rect.unit (s := S2x1024x512) ![k, 0, 0] S1x1024x512.size h) (fun _ => rfl)).squeeze S1024x512 squeezes_S1x1024x512_S1024x512
abbrev sltC (M : Memref sig .tc .vmem S2x512x1024 .f32) (k : ℕ) (h : ∀ a, (![k, 0, 0] : Fin 3 → ℕ) a + S1x512x1024.size a ≤ S2x512x1024.size a) :
    Memref sig .tc .vmem S512x1024 .f32 :=
  (M.slice (Rect.unit (s := S2x512x1024) ![k, 0, 0] S1x512x1024.size h) (fun _ => rfl)).squeeze S512x1024 squeezes_S1x512x1024_S512x1024

theorem inA (k : ℕ) (hk : k < 2) : ∀ a, (![k, 0, 0] : Fin 3 → ℕ) a + S1x1024x512.size a ≤ S2x1024x512.size a := by
  intro a; fin_cases a <;> simp [S1x1024x512, S2x1024x512] <;> omega
theorem inC (k : ℕ) (hk : k < 2) : ∀ a, (![k, 0, 0] : Fin 3 → ℕ) a + S1x512x1024.size a ≤ S2x512x1024.size a := by
  intro a; fin_cases a <;> simp [S1x512x1024, S2x512x1024] <;> omega
theorem inWA (e : BitVec 32) (he : e.toNat < 32) : ∀ a, (![0, e.toNat, 0, 0] : Fin 4 → ℕ) a + S1x1x1024x512.size a ≤ S2x32x1024x512.size a := by
  intro a; fin_cases a <;> simp [S1x1x1024x512, S2x32x1024x512] <;> omega
theorem inWC (e : BitVec 32) (he : e.toNat < 32) : ∀ a, (![0, e.toNat, 0, 0] : Fin 4 → ℕ) a + S1x1x512x1024.size a ≤ S2x32x512x1024.size a := by
  intro a; fin_cases a <;> simp [S1x1x512x1024, S2x32x512x1024] <;> omega

/-- What a landing buffer holds after an expert's matrix has landed in slot `k` over the contents `f`. -/
abbrev landAB (c : Dev nD) (rs : Memref sig .tc .hbm S2x32x1024x512 .f32) (e : BitVec 32) (he : e.toNat < 32)
    (rd : Memref sig .tc .vmem S2x1024x512 .f32) (k : ℕ) (hk : k < 2) (fs : BufOf F c rs) (fd : BufOf F c rd) : BufOf F c rd :=
  View.write (Elt F) (sltAB rd k (inA k hk)).view fd (ReadAs.same.apply ((srcAB rs e (inWA e he)).view.read (Elt F) fs)) Finset.univ
abbrev landC (c : Dev nD) (rs : Memref sig .tc .hbm S2x32x512x1024 .f32) (e : BitVec 32) (he : e.toNat < 32)
    (rd : Memref sig .tc .vmem S2x512x1024 .f32) (k : ℕ) (hk : k < 2) (fs : BufOf F c rs) (fd : BufOf F c rd) : BufOf F c rd :=
  View.write (Elt F) (sltC rd k (inC k hk)).view fd (ReadAs.same.apply ((srcC rs e (inWC e he)).view.read (Elt F) fs)) Finset.univ

/-- One copy's delivery: the landing buffer whole at the landed contents, the expert's matrix back. -/
abbrev dlvAB (c : Dev nD) (rs : Memref sig .tc .hbm S2x32x1024x512 .f32) (e : BitVec 32) (he : e.toNat < 32)
    (rd : Memref sig .tc .vmem S2x1024x512 .f32) (k : ℕ) (hk : k < 2) (fs : BufOf F c rs) (fd : BufOf F c rd) : sProp (RM F) :=
  iprop((rd.view.loc (c : Thread nD τ) ↦[rd.view.set]{fullShare} landAB c rs e he rd k hk fs fd)
    ∗ (rs.view.loc (c : Thread nD τ) ↦[(srcAB rs e (inWA e he)).view.set]{fullShare} fs))
abbrev dlvC (c : Dev nD) (rs : Memref sig .tc .hbm S2x32x512x1024 .f32) (e : BitVec 32) (he : e.toNat < 32)
    (rd : Memref sig .tc .vmem S2x512x1024 .f32) (k : ℕ) (hk : k < 2) (fs : BufOf F c rs) (fd : BufOf F c rd) : sProp (RM F) :=
  iprop((rd.view.loc (c : Thread nD τ) ↦[rd.view.set]{fullShare} landC c rs e he rd k hk fs fd)
    ∗ (rs.view.loc (c : Thread nD τ) ↦[(srcC rs e (inWC e he)).view.set]{fullShare} fs))

/-- The three deliveries of an expert's batch. -/
def deliv (c : Dev nD) (e : BitVec 32) (he : e.toNat < 32) (k : ℕ) (hk : k < 2)
    (w1 : BufOf F c hbA) (w3 : BufOf F c hbB) (w2 : BufOf F c hbC)
    (fA : BufOf F c lnA) (fB : BufOf F c lnB) (fC : BufOf F c lnC) : Fin 3 → sProp (RM F)
  | 0 => dlvAB c hbA e he lnA k hk w1 fA
  | 1 => dlvAB c hbB e he lnB k hk w3 fB
  | 2 => dlvC c hbC e he lnC k hk w2 fC
instance deliv_storable (c : Dev nD) (e : BitVec 32) (he : e.toNat < 32) (k : ℕ) (hk : k < 2)
    (w1 : BufOf F c hbA) (w3 : BufOf F c hbB) (w2 : BufOf F c hbC)
    (fA : BufOf F c lnA) (fB : BufOf F c lnB) (fC : BufOf F c lnC) (t : Fin 3) :
    Storable (upEmb : UEmb _ (RM F)) (deliv c e he k hk w1 w3 w2 fA fB fC t) := by
  fin_cases t <;> simp only [deliv] <;> infer_instance

/-- The word a scalar load reads out of a table's contents. -/
abbrev wd (M : Memref sig .tc .smem S167 .i32) (off : Fin 1 → ℕ) (h : ∀ a, off a + S1.size a ≤ S167.size a)
    {c : Dev nD} (T : BufOf F c M) : BitVec 32 :=
  View.readAt (Elt F) M.view (Rect.unit (s := S167) off S1.size h).toLoadRect T (Shape.Idx.first (numel1_S1.symm ▸ Nat.one_pos))
abbrev wdN {c : Dev nD} (T : BufOf F c tbN) : BitVec 32 :=
  View.readAt (Elt F) tbN.view (Rect.unit (s := S1) ![0] S1.size inb_S1_S1_0).toLoadRect T (Shape.Idx.first (numel1_S1.symm ▸ Nat.one_pos))

/-- The amount of every copy. -/
abbrev NB : ℕ := (sltAB lnA 0 (inA 0 (by omega))).view.amount (SemLoc.dma (sig := sig) (4 : Fin 6))

/-- The tables, each at the half share the body is lent. -/
def tabs (c : Dev nD) (TN : BufOf F c tbN) (TE : BufOf F c tbE) (TX : BufOf F c tbX) (TP : BufOf F c tbP) : sProp (RM F) :=
  iprop((tbN.view.loc (c : Thread nD τ) ↦{fullShare.right} TN) ∗ (tbE.view.loc (c : Thread nD τ) ↦{fullShare.right} TE)
    ∗ (tbX.view.loc (c : Thread nD τ) ↦{fullShare.right} TX) ∗ (tbP.view.loc (c : Thread nD τ) ↦{fullShare.right} TP))
/-- The landing buffers. -/
def lands (c : Dev nD) (fA : BufOf F c lnA) (fB : BufOf F c lnB) (fC : BufOf F c lnC) : sProp (RM F) :=
  iprop((lnA.view.loc (c : Thread nD τ) ↦[lnA.view.set]{fullShare} fA) ∗ (lnB.view.loc (c : Thread nD τ) ↦[lnB.view.set]{fullShare} fB)
    ∗ (lnC.view.loc (c : Thread nD τ) ↦[lnC.view.set]{fullShare} fC))
/-- The weights, whole. -/
def wWhole (c : Dev nD) (w1 : BufOf F c hbA) (w3 : BufOf F c hbB) (w2 : BufOf F c hbC) : sProp (RM F) :=
  iprop((hbA.view.loc (c : Thread nD τ) ↦{fullShare} w1) ∗ (hbB.view.loc (c : Thread nD τ) ↦{fullShare} w3)
    ∗ (hbC.view.loc (c : Thread nD τ) ↦{fullShare} w2))
/-- The weights, without the expert whose matrices are in flight. -/
def wRest (c : Dev nD) (e : BitVec 32) (he : e.toNat < 32) (w1 : BufOf F c hbA) (w3 : BufOf F c hbB) (w2 : BufOf F c hbC) : sProp (RM F) :=
  iprop((hbA.view.loc (c : Thread nD τ) ↦[Finset.univ \ (srcAB hbA e (inWA e he)).view.set]{fullShare} w1)
    ∗ (hbB.view.loc (c : Thread nD τ) ↦[Finset.univ \ (srcAB hbB e (inWA e he)).view.set]{fullShare} w3)
    ∗ (hbC.view.loc (c : Thread nD τ) ↦[Finset.univ \ (srcC hbC e (inWC e he)).view.set]{fullShare} w2))
/-- The current expert's weights at 16 bits. -/
def curs (c : Dev nD) (gA : BufOf F c scA) (gB : BufOf F c scB) (gC : BufOf F c scC) : sProp (RM F) :=
  iprop((scA.view.loc (c : Thread nD τ) ↦[scA.view.set]{fullShare} gA) ∗ (scB.view.loc (c : Thread nD τ) ↦[scB.view.set]{fullShare} gB)
    ∗ (scC.view.loc (c : Thread nD τ) ↦[scC.view.set]{fullShare} gC))
/-- A batch in flight into slot `k` on cell `d`. -/
def flight (c : Dev nD) (d : Fin 6) (e : BitVec 32) (he : e.toNat < 32) (k : ℕ) (hk : k < 2)
    (w1 : BufOf F c hbA) (w3 : BufOf F c hbB) (w2 : BufOf F c hbC)
    (fA : BufOf F c lnA) (fB : BufOf F c lnB) (fC : BufOf F c lnC) : sProp (RM F) :=
  Transfers.Batch (countersEmb (U := Pipeline.UD sig nD τ)) (c : Thread nD τ) (.dma d) () NB (deliv c e he k hk w1 w3 w2 fA fB fC) 3 0

/-- What the current expert's buffers hold after the casts out of slot `k`, an expert having landed there. -/
abbrev cntA (c : Dev nD) (e : BitVec 32) (he : e.toNat < 32) (k : ℕ) (hk : k < 2) (w1 : BufOf F c hbA) (fA : BufOf F c lnA) : BufOf F c scA :=
  scA.view.writes (Elt F) scA.view.junk [⟨Rect.unit (s := S1024x512) ![0, 0] S1024x512.size inb_S1024x512_S1024x512_0_0,
    k0_pay11 (View.readAt (Elt F) lnA.view (Rect.unit (s := S2x1024x512) ![k, 0, 0] S1x1024x512.size (inA k hk)).toLoadRect (landAB c hbA e he lnA k hk w1 fA))⟩]
abbrev cntB (c : Dev nD) (e : BitVec 32) (he : e.toNat < 32) (k : ℕ) (hk : k < 2) (w3 : BufOf F c hbB) (fB : BufOf F c lnB) : BufOf F c scB :=
  scB.view.writes (Elt F) scB.view.junk [⟨Rect.unit (s := S1024x512) ![0, 0] S1024x512.size inb_S1024x512_S1024x512_0_0,
    k0_pay12 (View.readAt (Elt F) lnB.view (Rect.unit (s := S2x1024x512) ![k, 0, 0] S1x1024x512.size (inA k hk)).toLoadRect (landAB c hbB e he lnB k hk w3 fB))⟩]
abbrev cntC (c : Dev nD) (e : BitVec 32) (he : e.toNat < 32) (k : ℕ) (hk : k < 2) (w2 : BufOf F c hbC) (fC : BufOf F c lnC) : BufOf F c scC :=
  scC.view.writes (Elt F) scC.view.junk [⟨Rect.unit (s := S512x1024) ![0, 0] S512x1024.size inb_S512x1024_S512x1024_0_0,
    k0_pay13 (View.readAt (Elt F) lnC.view (Rect.unit (s := S2x512x1024) ![k, 0, 0] S1x512x1024.size (inC k hk)).toLoadRect (landC c hbC e he lnC k hk w2 fC))⟩]

/-- The rows of a window, every eighth from row `s`, side by side through the first product, and the second, and the gate's denominator. -/
abbrev act1 (arg5 : Memref sig .tc .vmem S2048x128 .f32) (x : Vec F S2048x128 .f32) (vA : Vec F S1024x512 .bf16) : FVec F S256x512 .f32 :=
  k0_pay15 (View.readAt (Elt F) arg5.view (⟨![0, 0], S256x128.size, ![8, 1], inb_S2048x128_S256x128_0_0_s_8_1⟩ : LoadRect S2048x128) (arg5.view.rep x)) (View.readAt (Elt F) arg5.view (⟨![1, 0], S256x128.size, ![8, 1], inb_S2048x128_S256x128_1_0_s_8_1⟩ : LoadRect S2048x128) (arg5.view.rep x)) (View.readAt (Elt F) arg5.view (⟨![2, 0], S256x128.size, ![8, 1], inb_S2048x128_S256x128_2_0_s_8_1⟩ : LoadRect S2048x128) (arg5.view.rep x)) (View.readAt (Elt F) arg5.view (⟨![3, 0], S256x128.size, ![8, 1], inb_S2048x128_S256x128_3_0_s_8_1⟩ : LoadRect S2048x128) (arg5.view.rep x)) (View.readAt (Elt F) arg5.view (⟨![4, 0], S256x128.size, ![8, 1], inb_S2048x128_S256x128_4_0_s_8_1⟩ : LoadRect S2048x128) (arg5.view.rep x)) (View.readAt (Elt F) arg5.view (⟨![5, 0], S256x128.size, ![8, 1], inb_S2048x128_S256x128_5_0_s_8_1⟩ : LoadRect S2048x128) (arg5.view.rep x)) (View.readAt (Elt F) arg5.view (⟨![6, 0], S256x128.size, ![8, 1], inb_S2048x128_S256x128_6_0_s_8_1⟩ : LoadRect S2048x128) (arg5.view.rep x)) (View.readAt (Elt F) arg5.view (⟨![7, 0], S256x128.size, ![8, 1], inb_S2048x128_S256x128_7_0_s_8_1⟩ : LoadRect S2048x128) (arg5.view.rep x)) vA
abbrev act2 (arg5 : Memref sig .tc .vmem S2048x128 .f32) (x : Vec F S2048x128 .f32) (vB : Vec F S1024x512 .bf16) : FVec F S256x512 .f32 :=
  k0_pay16 (View.readAt (Elt F) arg5.view (⟨![0, 0], S256x128.size, ![8, 1], inb_S2048x128_S256x128_0_0_s_8_1⟩ : LoadRect S2048x128) (arg5.view.rep x)) (View.readAt (Elt F) arg5.view (⟨![1, 0], S256x128.size, ![8, 1], inb_S2048x128_S256x128_1_0_s_8_1⟩ : LoadRect S2048x128) (arg5.view.rep x)) (View.readAt (Elt F) arg5.view (⟨![2, 0], S256x128.size, ![8, 1], inb_S2048x128_S256x128_2_0_s_8_1⟩ : LoadRect S2048x128) (arg5.view.rep x)) (View.readAt (Elt F) arg5.view (⟨![3, 0], S256x128.size, ![8, 1], inb_S2048x128_S256x128_3_0_s_8_1⟩ : LoadRect S2048x128) (arg5.view.rep x)) (View.readAt (Elt F) arg5.view (⟨![4, 0], S256x128.size, ![8, 1], inb_S2048x128_S256x128_4_0_s_8_1⟩ : LoadRect S2048x128) (arg5.view.rep x)) (View.readAt (Elt F) arg5.view (⟨![5, 0], S256x128.size, ![8, 1], inb_S2048x128_S256x128_5_0_s_8_1⟩ : LoadRect S2048x128) (arg5.view.rep x)) (View.readAt (Elt F) arg5.view (⟨![6, 0], S256x128.size, ![8, 1], inb_S2048x128_S256x128_6_0_s_8_1⟩ : LoadRect S2048x128) (arg5.view.rep x)) (View.readAt (Elt F) arg5.view (⟨![7, 0], S256x128.size, ![8, 1], inb_S2048x128_S256x128_7_0_s_8_1⟩ : LoadRect S2048x128) (arg5.view.rep x)) vB
abbrev act3 (arg5 : Memref sig .tc .vmem S2048x128 .f32) (x : Vec F S2048x128 .f32) (vA : Vec F S1024x512 .bf16) : FVec F S256x512 .f32 :=
  k0_pay17 (View.readAt (Elt F) arg5.view (⟨![0, 0], S256x128.size, ![8, 1], inb_S2048x128_S256x128_0_0_s_8_1⟩ : LoadRect S2048x128) (arg5.view.rep x)) (View.readAt (Elt F) arg5.view (⟨![1, 0], S256x128.size, ![8, 1], inb_S2048x128_S256x128_1_0_s_8_1⟩ : LoadRect S2048x128) (arg5.view.rep x)) (View.readAt (Elt F) arg5.view (⟨![2, 0], S256x128.size, ![8, 1], inb_S2048x128_S256x128_2_0_s_8_1⟩ : LoadRect S2048x128) (arg5.view.rep x)) (View.readAt (Elt F) arg5.view (⟨![3, 0], S256x128.size, ![8, 1], inb_S2048x128_S256x128_3_0_s_8_1⟩ : LoadRect S2048x128) (arg5.view.rep x)) (View.readAt (Elt F) arg5.view (⟨![4, 0], S256x128.size, ![8, 1], inb_S2048x128_S256x128_4_0_s_8_1⟩ : LoadRect S2048x128) (arg5.view.rep x)) (View.readAt (Elt F) arg5.view (⟨![5, 0], S256x128.size, ![8, 1], inb_S2048x128_S256x128_5_0_s_8_1⟩ : LoadRect S2048x128) (arg5.view.rep x)) (View.readAt (Elt F) arg5.view (⟨![6, 0], S256x128.size, ![8, 1], inb_S2048x128_S256x128_6_0_s_8_1⟩ : LoadRect S2048x128) (arg5.view.rep x)) (View.readAt (Elt F) arg5.view (⟨![7, 0], S256x128.size, ![8, 1], inb_S2048x128_S256x128_7_0_s_8_1⟩ : LoadRect S2048x128) (arg5.view.rep x)) vA
/-- What the current expert's buffers read as. -/
abbrev rdA (c : Dev nD) (gA : BufOf F c scA) : Vec F S1024x512 .bf16 := View.readAt (Elt F) scA.view (Rect.unit (s := S1024x512) ![0, 0] S1024x512.size inb_S1024x512_S1024x512_0_0).toLoadRect gA
abbrev rdB (c : Dev nD) (gB : BufOf F c scB) : Vec F S1024x512 .bf16 := View.readAt (Elt F) scB.view (Rect.unit (s := S1024x512) ![0, 0] S1024x512.size inb_S1024x512_S1024x512_0_0).toLoadRect gB
abbrev rdC (c : Dev nD) (gC : BufOf F c scC) : Vec F S512x1024 .bf16 := View.readAt (Elt F) scC.view (Rect.unit (s := S512x1024) ![0, 0] S512x1024.size inb_S512x1024_S512x1024_0_0).toLoadRect gC
/-- The eight stores of a tile, the last first. -/
def outP (arg5 : Memref sig .tc .vmem S2048x128 .f32) (x : Vec F S2048x128 .f32) (vA vB : Vec F S1024x512 .bf16) (vC : Vec F S512x1024 .bf16) :
    List (View.Piece (Elt F) S2048x128 .f32) :=
  [⟨⟨(⟨![7, 0], S256x128.size, ![8, 1], inb_S2048x128_S256x128_7_0_s_8_1⟩ : LoadRect S2048x128), spos_8_1⟩, k0_pay9 (act1 arg5 x vA) (act2 arg5 x vB) (act3 arg5 x vA) (Scalar.ofBits .f32 0x3F800000#32) vC⟩,
   ⟨⟨(⟨![6, 0], S256x128.size, ![8, 1], inb_S2048x128_S256x128_6_0_s_8_1⟩ : LoadRect S2048x128), spos_8_1⟩, k0_pay8 (act1 arg5 x vA) (act2 arg5 x vB) (act3 arg5 x vA) (Scalar.ofBits .f32 0x3F800000#32) vC⟩,
   ⟨⟨(⟨![5, 0], S256x128.size, ![8, 1], inb_S2048x128_S256x128_5_0_s_8_1⟩ : LoadRect S2048x128), spos_8_1⟩, k0_pay7 (act1 arg5 x vA) (act2 arg5 x vB) (act3 arg5 x vA) (Scalar.ofBits .f32 0x3F800000#32) vC⟩,
   ⟨⟨(⟨![4, 0], S256x128.size, ![8, 1], inb_S2048x128_S256x128_4_0_s_8_1⟩ : LoadRect S2048x128), spos_8_1⟩, k0_pay6 (act1 arg5 x vA) (act2 arg5 x vB) (act3 arg5 x vA) (Scalar.ofBits .f32 0x3F800000#32) vC⟩,
   ⟨⟨(⟨![3, 0], S256x128.size, ![8, 1], inb_S2048x128_S256x128_3_0_s_8_1⟩ : LoadRect S2048x128), spos_8_1⟩, k0_pay5 (act1 arg5 x vA) (act2 arg5 x vB) (act3 arg5 x vA) (Scalar.ofBits .f32 0x3F800000#32) vC⟩,
   ⟨⟨(⟨![2, 0], S256x128.size, ![8, 1], inb_S2048x128_S256x128_2_0_s_8_1⟩ : LoadRect S2048x128), spos_8_1⟩, k0_pay4 (act1 arg5 x vA) (act2 arg5 x vB) (act3 arg5 x vA) (Scalar.ofBits .f32 0x3F800000#32) vC⟩,
   ⟨⟨(⟨![1, 0], S256x128.size, ![8, 1], inb_S2048x128_S256x128_1_0_s_8_1⟩ : LoadRect S2048x128), spos_8_1⟩, k0_pay3 (act1 arg5 x vA) (act2 arg5 x vB) (act3 arg5 x vA) (Scalar.ofBits .f32 0x3F800000#32) vC⟩,
   ⟨⟨(⟨![0, 0], S256x128.size, ![8, 1], inb_S2048x128_S256x128_0_0_s_8_1⟩ : LoadRect S2048x128), spos_8_1⟩, k0_pay2 (act1 arg5 x vA) (act2 arg5 x vB) (act3 arg5 x vA) (Scalar.ofBits .f32 0x3F800000#32) vC⟩]
/-- The one store of a tile past the last one in use. -/
def outZ : List (View.Piece (Elt F) S2048x128 .f32) :=
  [⟨Rect.unit (s := S2048x128) ![0, 0] S2048x128.size inb_S2048x128_S2048x128_0_0, k0_pay10 (F := F)⟩]

/-- The body at a grid point. -/
abbrev bodyAt (i : grid0.Coords) (arg5 : Memref sig .tc .vmem S2048x128 .f32) (harg5 : arg5.IsWhole)
    (arg9 : Memref sig .tc .vmem S2048x128 .f32) (harg9 : arg9.IsWhole) : Prog (TpuEff nD τ sig (Elt F) Λ₀ .tc) PUnit :=
  cc0_moe_experts i tbE (Memref.isWhole_whole _) tbN (Memref.isWhole_whole _) tbX (Memref.isWhole_whole _) tbP (Memref.isWhole_whole _)
    arg5 harg5 hbA (Memref.isWhole_whole _) hbB (Memref.isWhole_whole _) hbC (Memref.isWhole_whole _) arg9 harg9
    scA (Memref.isWhole_whole _) scB (Memref.isWhole_whole _) scC (Memref.isWhole_whole _)
    lnA (Memref.isWhole_whole _) lnB (Memref.isWhole_whole _) lnC (Memref.isWhole_whole _) cc0_scratch6

end Cert.KernelIdeal.Hand
end
-- ==== Proof.Body.lean ====
module
public import proofs.«01_k».proof.Proof.Ends
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 40000000 in
set_option maxRecDepth 65536 in
/-- A tile past the last one in use: the body writes zeros. -/
theorem run_rest (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (k0_h1 : ¬ (k0_cond1 i (wdN TN) = 1#1)) (k0_h5 : k0_cond5 i (wdN TN) = 1#1) (K : PUnit → sProp (RM F)) :
    iprop(tabs c TN TE TX TP ∗ (∃ d, owns (c : Thread nD τ) arg9 fullShare d)
        ∗ (iprop(tabs c TN TE TX TP ∗ (∃ f, arg9.view.loc (c : Thread nD τ) ↦[arg9.view.set]{fullShare} arg9.view.writes (Elt F) f outZ)) -∗ K ⟨⟩))
      ⊢ wp frame (wpE (defs₀ (F := F)) Variants.none c none) Set.univ (bodyAt (F := F) i arg5 harg5 arg9 harg9) K := by
  unfold tabs owns bodyAt
  rw [cc0_moe_experts_eq_skeleton]; unfold cc0_moe_experts_skel
  iintro ⟨⟨HTN, HTE, HTX, HTP⟩, ⟨%d9, %f9, -, H9⟩, Hk⟩
  sl_exec! (disch := first | sl_exact k0_h1 | sl_exact k0_h5)
  sl_step
  iapply Hk
  isplitl [HTN HTE HTX HTP]
  · isplitl [HTN]; · iexact HTN
    isplitl [HTE]; · iexact HTE
    isplitl [HTX]; · iexact HTX
    iexact HTP
  iexists _; iexact H9

set_option maxHeartbeats 40000000 in
set_option maxRecDepth 65536 in
/-- A tile of the expert whose weights are already in place. -/
theorem run_same (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (gA : BufOf F c scA) (gB : BufOf F c scB) (gC : BufOf F c scC)
    (k0_h1 : k0_cond1 i (wdN TN) = 1#1) (k0_h5 : ¬ (k0_cond5 i (wdN TN) = 1#1))
    (k0_h2 : ¬ (k0_cond2 i (wd tbE (k0_off1 i) (k0_off1_inb i) TE) (wd tbE (k0_off2 i) (k0_off2_inb i) TE) = 1#1)) (K : PUnit → sProp (RM F)) :
    iprop(tabs c TN TE TX TP ∗ (arg5.view.loc (c : Thread nD τ) ↦[arg5.view.set]{fullShare} arg5.view.rep x) ∗ (∃ d, owns (c : Thread nD τ) arg9 fullShare d) ∗ curs c gA gB gC
        ∗ (iprop(tabs c TN TE TX TP ∗ (arg5.view.loc (c : Thread nD τ) ↦[arg5.view.set]{fullShare} arg5.view.rep x) ∗ (∃ f, arg9.view.loc (c : Thread nD τ) ↦[arg9.view.set]{fullShare} arg9.view.writes (Elt F) f (outP arg5 x (rdA c gA) (rdB c gB) (rdC c gC))) ∗ curs c gA gB gC) -∗ K ⟨⟩))
      ⊢ wp frame (wpE (defs₀ (F := F)) Variants.none c none) Set.univ (bodyAt (F := F) i arg5 harg5 arg9 harg9) K := by
  unfold tabs owns curs bodyAt
  rw [cc0_moe_experts_eq_skeleton]; unfold cc0_moe_experts_skel
  iintro ⟨⟨HTN, HTE, HTX, HTP⟩, H5, ⟨%d9, %f9, -, H9⟩, ⟨HA, HB, HC⟩, Hk⟩
  sl_exec! (disch := first | sl_exact k0_h1 | sl_exact k0_h5 | sl_exact k0_h2)
  sl_step
  iapply Hk
  isplitl [HTN HTE HTX HTP]
  · isplitl [HTN]; · iexact HTN
    isplitl [HTE]; · iexact HTE
    isplitl [HTX]; · iexact HTX
    iexact HTP
  isplitl [H5]; · iexact H5
  isplitl [H9]; · iexists _; iexact H9
  isplitl [HA]; · iexact HA
  isplitl [HB]; · iexact HB
  iexact HC

end Cert.KernelIdeal.Hand
end
-- ==== Proof.BodyFirst.lean ====
module
public import proofs.«01_k».proof.Proof.Ends
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem chk1_ok (i : grid0.Coords) (v0 v10 v14 v62 : BitVec 32) (h : v62 = 0#32 ∨ v62 = 1#32) : k0_chk1 i v0 v10 v14 v62 := by
  rcases h with rfl | rfl <;>
  exact ⟨fun _ _ _ => by decide, fun _ _ _ => by decide, fun _ _ _ => by decide, fun _ _ _ => by decide, fun _ _ _ => by decide,
    fun _ _ => by decide, fun _ _ => by decide, fun _ _ => by decide, fun _ _ => by decide, fun _ _ => by decide, fun _ _ => by decide, fun _ _ => by decide⟩
theorem chk4_ok (i : grid0.Coords) (v0 v10 v14 v62 v108 : BitVec 32) (h : v62 = 0#32 ∨ v62 = 1#32) : k0_chk4 i v0 v10 v14 v62 v108 := by
  rcases h with rfl | rfl <;>
  exact ⟨fun _ _ _ => by decide, fun _ _ _ => by decide, fun _ _ _ => by decide, fun _ _ _ => by decide, fun _ _ _ => by decide⟩
theorem chk2_ok (i : grid0.Coords) (v0 v10 v14 v : BitVec 32) (h : v.toNat < 32) : k0_chk2 i v0 v10 v14 v :=
  ⟨fun _ _ _ => inWA v h, fun _ _ _ => inWC v h⟩
theorem chk3_ok (i : grid0.Coords) (v0 v10 v14 v : BitVec 32) (h : v.toNat < 32) : k0_chk3 i v0 v10 v14 v :=
  ⟨fun _ _ => inWA v h, fun _ _ => inWC v h⟩
theorem chk5_ok (i : grid0.Coords) (v0 v10 v14 v108 v : BitVec 32) (h : v.toNat < 32) : k0_chk5 i v0 v10 v14 v108 v :=
  ⟨fun _ _ _ => inWA v h, fun _ _ _ => inWC v h⟩

set_option maxHeartbeats 40000000 in
set_option maxRecDepth 65536 in
/-- The first tile, another expert to follow. -/
theorem run_first0_next (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (he : (wd tbE ![0] inb_S167_S1_0 TE).toNat < 32)
    (he' : (wd tbE (k0_off11 i) (k0_off11_inb i) TE).toNat < 32)
    (hn : (wd tbX (k0_off22 i) (k0_off22_inb i) TX).toNat < 32)
    (hP : wd tbP (k0_off3 i) (k0_off3_inb i) TP = 0#32)
    (k0_h1 : k0_cond1 i (wdN TN) = 1#1) (k0_h5 : ¬ (k0_cond5 i (wdN TN) = 1#1))
    (k0_h2 : k0_cond2 i (wd tbE (k0_off1 i) (k0_off1_inb i) TE) (wd tbE (k0_off2 i) (k0_off2_inb i) TE) = 1#1)
    (k0_h3 : k0_cond3 i = 1#1) (k0_h4 : k0_cond4 (wd tbX (k0_off21 i) (k0_off21_inb i) TX) = 1#1)
    (w1 : BufOf F c hbA) (w3 : BufOf F c hbB) (w2 : BufOf F c hbC)
    (fA : BufOf F c lnA) (fB : BufOf F c lnB) (fC : BufOf F c lnC) (gA : BufOf F c scA) (gB : BufOf F c scB) (gC : BufOf F c scC)
    (W : Waits sig Unit) (K : PUnit → sProp (RM F)) :
    iprop(tabs c TN TE TX TP ∗ (arg5.view.loc (c : Thread nD τ) ↦[arg5.view.set]{fullShare} arg5.view.rep x) ∗ (∃ d, owns (c : Thread nD τ) arg9 fullShare d) ∗ curs c gA gB gC ∗ lands c fA fB fC ∗ semVal ((c : Thread nD τ), SemLoc.dma (4 : Fin 6)) 0 ∗ semVal ((c : Thread nD τ), SemLoc.dma (5 : Fin 6)) 0 ∗ wWhole c w1 w3 w2 ∗ owes (c : Thread nD τ) 0 W
        ∗ (iprop(tabs c TN TE TX TP ∗ (arg5.view.loc (c : Thread nD τ) ↦[arg5.view.set]{fullShare} arg5.view.rep x)
            ∗ (∃ f, arg9.view.loc (c : Thread nD τ) ↦[arg9.view.set]{fullShare} arg9.view.writes (Elt F) f (outP arg5 x (rdA c (cntA c (wd tbE ![0] inb_S167_S1_0 TE) he 0 (by omega) w1 fA)) (rdB c (cntB c (wd tbE ![0] inb_S167_S1_0 TE) he 0 (by omega) w3 fB)) (rdC c (cntC c (wd tbE ![0] inb_S167_S1_0 TE) he 0 (by omega) w2 fC))))
            ∗ curs c (cntA c (wd tbE ![0] inb_S167_S1_0 TE) he 0 (by omega) w1 fA) (cntB c (wd tbE ![0] inb_S167_S1_0 TE) he 0 (by omega) w3 fB) (cntC c (wd tbE ![0] inb_S167_S1_0 TE) he 0 (by omega) w2 fC) ∗ flight c 5 (wd tbX (k0_off22 i) (k0_off22_inb i) TX) hn 1 (by omega) w1 w3 w2 (landAB c hbA (wd tbE ![0] inb_S167_S1_0 TE) he lnA 0 (by omega) w1 fA) (landAB c hbB (wd tbE ![0] inb_S167_S1_0 TE) he lnB 0 (by omega) w3 fB) (landC c hbC (wd tbE ![0] inb_S167_S1_0 TE) he lnC 0 (by omega) w2 fC) ∗ semVal ((c : Thread nD τ), SemLoc.dma (4 : Fin 6)) 0 ∗ wRest c (wd tbX (k0_off22 i) (k0_off22_inb i) TX) hn w1 w3 w2 ∗ (∃ W', owes (c : Thread nD τ) 0 W')) -∗ K ⟨⟩))
      ⊢ wp frame (wpE (defs₀ (F := F)) Variants.none c none) Set.univ (bodyAt (F := F) i arg5 harg5 arg9 harg9) K := by
  have k0_c1 := chk1_ok i (wdN TN) (wd tbE (k0_off1 i) (k0_off1_inb i) TE) (wd tbE (k0_off2 i) (k0_off2_inb i) TE) 0#32 (.inl rfl)
  have k0_c3 := chk3_ok i (wdN TN) (wd tbE (k0_off1 i) (k0_off1_inb i) TE) (wd tbE (k0_off2 i) (k0_off2_inb i) TE) _ he'
  have k0_c4 := chk4_ok i (wdN TN) (wd tbE (k0_off1 i) (k0_off1_inb i) TE) (wd tbE (k0_off2 i) (k0_off2_inb i) TE) 0#32 (wd tbX (k0_off21 i) (k0_off21_inb i) TX) (.inl rfl)
  have k0_c5 := chk5_ok i (wdN TN) (wd tbE (k0_off1 i) (k0_off1_inb i) TE) (wd tbE (k0_off2 i) (k0_off2_inb i) TE) (wd tbX (k0_off21 i) (k0_off21_inb i) TX) _ hn
  have k0_c2 := chk2_ok i (wdN TN) (wd tbE (k0_off1 i) (k0_off1_inb i) TE) (wd tbE (k0_off2 i) (k0_off2_inb i) TE) (wd tbE ![0] inb_S167_S1_0 TE) he
  unfold tabs lands wWhole wRest flight curs owns bodyAt
  rw [cc0_moe_experts_eq_skeleton]; unfold cc0_moe_experts_skel
  iintro ⟨⟨HTN, HTE, HTX, HTP⟩, H5, ⟨%d9, %f9, -, H9⟩, ⟨HA, HB, HC⟩, ⟨HlA, HlB, HlC⟩, HF0, Hq, ⟨HhA, HhB, HhC⟩, HW, Hk⟩
  imod (Transfers.batch_alloc' (Lvl := ℕ) (countersEmb (U := Pipeline.UD sig nD τ)) (c : Thread nD τ) () NB (deliv c (wd tbE ![0] inb_S167_S1_0 TE) he 0 (by omega) w1 w3 w2
      fA fB fC) (sm := .dma (4 : Fin 6)) (E := Set.univ)) $$ HF0 with HF
  imod (Transfers.batch_alloc' (Lvl := ℕ) (countersEmb (U := Pipeline.UD sig nD τ)) (c : Thread nD τ) () NB (deliv c (wd tbX (k0_off22 i) (k0_off22_inb i) TX) hn 1 (by omega) w1 w3 w2
      (landAB c hbA (wd tbE ![0] inb_S167_S1_0 TE) he lnA 0 (by omega) w1 fA) (landAB c hbB (wd tbE ![0] inb_S167_S1_0 TE) he lnB 0 (by omega) w3 fB) (landC c hbC (wd tbE ![0] inb_S167_S1_0 TE) he lnC 0 (by omega) w2 fC)) (sm := .dma (5 : Fin 6)) (E := Set.univ)) $$ Hq with HG
  unfold deliv
  set_option sl_exec.stopBefore "k0_part1" in sl_exec (disch := first | sl_exact k0_h1 | sl_exact k0_h5 | sl_exact k0_h2)
  sl_unfold [k0_part1]
  sl_whnfR [smemLoad]
  sl_rw [smemLoadElt_bind]
  sl_rw [smemLoadElt_bind]
  named_smem HTP 0#32 (hP.symm)
  sl_exec! (disch := first | sl_exact k0_c1 | sl_exact k0_c3 | sl_exact k0_c4 | sl_exact k0_h1 | sl_exact k0_h5 | sl_exact k0_h2 | sl_exact k0_h3 | sl_exact k0_h4 | sl_exact k0_c5 | sl_exact k0_c2)
  sl_step
  iapply Hk
  isplitl [HTN HTE HTX HTP]
  · isplitl [HTN]; · iexact HTN
    isplitl [HTE]; · iexact HTE
    isplitl [HTX]; · iexact HTX
    iexact HTP
  isplitl [H5]; · iexact H5
  isplitl [H9]; · iexists _; iexact H9
  isplitl [HA HB HC]
  · isplitl [HA]; · iexact HA
    isplitl [HB]; · iexact HB
    iexact HC
  isplitl [HG]; · iexact HG
  isplitl [HF]; · iexact HF
  isplitl [HhA HhB HhC]
  · isplitl [HhA]; · iexact HhA
    isplitl [HhB]; · iexact HhB
    iexact HhC
  iexists _; iexact HW

set_option maxHeartbeats 40000000 in
set_option maxRecDepth 65536 in
/-- The first tile, no further expert. -/
theorem run_first0_last (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (he : (wd tbE ![0] inb_S167_S1_0 TE).toNat < 32)
    (he' : (wd tbE (k0_off11 i) (k0_off11_inb i) TE).toNat < 32)
    (hP : wd tbP (k0_off3 i) (k0_off3_inb i) TP = 0#32)
    (k0_h1 : k0_cond1 i (wdN TN) = 1#1) (k0_h5 : ¬ (k0_cond5 i (wdN TN) = 1#1))
    (k0_h2 : k0_cond2 i (wd tbE (k0_off1 i) (k0_off1_inb i) TE) (wd tbE (k0_off2 i) (k0_off2_inb i) TE) = 1#1)
    (k0_h3 : k0_cond3 i = 1#1) (k0_h4 : ¬ (k0_cond4 (wd tbX (k0_off21 i) (k0_off21_inb i) TX) = 1#1))
    (w1 : BufOf F c hbA) (w3 : BufOf F c hbB) (w2 : BufOf F c hbC)
    (fA : BufOf F c lnA) (fB : BufOf F c lnB) (fC : BufOf F c lnC) (gA : BufOf F c scA) (gB : BufOf F c scB) (gC : BufOf F c scC)
    (W : Waits sig Unit) (K : PUnit → sProp (RM F)) :
    iprop(tabs c TN TE TX TP ∗ (arg5.view.loc (c : Thread nD τ) ↦[arg5.view.set]{fullShare} arg5.view.rep x) ∗ (∃ d, owns (c : Thread nD τ) arg9 fullShare d) ∗ curs c gA gB gC ∗ lands c fA fB fC ∗ semVal ((c : Thread nD τ), SemLoc.dma (4 : Fin 6)) 0 ∗ semVal ((c : Thread nD τ), SemLoc.dma (5 : Fin 6)) 0 ∗ wWhole c w1 w3 w2 ∗ owes (c : Thread nD τ) 0 W
        ∗ (iprop(tabs c TN TE TX TP ∗ (arg5.view.loc (c : Thread nD τ) ↦[arg5.view.set]{fullShare} arg5.view.rep x)
            ∗ (∃ f, arg9.view.loc (c : Thread nD τ) ↦[arg9.view.set]{fullShare} arg9.view.writes (Elt F) f (outP arg5 x (rdA c (cntA c (wd tbE ![0] inb_S167_S1_0 TE) he 0 (by omega) w1 fA)) (rdB c (cntB c (wd tbE ![0] inb_S167_S1_0 TE) he 0 (by omega) w3 fB)) (rdC c (cntC c (wd tbE ![0] inb_S167_S1_0 TE) he 0 (by omega) w2 fC))))
            ∗ curs c (cntA c (wd tbE ![0] inb_S167_S1_0 TE) he 0 (by omega) w1 fA) (cntB c (wd tbE ![0] inb_S167_S1_0 TE) he 0 (by omega) w3 fB) (cntC c (wd tbE ![0] inb_S167_S1_0 TE) he 0 (by omega) w2 fC) ∗ lands c (landAB c hbA (wd tbE ![0] inb_S167_S1_0 TE) he lnA 0 (by omega) w1 fA) (landAB c hbB (wd tbE ![0] inb_S167_S1_0 TE) he lnB 0 (by omega) w3 fB) (landC c hbC (wd tbE ![0] inb_S167_S1_0 TE) he lnC 0 (by omega) w2 fC) ∗ semVal ((c : Thread nD τ), SemLoc.dma (4 : Fin 6)) 0 ∗ semVal ((c : Thread nD τ), SemLoc.dma (5 : Fin 6)) 0 ∗ wWhole c w1 w3 w2 ∗ (∃ W', owes (c : Thread nD τ) 0 W')) -∗ K ⟨⟩))
      ⊢ wp frame (wpE (defs₀ (F := F)) Variants.none c none) Set.univ (bodyAt (F := F) i arg5 harg5 arg9 harg9) K := by
  have k0_c1 := chk1_ok i (wdN TN) (wd tbE (k0_off1 i) (k0_off1_inb i) TE) (wd tbE (k0_off2 i) (k0_off2_inb i) TE) 0#32 (.inl rfl)
  have k0_c3 := chk3_ok i (wdN TN) (wd tbE (k0_off1 i) (k0_off1_inb i) TE) (wd tbE (k0_off2 i) (k0_off2_inb i) TE) _ he'
  have k0_c4 := chk4_ok i (wdN TN) (wd tbE (k0_off1 i) (k0_off1_inb i) TE) (wd tbE (k0_off2 i) (k0_off2_inb i) TE) 0#32 (wd tbX (k0_off21 i) (k0_off21_inb i) TX) (.inl rfl)
  have k0_c2 := chk2_ok i (wdN TN) (wd tbE (k0_off1 i) (k0_off1_inb i) TE) (wd tbE (k0_off2 i) (k0_off2_inb i) TE) (wd tbE ![0] inb_S167_S1_0 TE) he
  unfold tabs lands wWhole curs owns bodyAt
  rw [cc0_moe_experts_eq_skeleton]; unfold cc0_moe_experts_skel
  iintro ⟨⟨HTN, HTE, HTX, HTP⟩, H5, ⟨%d9, %f9, -, H9⟩, ⟨HA, HB, HC⟩, ⟨HlA, HlB, HlC⟩, HF0, Hq, ⟨HhA, HhB, HhC⟩, HW, Hk⟩
  imod (Transfers.batch_alloc' (Lvl := ℕ) (countersEmb (U := Pipeline.UD sig nD τ)) (c : Thread nD τ) () NB (deliv c (wd tbE ![0] inb_S167_S1_0 TE) he 0 (by omega) w1 w3 w2
      fA fB fC) (sm := .dma (4 : Fin 6)) (E := Set.univ)) $$ HF0 with HF
  unfold deliv
  set_option sl_exec.stopBefore "k0_part1" in sl_exec (disch := first | sl_exact k0_h1 | sl_exact k0_h5 | sl_exact k0_h2)
  sl_unfold [k0_part1]
  sl_whnfR [smemLoad]
  sl_rw [smemLoadElt_bind]
  sl_rw [smemLoadElt_bind]
  named_smem HTP 0#32 (hP.symm)
  sl_exec! (disch := first | sl_exact k0_c1 | sl_exact k0_c3 | sl_exact k0_c4 | sl_exact k0_h1 | sl_exact k0_h5 | sl_exact k0_h2 | sl_exact k0_h3 | sl_exact k0_h4 | sl_exact k0_c2)
  sl_step
  iapply Hk
  isplitl [HTN HTE HTX HTP]
  · isplitl [HTN]; · iexact HTN
    isplitl [HTE]; · iexact HTE
    isplitl [HTX]; · iexact HTX
    iexact HTP
  isplitl [H5]; · iexact H5
  isplitl [H9]; · iexists _; iexact H9
  isplitl [HA HB HC]
  · isplitl [HA]; · iexact HA
    isplitl [HB]; · iexact HB
    iexact HC
  isplitl [HF_dst0 HF_dst1 HF_dst2]
  · isplitl [HF_dst0]; · iexact HF_dst0
    isplitl [HF_dst1]; · iexact HF_dst1
    iexact HF_dst2
  isplitl [HF]; · iexact HF
  isplitl [Hq]; · iexact Hq
  isplitl [HhA HhB HhC]
  · isplitl [HhA]; · iexact HhA
    isplitl [HhB]; · iexact HhB
    iexact HhC
  iexists _; iexact HW

end Cert.KernelIdeal.Hand
end
-- ==== Proof.BodyNew0.lean ====
module
public import proofs.«01_k».proof.Proof.BodyFirst
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 40000000 in
set_option maxRecDepth 65536 in
/-- A tile of a new expert whose weights are in flight, another expert to follow. -/
theorem run_new0_next (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (he : (wd tbE (k0_off11 i) (k0_off11_inb i) TE).toNat < 32)
    (hn : (wd tbX (k0_off22 i) (k0_off22_inb i) TX).toNat < 32)
    (hP : wd tbP (k0_off3 i) (k0_off3_inb i) TP = 0#32)
    (k0_h1 : k0_cond1 i (wdN TN) = 1#1) (k0_h5 : ¬ (k0_cond5 i (wdN TN) = 1#1))
    (k0_h2 : k0_cond2 i (wd tbE (k0_off1 i) (k0_off1_inb i) TE) (wd tbE (k0_off2 i) (k0_off2_inb i) TE) = 1#1)
    (k0_h3 : ¬ (k0_cond3 i = 1#1)) (k0_h4 : k0_cond4 (wd tbX (k0_off21 i) (k0_off21_inb i) TX) = 1#1)
    (w1 : BufOf F c hbA) (w3 : BufOf F c hbB) (w2 : BufOf F c hbC)
    (fA : BufOf F c lnA) (fB : BufOf F c lnB) (fC : BufOf F c lnC) (gA : BufOf F c scA) (gB : BufOf F c scB) (gC : BufOf F c scC)
    (W : Waits sig Unit) (K : PUnit → sProp (RM F)) :
    iprop(tabs c TN TE TX TP ∗ (arg5.view.loc (c : Thread nD τ) ↦[arg5.view.set]{fullShare} arg5.view.rep x) ∗ (∃ d, owns (c : Thread nD τ) arg9 fullShare d) ∗ curs c gA gB gC ∗ flight c 4 (wd tbE (k0_off11 i) (k0_off11_inb i) TE) he 0 (by omega) w1 w3 w2 fA fB fC ∗ semVal ((c : Thread nD τ), SemLoc.dma (5 : Fin 6)) 0 ∗ wRest c (wd tbE (k0_off11 i) (k0_off11_inb i) TE) he w1 w3 w2 ∗ owes (c : Thread nD τ) 0 W
        ∗ (iprop(tabs c TN TE TX TP ∗ (arg5.view.loc (c : Thread nD τ) ↦[arg5.view.set]{fullShare} arg5.view.rep x)
            ∗ (∃ f, arg9.view.loc (c : Thread nD τ) ↦[arg9.view.set]{fullShare} arg9.view.writes (Elt F) f (outP arg5 x (rdA c (cntA c (wd tbE (k0_off11 i) (k0_off11_inb i) TE) he 0 (by omega) w1 fA)) (rdB c (cntB c (wd tbE (k0_off11 i) (k0_off11_inb i) TE) he 0 (by omega) w3 fB)) (rdC c (cntC c (wd tbE (k0_off11 i) (k0_off11_inb i) TE) he 0 (by omega) w2 fC))))
            ∗ curs c (cntA c (wd tbE (k0_off11 i) (k0_off11_inb i) TE) he 0 (by omega) w1 fA) (cntB c (wd tbE (k0_off11 i) (k0_off11_inb i) TE) he 0 (by omega) w3 fB) (cntC c (wd tbE (k0_off11 i) (k0_off11_inb i) TE) he 0 (by omega) w2 fC) ∗ flight c 5 (wd tbX (k0_off22 i) (k0_off22_inb i) TX) hn 1 (by omega) w1 w3 w2 (landAB c hbA (wd tbE (k0_off11 i) (k0_off11_inb i) TE) he lnA 0 (by omega) w1 fA) (landAB c hbB (wd tbE (k0_off11 i) (k0_off11_inb i) TE) he lnB 0 (by omega) w3 fB) (landC c hbC (wd tbE (k0_off11 i) (k0_off11_inb i) TE) he lnC 0 (by omega) w2 fC) ∗ semVal ((c : Thread nD τ), SemLoc.dma (4 : Fin 6)) 0 ∗ wRest c (wd tbX (k0_off22 i) (k0_off22_inb i) TX) hn w1 w3 w2 ∗ (∃ W', owes (c : Thread nD τ) 0 W')) -∗ K ⟨⟩))
      ⊢ wp frame (wpE (defs₀ (F := F)) Variants.none c none) Set.univ (bodyAt (F := F) i arg5 harg5 arg9 harg9) K := by
  have k0_c1 := chk1_ok i (wdN TN) (wd tbE (k0_off1 i) (k0_off1_inb i) TE) (wd tbE (k0_off2 i) (k0_off2_inb i) TE) 0#32 (.inl rfl)
  have k0_c3 := chk3_ok i (wdN TN) (wd tbE (k0_off1 i) (k0_off1_inb i) TE) (wd tbE (k0_off2 i) (k0_off2_inb i) TE) _ he
  have k0_c4 := chk4_ok i (wdN TN) (wd tbE (k0_off1 i) (k0_off1_inb i) TE) (wd tbE (k0_off2 i) (k0_off2_inb i) TE) 0#32 (wd tbX (k0_off21 i) (k0_off21_inb i) TX) (.inl rfl)
  have k0_c5 := chk5_ok i (wdN TN) (wd tbE (k0_off1 i) (k0_off1_inb i) TE) (wd tbE (k0_off2 i) (k0_off2_inb i) TE) (wd tbX (k0_off21 i) (k0_off21_inb i) TX) _ hn
  unfold tabs wRest flight curs owns bodyAt
  rw [cc0_moe_experts_eq_skeleton]; unfold cc0_moe_experts_skel
  iintro ⟨⟨HTN, HTE, HTX, HTP⟩, H5, ⟨%d9, %f9, -, H9⟩, ⟨HA, HB, HC⟩, HF, Hq, ⟨HhA, HhB, HhC⟩, HW, Hk⟩
  imod (Transfers.batch_alloc' (Lvl := ℕ) (countersEmb (U := Pipeline.UD sig nD τ)) (c : Thread nD τ) () NB (deliv c (wd tbX (k0_off22 i) (k0_off22_inb i) TX) hn 1 (by omega) w1 w3 w2
      (landAB c hbA (wd tbE (k0_off11 i) (k0_off11_inb i) TE) he lnA 0 (by omega) w1 fA) (landAB c hbB (wd tbE (k0_off11 i) (k0_off11_inb i) TE) he lnB 0 (by omega) w3 fB) (landC c hbC (wd tbE (k0_off11 i) (k0_off11_inb i) TE) he lnC 0 (by omega) w2 fC)) (sm := .dma (5 : Fin 6)) (E := Set.univ)) $$ Hq with HG
  unfold deliv
  set_option sl_exec.stopBefore "k0_part1" in sl_exec (disch := first | sl_exact k0_h1 | sl_exact k0_h5 | sl_exact k0_h2)
  sl_unfold [k0_part1]
  sl_whnfR [smemLoad]
  sl_rw [smemLoadElt_bind]
  sl_rw [smemLoadElt_bind]
  named_smem HTP 0#32 (hP.symm)
  sl_exec! (disch := first | sl_exact k0_c1 | sl_exact k0_c3 | sl_exact k0_c4 | sl_exact k0_h1 | sl_exact k0_h5 | sl_exact k0_h2 | sl_exact k0_h3 | sl_exact k0_h4 | sl_exact k0_c5)
  sl_step
  iapply Hk
  isplitl [HTN HTE HTX HTP]
  · isplitl [HTN]; · iexact HTN
    isplitl [HTE]; · iexact HTE
    isplitl [HTX]; · iexact HTX
    iexact HTP
  isplitl [H5]; · iexact H5
  isplitl [H9]; · iexists _; iexact H9
  isplitl [HA HB HC]
  · isplitl [HA]; · iexact HA
    isplitl [HB]; · iexact HB
    iexact HC
  isplitl [HG]; · iexact HG
  isplitl [HF]; · iexact HF
  isplitl [HhA HhB HhC]
  · isplitl [HhA]; · iexact HhA
    isplitl [HhB]; · iexact HhB
    iexact HhC
  iexists _; iexact HW

set_option maxHeartbeats 40000000 in
set_option maxRecDepth 65536 in
/-- A tile of a new expert whose weights are in flight, no further expert. -/
theorem run_new0_last (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (he : (wd tbE (k0_off11 i) (k0_off11_inb i) TE).toNat < 32)
    (hP : wd tbP (k0_off3 i) (k0_off3_inb i) TP = 0#32)
    (k0_h1 : k0_cond1 i (wdN TN) = 1#1) (k0_h5 : ¬ (k0_cond5 i (wdN TN) = 1#1))
    (k0_h2 : k0_cond2 i (wd tbE (k0_off1 i) (k0_off1_inb i) TE) (wd tbE (k0_off2 i) (k0_off2_inb i) TE) = 1#1)
    (k0_h3 : ¬ (k0_cond3 i = 1#1)) (k0_h4 : ¬ (k0_cond4 (wd tbX (k0_off21 i) (k0_off21_inb i) TX) = 1#1))
    (w1 : BufOf F c hbA) (w3 : BufOf F c hbB) (w2 : BufOf F c hbC)
    (fA : BufOf F c lnA) (fB : BufOf F c lnB) (fC : BufOf F c lnC) (gA : BufOf F c scA) (gB : BufOf F c scB) (gC : BufOf F c scC)
    (W : Waits sig Unit) (K : PUnit → sProp (RM F)) :
    iprop(tabs c TN TE TX TP ∗ (arg5.view.loc (c : Thread nD τ) ↦[arg5.view.set]{fullShare} arg5.view.rep x) ∗ (∃ d, owns (c : Thread nD τ) arg9 fullShare d) ∗ curs c gA gB gC ∗ flight c 4 (wd tbE (k0_off11 i) (k0_off11_inb i) TE) he 0 (by omega) w1 w3 w2 fA fB fC ∗ semVal ((c : Thread nD τ), SemLoc.dma (5 : Fin 6)) 0 ∗ wRest c (wd tbE (k0_off11 i) (k0_off11_inb i) TE) he w1 w3 w2 ∗ owes (c : Thread nD τ) 0 W
        ∗ (iprop(tabs c TN TE TX TP ∗ (arg5.view.loc (c : Thread nD τ) ↦[arg5.view.set]{fullShare} arg5.view.rep x)
            ∗ (∃ f, arg9.view.loc (c : Thread nD τ) ↦[arg9.view.set]{fullShare} arg9.view.writes (Elt F) f (outP arg5 x (rdA c (cntA c (wd tbE (k0_off11 i) (k0_off11_inb i) TE) he 0 (by omega) w1 fA)) (rdB c (cntB c (wd tbE (k0_off11 i) (k0_off11_inb i) TE) he 0 (by omega) w3 fB)) (rdC c (cntC c (wd tbE (k0_off11 i) (k0_off11_inb i) TE) he 0 (by omega) w2 fC))))
            ∗ curs c (cntA c (wd tbE (k0_off11 i) (k0_off11_inb i) TE) he 0 (by omega) w1 fA) (cntB c (wd tbE (k0_off11 i) (k0_off11_inb i) TE) he 0 (by omega) w3 fB) (cntC c (wd tbE (k0_off11 i) (k0_off11_inb i) TE) he 0 (by omega) w2 fC) ∗ lands c (landAB c hbA (wd tbE (k0_off11 i) (k0_off11_inb i) TE) he lnA 0 (by omega) w1 fA) (landAB c hbB (wd tbE (k0_off11 i) (k0_off11_inb i) TE) he lnB 0 (by omega) w3 fB) (landC c hbC (wd tbE (k0_off11 i) (k0_off11_inb i) TE) he lnC 0 (by omega) w2 fC) ∗ semVal ((c : Thread nD τ), SemLoc.dma (4 : Fin 6)) 0 ∗ semVal ((c : Thread nD τ), SemLoc.dma (5 : Fin 6)) 0 ∗ wWhole c w1 w3 w2 ∗ (∃ W', owes (c : Thread nD τ) 0 W')) -∗ K ⟨⟩))
      ⊢ wp frame (wpE (defs₀ (F := F)) Variants.none c none) Set.univ (bodyAt (F := F) i arg5 harg5 arg9 harg9) K := by
  have k0_c1 := chk1_ok i (wdN TN) (wd tbE (k0_off1 i) (k0_off1_inb i) TE) (wd tbE (k0_off2 i) (k0_off2_inb i) TE) 0#32 (.inl rfl)
  have k0_c3 := chk3_ok i (wdN TN) (wd tbE (k0_off1 i) (k0_off1_inb i) TE) (wd tbE (k0_off2 i) (k0_off2_inb i) TE) _ he
  have k0_c4 := chk4_ok i (wdN TN) (wd tbE (k0_off1 i) (k0_off1_inb i) TE) (wd tbE (k0_off2 i) (k0_off2_inb i) TE) 0#32 (wd tbX (k0_off21 i) (k0_off21_inb i) TX) (.inl rfl)
  unfold tabs lands wWhole wRest flight curs owns bodyAt
  rw [cc0_moe_experts_eq_skeleton]; unfold cc0_moe_experts_skel
  iintro ⟨⟨HTN, HTE, HTX, HTP⟩, H5, ⟨%d9, %f9, -, H9⟩, ⟨HA, HB, HC⟩, HF, Hq, ⟨HhA, HhB, HhC⟩, HW, Hk⟩
  unfold deliv
  set_option sl_exec.stopBefore "k0_part1" in sl_exec (disch := first | sl_exact k0_h1 | sl_exact k0_h5 | sl_exact k0_h2)
  sl_unfold [k0_part1]
  sl_whnfR [smemLoad]
  sl_rw [smemLoadElt_bind]
  sl_rw [smemLoadElt_bind]
  named_smem HTP 0#32 (hP.symm)
  sl_exec! (disch := first | sl_exact k0_c1 | sl_exact k0_c3 | sl_exact k0_c4 | sl_exact k0_h1 | sl_exact k0_h5 | sl_exact k0_h2 | sl_exact k0_h3 | sl_exact k0_h4)
  sl_step
  iapply Hk
  isplitl [HTN HTE HTX HTP]
  · isplitl [HTN]; · iexact HTN
    isplitl [HTE]; · iexact HTE
    isplitl [HTX]; · iexact HTX
    iexact HTP
  isplitl [H5]; · iexact H5
  isplitl [H9]; · iexists _; iexact H9
  isplitl [HA HB HC]
  · isplitl [HA]; · iexact HA
    isplitl [HB]; · iexact HB
    iexact HC
  isplitl [HF_dst0 HF_dst1 HF_dst2]
  · isplitl [HF_dst0]; · iexact HF_dst0
    isplitl [HF_dst1]; · iexact HF_dst1
    iexact HF_dst2
  isplitl [HF]; · iexact HF
  isplitl [Hq]; · iexact Hq
  isplitl [HhA HhB HhC]
  · isplitl [HhA]; · iexact HhA
    isplitl [HhB]; · iexact HhB
    iexact HhC
  iexists _; iexact HW

end Cert.KernelIdeal.Hand
end
-- ==== Proof.BodyNew1.lean ====
module
public import proofs.«01_k».proof.Proof.BodyFirst
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 40000000 in
set_option maxRecDepth 65536 in
/-- A tile of a new expert whose weights are in flight, another expert to follow. -/
theorem run_new1_next (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (he : (wd tbE (k0_off11 i) (k0_off11_inb i) TE).toNat < 32)
    (hn : (wd tbX (k0_off22 i) (k0_off22_inb i) TX).toNat < 32)
    (hP : wd tbP (k0_off3 i) (k0_off3_inb i) TP = 1#32)
    (k0_h1 : k0_cond1 i (wdN TN) = 1#1) (k0_h5 : ¬ (k0_cond5 i (wdN TN) = 1#1))
    (k0_h2 : k0_cond2 i (wd tbE (k0_off1 i) (k0_off1_inb i) TE) (wd tbE (k0_off2 i) (k0_off2_inb i) TE) = 1#1)
    (k0_h3 : ¬ (k0_cond3 i = 1#1)) (k0_h4 : k0_cond4 (wd tbX (k0_off21 i) (k0_off21_inb i) TX) = 1#1)
    (w1 : BufOf F c hbA) (w3 : BufOf F c hbB) (w2 : BufOf F c hbC)
    (fA : BufOf F c lnA) (fB : BufOf F c lnB) (fC : BufOf F c lnC) (gA : BufOf F c scA) (gB : BufOf F c scB) (gC : BufOf F c scC)
    (W : Waits sig Unit) (K : PUnit → sProp (RM F)) :
    iprop(tabs c TN TE TX TP ∗ (arg5.view.loc (c : Thread nD τ) ↦[arg5.view.set]{fullShare} arg5.view.rep x) ∗ (∃ d, owns (c : Thread nD τ) arg9 fullShare d) ∗ curs c gA gB gC ∗ flight c 5 (wd tbE (k0_off11 i) (k0_off11_inb i) TE) he 1 (by omega) w1 w3 w2 fA fB fC ∗ semVal ((c : Thread nD τ), SemLoc.dma (4 : Fin 6)) 0 ∗ wRest c (wd tbE (k0_off11 i) (k0_off11_inb i) TE) he w1 w3 w2 ∗ owes (c : Thread nD τ) 0 W
        ∗ (iprop(tabs c TN TE TX TP ∗ (arg5.view.loc (c : Thread nD τ) ↦[arg5.view.set]{fullShare} arg5.view.rep x)
            ∗ (∃ f, arg9.view.loc (c : Thread nD τ) ↦[arg9.view.set]{fullShare} arg9.view.writes (Elt F) f (outP arg5 x (rdA c (cntA c (wd tbE (k0_off11 i) (k0_off11_inb i) TE) he 1 (by omega) w1 fA)) (rdB c (cntB c (wd tbE (k0_off11 i) (k0_off11_inb i) TE) he 1 (by omega) w3 fB)) (rdC c (cntC c (wd tbE (k0_off11 i) (k0_off11_inb i) TE) he 1 (by omega) w2 fC))))
            ∗ curs c (cntA c (wd tbE (k0_off11 i) (k0_off11_inb i) TE) he 1 (by omega) w1 fA) (cntB c (wd tbE (k0_off11 i) (k0_off11_inb i) TE) he 1 (by omega) w3 fB) (cntC c (wd tbE (k0_off11 i) (k0_off11_inb i) TE) he 1 (by omega) w2 fC) ∗ flight c 4 (wd tbX (k0_off22 i) (k0_off22_inb i) TX) hn 0 (by omega) w1 w3 w2 (landAB c hbA (wd tbE (k0_off11 i) (k0_off11_inb i) TE) he lnA 1 (by omega) w1 fA) (landAB c hbB (wd tbE (k0_off11 i) (k0_off11_inb i) TE) he lnB 1 (by omega) w3 fB) (landC c hbC (wd tbE (k0_off11 i) (k0_off11_inb i) TE) he lnC 1 (by omega) w2 fC) ∗ semVal ((c : Thread nD τ), SemLoc.dma (5 : Fin 6)) 0 ∗ wRest c (wd tbX (k0_off22 i) (k0_off22_inb i) TX) hn w1 w3 w2 ∗ (∃ W', owes (c : Thread nD τ) 0 W')) -∗ K ⟨⟩))
      ⊢ wp frame (wpE (defs₀ (F := F)) Variants.none c none) Set.univ (bodyAt (F := F) i arg5 harg5 arg9 harg9) K := by
  have k0_c1 := chk1_ok i (wdN TN) (wd tbE (k0_off1 i) (k0_off1_inb i) TE) (wd tbE (k0_off2 i) (k0_off2_inb i) TE) 1#32 (.inr rfl)
  have k0_c3 := chk3_ok i (wdN TN) (wd tbE (k0_off1 i) (k0_off1_inb i) TE) (wd tbE (k0_off2 i) (k0_off2_inb i) TE) _ he
  have k0_c4 := chk4_ok i (wdN TN) (wd tbE (k0_off1 i) (k0_off1_inb i) TE) (wd tbE (k0_off2 i) (k0_off2_inb i) TE) 1#32 (wd tbX (k0_off21 i) (k0_off21_inb i) TX) (.inr rfl)
  have k0_c5 := chk5_ok i (wdN TN) (wd tbE (k0_off1 i) (k0_off1_inb i) TE) (wd tbE (k0_off2 i) (k0_off2_inb i) TE) (wd tbX (k0_off21 i) (k0_off21_inb i) TX) _ hn
  unfold tabs wRest flight curs owns bodyAt
  rw [cc0_moe_experts_eq_skeleton]; unfold cc0_moe_experts_skel
  iintro ⟨⟨HTN, HTE, HTX, HTP⟩, H5, ⟨%d9, %f9, -, H9⟩, ⟨HA, HB, HC⟩, HF, Hq, ⟨HhA, HhB, HhC⟩, HW, Hk⟩
  imod (Transfers.batch_alloc' (Lvl := ℕ) (countersEmb (U := Pipeline.UD sig nD τ)) (c : Thread nD τ) () NB (deliv c (wd tbX (k0_off22 i) (k0_off22_inb i) TX) hn 0 (by omega) w1 w3 w2
      (landAB c hbA (wd tbE (k0_off11 i) (k0_off11_inb i) TE) he lnA 1 (by omega) w1 fA) (landAB c hbB (wd tbE (k0_off11 i) (k0_off11_inb i) TE) he lnB 1 (by omega) w3 fB) (landC c hbC (wd tbE (k0_off11 i) (k0_off11_inb i) TE) he lnC 1 (by omega) w2 fC)) (sm := .dma (4 : Fin 6)) (E := Set.univ)) $$ Hq with HG
  unfold deliv
  set_option sl_exec.stopBefore "k0_part1" in sl_exec (disch := first | sl_exact k0_h1 | sl_exact k0_h5 | sl_exact k0_h2)
  sl_unfold [k0_part1]
  sl_whnfR [smemLoad]
  sl_rw [smemLoadElt_bind]
  sl_rw [smemLoadElt_bind]
  named_smem HTP 1#32 (hP.symm)
  sl_exec! (disch := first | sl_exact k0_c1 | sl_exact k0_c3 | sl_exact k0_c4 | sl_exact k0_h1 | sl_exact k0_h5 | sl_exact k0_h2 | sl_exact k0_h3 | sl_exact k0_h4 | sl_exact k0_c5)
  sl_step
  iapply Hk
  isplitl [HTN HTE HTX HTP]
  · isplitl [HTN]; · iexact HTN
    isplitl [HTE]; · iexact HTE
    isplitl [HTX]; · iexact HTX
    iexact HTP
  isplitl [H5]; · iexact H5
  isplitl [H9]; · iexists _; iexact H9
  isplitl [HA HB HC]
  · isplitl [HA]; · iexact HA
    isplitl [HB]; · iexact HB
    iexact HC
  isplitl [HG]; · iexact HG
  isplitl [HF]; · iexact HF
  isplitl [HhA HhB HhC]
  · isplitl [HhA]; · iexact HhA
    isplitl [HhB]; · iexact HhB
    iexact HhC
  iexists _; iexact HW

set_option maxHeartbeats 40000000 in
set_option maxRecDepth 65536 in
/-- A tile of a new expert whose weights are in flight, no further expert. -/
theorem run_new1_last (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (he : (wd tbE (k0_off11 i) (k0_off11_inb i) TE).toNat < 32)
    (hP : wd tbP (k0_off3 i) (k0_off3_inb i) TP = 1#32)
    (k0_h1 : k0_cond1 i (wdN TN) = 1#1) (k0_h5 : ¬ (k0_cond5 i (wdN TN) = 1#1))
    (k0_h2 : k0_cond2 i (wd tbE (k0_off1 i) (k0_off1_inb i) TE) (wd tbE (k0_off2 i) (k0_off2_inb i) TE) = 1#1)
    (k0_h3 : ¬ (k0_cond3 i = 1#1)) (k0_h4 : ¬ (k0_cond4 (wd tbX (k0_off21 i) (k0_off21_inb i) TX) = 1#1))
    (w1 : BufOf F c hbA) (w3 : BufOf F c hbB) (w2 : BufOf F c hbC)
    (fA : BufOf F c lnA) (fB : BufOf F c lnB) (fC : BufOf F c lnC) (gA : BufOf F c scA) (gB : BufOf F c scB) (gC : BufOf F c scC)
    (W : Waits sig Unit) (K : PUnit → sProp (RM F)) :
    iprop(tabs c TN TE TX TP ∗ (arg5.view.loc (c : Thread nD τ) ↦[arg5.view.set]{fullShare} arg5.view.rep x) ∗ (∃ d, owns (c : Thread nD τ) arg9 fullShare d) ∗ curs c gA gB gC ∗ flight c 5 (wd tbE (k0_off11 i) (k0_off11_inb i) TE) he 1 (by omega) w1 w3 w2 fA fB fC ∗ semVal ((c : Thread nD τ), SemLoc.dma (4 : Fin 6)) 0 ∗ wRest c (wd tbE (k0_off11 i) (k0_off11_inb i) TE) he w1 w3 w2 ∗ owes (c : Thread nD τ) 0 W
        ∗ (iprop(tabs c TN TE TX TP ∗ (arg5.view.loc (c : Thread nD τ) ↦[arg5.view.set]{fullShare} arg5.view.rep x)
            ∗ (∃ f, arg9.view.loc (c : Thread nD τ) ↦[arg9.view.set]{fullShare} arg9.view.writes (Elt F) f (outP arg5 x (rdA c (cntA c (wd tbE (k0_off11 i) (k0_off11_inb i) TE) he 1 (by omega) w1 fA)) (rdB c (cntB c (wd tbE (k0_off11 i) (k0_off11_inb i) TE) he 1 (by omega) w3 fB)) (rdC c (cntC c (wd tbE (k0_off11 i) (k0_off11_inb i) TE) he 1 (by omega) w2 fC))))
            ∗ curs c (cntA c (wd tbE (k0_off11 i) (k0_off11_inb i) TE) he 1 (by omega) w1 fA) (cntB c (wd tbE (k0_off11 i) (k0_off11_inb i) TE) he 1 (by omega) w3 fB) (cntC c (wd tbE (k0_off11 i) (k0_off11_inb i) TE) he 1 (by omega) w2 fC) ∗ lands c (landAB c hbA (wd tbE (k0_off11 i) (k0_off11_inb i) TE) he lnA 1 (by omega) w1 fA) (landAB c hbB (wd tbE (k0_off11 i) (k0_off11_inb i) TE) he lnB 1 (by omega) w3 fB) (landC c hbC (wd tbE (k0_off11 i) (k0_off11_inb i) TE) he lnC 1 (by omega) w2 fC) ∗ semVal ((c : Thread nD τ), SemLoc.dma (5 : Fin 6)) 0 ∗ semVal ((c : Thread nD τ), SemLoc.dma (4 : Fin 6)) 0 ∗ wWhole c w1 w3 w2 ∗ (∃ W', owes (c : Thread nD τ) 0 W')) -∗ K ⟨⟩))
      ⊢ wp frame (wpE (defs₀ (F := F)) Variants.none c none) Set.univ (bodyAt (F := F) i arg5 harg5 arg9 harg9) K := by
  have k0_c1 := chk1_ok i (wdN TN) (wd tbE (k0_off1 i) (k0_off1_inb i) TE) (wd tbE (k0_off2 i) (k0_off2_inb i) TE) 1#32 (.inr rfl)
  have k0_c3 := chk3_ok i (wdN TN) (wd tbE (k0_off1 i) (k0_off1_inb i) TE) (wd tbE (k0_off2 i) (k0_off2_inb i) TE) _ he
  have k0_c4 := chk4_ok i (wdN TN) (wd tbE (k0_off1 i) (k0_off1_inb i) TE) (wd tbE (k0_off2 i) (k0_off2_inb i) TE) 1#32 (wd tbX (k0_off21 i) (k0_off21_inb i) TX) (.inr rfl)
  unfold tabs lands wWhole wRest flight curs owns bodyAt
  rw [cc0_moe_experts_eq_skeleton]; unfold cc0_moe_experts_skel
  iintro ⟨⟨HTN, HTE, HTX, HTP⟩, H5, ⟨%d9, %f9, -, H9⟩, ⟨HA, HB, HC⟩, HF, Hq, ⟨HhA, HhB, HhC⟩, HW, Hk⟩
  unfold deliv
  set_option sl_exec.stopBefore "k0_part1" in sl_exec (disch := first | sl_exact k0_h1 | sl_exact k0_h5 | sl_exact k0_h2)
  sl_unfold [k0_part1]
  sl_whnfR [smemLoad]
  sl_rw [smemLoadElt_bind]
  sl_rw [smemLoadElt_bind]
  named_smem HTP 1#32 (hP.symm)
  sl_exec! (disch := first | sl_exact k0_c1 | sl_exact k0_c3 | sl_exact k0_c4 | sl_exact k0_h1 | sl_exact k0_h5 | sl_exact k0_h2 | sl_exact k0_h3 | sl_exact k0_h4)
  sl_step
  iapply Hk
  isplitl [HTN HTE HTX HTP]
  · isplitl [HTN]; · iexact HTN
    isplitl [HTE]; · iexact HTE
    isplitl [HTX]; · iexact HTX
    iexact HTP
  isplitl [H5]; · iexact H5
  isplitl [H9]; · iexists _; iexact H9
  isplitl [HA HB HC]
  · isplitl [HA]; · iexact HA
    isplitl [HB]; · iexact HB
    iexact HC
  isplitl [HF_dst0 HF_dst1 HF_dst2]
  · isplitl [HF_dst0]; · iexact HF_dst0
    isplitl [HF_dst1]; · iexact HF_dst1
    iexact HF_dst2
  isplitl [HF]; · iexact HF
  isplitl [Hq]; · iexact Hq
  isplitl [HhA HhB HhC]
  · isplitl [HhA]; · iexact HhA
    isplitl [HhB]; · iexact HhB
    iexact HhC
  iexists _; iexact HW

end Cert.KernelIdeal.Hand
end
-- ==== Proof.Slot.lean ====
/-
  Hand-written, untrusted. What the current expert's buffers hold after the casts: the expert's own matrix at
  16 bits, whichever slot it landed in and whatever the landing buffer held.
-/
module
public import proofs.«01_k».proof.Proof.Ends
public import Idealize.ShloMosaic.Lib.VecWindow
public import Idealize.ShloMosaic.Lib.Pipeline.Value
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- An expert's matrices of layer 0 at 16 bits. -/
def exA (c : Dev nD) (w : BufOf F c hbA) (e : BitVec 32) : Vec F S1024x512 .bf16 :=
  if he : e.toNat < 32 then
    shapeCast S1024x512 (truncf .bf16 ((srcAB hbA e (inWA e he)).view.read (Elt F) w : FVec F S1024x512 .f32) bitsLt_bf16_f32) shapeCasts_S1024x512_S1024x512
  else fun _ => Scalar.ofBits .bf16 0#16
def exB (c : Dev nD) (w : BufOf F c hbB) (e : BitVec 32) : Vec F S1024x512 .bf16 :=
  if he : e.toNat < 32 then
    shapeCast S1024x512 (truncf .bf16 ((srcAB hbB e (inWA e he)).view.read (Elt F) w : FVec F S1024x512 .f32) bitsLt_bf16_f32) shapeCasts_S1024x512_S1024x512
  else fun _ => Scalar.ofBits .bf16 0#16
def exC (c : Dev nD) (w : BufOf F c hbC) (e : BitVec 32) : Vec F S512x1024 .bf16 :=
  if he : e.toNat < 32 then
    shapeCast S512x1024 (truncf .bf16 ((srcC hbC e (inWC e he)).view.read (Elt F) w : FVec F S512x1024 .f32) bitsLt_bf16_f32) shapeCasts_S512x1024_S512x1024
  else fun _ => Scalar.ofBits .bf16 0#16

theorem slotA (c : Dev nD) (rs : Memref sig .tc .hbm S2x32x1024x512 .f32) (e : BitVec 32) (he : e.toNat < 32)
    (rd : Memref sig .tc .vmem S2x1024x512 .f32) (k : ℕ) (hk : k < 2) (fs : BufOf F c rs) (fd : BufOf F c rd) :
    shapeCast S1024x512 (View.readAt (Elt F) rd.view (Rect.unit (s := S2x1024x512) ![k, 0, 0] S1x1024x512.size (inA k hk)).toLoadRect (landAB c rs e he rd k hk fs fd)) shapeCasts_S1x1024x512_S1024x512
      = (srcAB rs e (inWA e he)).view.read (Elt F) fs :=
  (Memref.read_squeeze_slice rd (Rect.unit (s := S2x1024x512) ![k, 0, 0] S1x1024x512.size (inA k hk)) (fun _ => rfl) squeezes_S1x1024x512_S1024x512 shapeCasts_S1x1024x512_S1024x512 _).symm.trans
    (View.read_write_univ (v := (sltAB rd k (inA k hk)).view) fd _)
theorem slotC (c : Dev nD) (rs : Memref sig .tc .hbm S2x32x512x1024 .f32) (e : BitVec 32) (he : e.toNat < 32)
    (rd : Memref sig .tc .vmem S2x512x1024 .f32) (k : ℕ) (hk : k < 2) (fs : BufOf F c rs) (fd : BufOf F c rd) :
    shapeCast S512x1024 (View.readAt (Elt F) rd.view (Rect.unit (s := S2x512x1024) ![k, 0, 0] S1x512x1024.size (inC k hk)).toLoadRect (landC c rs e he rd k hk fs fd)) shapeCasts_S1x512x1024_S512x1024
      = (srcC rs e (inWC e he)).view.read (Elt F) fs :=
  (Memref.read_squeeze_slice rd (Rect.unit (s := S2x512x1024) ![k, 0, 0] S1x512x1024.size (inC k hk)) (fun _ => rfl) squeezes_S1x512x1024_S512x1024 shapeCasts_S1x512x1024_S512x1024 _).symm.trans
    (View.read_write_univ (v := (sltC rd k (inC k hk)).view) fd _)

theorem rdA_cntA (c : Dev nD) (e : BitVec 32) (he : e.toNat < 32) (k : ℕ) (hk : k < 2) (w : BufOf F c hbA) (f : BufOf F c lnA) :
    rdA c (cntA c e he k hk w f) = exA c w e := by
  unfold rdA cntA exA
  rw [dif_pos he]
  refine (View.readAt_writes_full scA.view _ inb_S1024x512_S1024x512_0_0 inb_S1024x512_S1024x512_0_0 _ []).trans ?_
  unfold k0_pay11
  rw [slotA c hbA e he lnA k hk w f]
theorem rdB_cntB (c : Dev nD) (e : BitVec 32) (he : e.toNat < 32) (k : ℕ) (hk : k < 2) (w : BufOf F c hbB) (f : BufOf F c lnB) :
    rdB c (cntB c e he k hk w f) = exB c w e := by
  unfold rdB cntB exB
  rw [dif_pos he]
  refine (View.readAt_writes_full scB.view _ inb_S1024x512_S1024x512_0_0 inb_S1024x512_S1024x512_0_0 _ []).trans ?_
  unfold k0_pay12
  rw [slotA c hbB e he lnB k hk w f]
theorem rdC_cntC (c : Dev nD) (e : BitVec 32) (he : e.toNat < 32) (k : ℕ) (hk : k < 2) (w : BufOf F c hbC) (f : BufOf F c lnC) :
    rdC c (cntC c e he k hk w f) = exC c w e := by
  unfold rdC cntC exC
  rw [dif_pos he]
  refine (View.readAt_writes_full scC.view _ inb_S512x1024_S512x1024_0_0 inb_S512x1024_S512x1024_0_0 _ []).trans ?_
  unfold k0_pay13
  rw [slotC c hbC e he lnC k hk w f]

end Cert.KernelIdeal.Hand
end
-- ==== Proof.Points.lean ====
/-
  Hand-written, untrusted. The words the experts' body reads and the conditions it takes, at a grid point, in terms of
  the tables' entries.
-/
module
public import proofs.«01_k».proof.Proof.Ends
public import Idealize.ShloMosaic.Lib.WordCmp
public import Idealize.ShloMosaic.Lib.WordArith
public import Idealize.ShloMosaic.Lib.Affine
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A table's entry. -/
def tw (T : S167.Idx → BitVec 32) (n : ℕ) : BitVec 32 := if h : n < 167 then T (fun a => ⟨n, lt_of_lt_of_eq h (by rw [Subsingleton.elim a (0 : Fin 1)]; rfl)⟩) else 0#32

theorem wdE_eq {c : Dev nD} (off : Fin 1 → ℕ) (h : ∀ a, off a + S1.size a ≤ S167.size a) (T : BufOf F c tbE) : wd tbE off h T = tw T (off 0) := by
  have h0 : off 0 < 167 := Nat.lt_of_succ_le (h 0)
  unfold tw; rw [dif_pos h0]
  refine congrArg T (funext fun a => Fin.ext ?_)
  have ha : a = (0 : Fin 1) := Subsingleton.elim (α := Fin 1) _ _
  subst ha; rfl
theorem wdX_eq {c : Dev nD} (off : Fin 1 → ℕ) (h : ∀ a, off a + S1.size a ≤ S167.size a) (T : BufOf F c tbX) : wd tbX off h T = tw T (off 0) := by
  have h0 : off 0 < 167 := Nat.lt_of_succ_le (h 0)
  unfold tw; rw [dif_pos h0]
  refine congrArg T (funext fun a => Fin.ext ?_)
  have ha : a = (0 : Fin 1) := Subsingleton.elim (α := Fin 1) _ _
  subst ha; rfl
theorem wdP_eq {c : Dev nD} (off : Fin 1 → ℕ) (h : ∀ a, off a + S1.size a ≤ S167.size a) (T : BufOf F c tbP) : wd tbP off h T = tw T (off 0) := by
  have h0 : off 0 < 167 := Nat.lt_of_succ_le (h 0)
  unfold tw; rw [dif_pos h0]
  refine congrArg T (funext fun a => Fin.ext ?_)
  have ha : a = (0 : Fin 1) := Subsingleton.elim (α := Fin 1) _ _
  subst ha; rfl
/-- The number of tiles in use, the one entry of its table. -/
def twN (T : S1.Idx → BitVec 32) : BitVec 32 := T (fun a => ⟨0, lt_of_lt_of_eq Nat.one_pos (by rw [Subsingleton.elim a (0 : Fin 1)]; rfl)⟩)
theorem wdN_eq {c : Dev nD} (T : BufOf F c tbN) : wdN T = twN T := by
  unfold twN
  refine congrArg T (funext fun a => Fin.ext ?_)
  have ha : a = (0 : Fin 1) := Subsingleton.elim (α := Fin 1) _ _
  subst ha; rfl

theorem ixn (i : grid0.Coords) : (i 0).val < 167 := (i 0).isLt
theorem off1_0 (i : grid0.Coords) : k0_off1 i 0 = (i 0).val := by
  have := ixn i
  show (BitVec.ofNat 32 (i 0).val).toNat = _
  rw [BitVec.toNat_ofNat]; omega
theorem off3_0 (i : grid0.Coords) : k0_off3 i 0 = (i 0).val := off1_0 i
theorem off11_0 (i : grid0.Coords) : k0_off11 i 0 = (i 0).val := off1_0 i
theorem off21_0 (i : grid0.Coords) : k0_off21 i 0 = (i 0).val := off1_0 i
theorem off22_0 (i : grid0.Coords) : k0_off22 i 0 = (i 0).val := off1_0 i
theorem off2_0 (i : grid0.Coords) : k0_off2 i 0 = (i 0).val - 1 := by
  have h := ixn i
  show (Scalar.maxsi (Scalar.subi (BitVec.ofNat 32 (i 0).val) 1#32) 0#32).toNat = _
  obtain h0 | h0 := Nat.eq_zero_or_pos (i 0).val
  · rw [h0]; decide
  · have e : Scalar.subi (BitVec.ofNat 32 (i 0).val) 1#32 = BitVec.ofNat 32 ((i 0).val - 1) := by
      apply BitVec.eq_of_toNat_eq
      show (BitVec.ofNat 32 (i 0).val - 1#32).toNat = _
      rw [BitVec.toNat_sub, BitVec.toNat_ofNat, BitVec.toNat_ofNat, BitVec.toNat_ofNat]; omega
    have hn : (BitVec.ofNat 32 ((i 0).val - 1)).toNat = (i 0).val - 1 := by rw [BitVec.toNat_ofNat]; omega
    rw [e, show Scalar.maxsi (BitVec.ofNat 32 ((i 0).val - 1)) 0#32 = BitVec.ofNat 32 ((i 0).val - 1) from Scalar.maxsi_zero_of_nonneg (by rw [hn]; omega), hn]

/-- The body's tests. -/
theorem cond1_iff (i : grid0.Coords) (v : BitVec 32) (N : ℕ) (hN : N ≤ 167) (hv : v = BitVec.ofNat 32 N) : k0_cond1 i v = 1#1 ↔ (i 0).val < N := by
  have h := ixn i
  subst hv
  refine (Scalar.guard_iff _).trans ?_
  unfold Scalar.cmpi
  simp (disch := omega) only [hlo_ix]
theorem cond5_iff (i : grid0.Coords) (v : BitVec 32) (N : ℕ) (hN : N ≤ 167) (hv : v = BitVec.ofNat 32 N) : k0_cond5 i v = 1#1 ↔ N ≤ (i 0).val := by
  have h := ixn i
  subst hv
  refine (Scalar.guard_iff _).trans ?_
  unfold Scalar.cmpi
  simp (disch := omega) only [hlo_ix]
theorem cond3_iff (i : grid0.Coords) : k0_cond3 i = 1#1 ↔ (i 0).val = 0 := by
  have h := ixn i
  refine (Scalar.guard_iff _).trans ?_
  unfold Scalar.cmpi
  simp (disch := omega) only [hlo_ix]
theorem cond2_iff (i : grid0.Coords) (u v : BitVec 32) : k0_cond2 i u v = 1#1 ↔ (i 0).val = 0 ∨ u ≠ v := by
  have h := ixn i
  refine (Scalar.guard_iff _).trans ?_
  unfold Scalar.cmpi Scalar.ori
  rw [WordCmp.cmpi_ne_eq u v]
  simp (disch := omega) only [hlo_ix]
theorem cond4_iff (v : BitVec 32) : k0_cond4 v = 1#1 ↔ 2 * v.toNat < 2 ^ 32 :=
  (Scalar.guard_iff _).trans (Scalar.nonneg_iff v)

end Cert.KernelIdeal.Hand
end
-- ==== Proof.Step.lean ====
/-
  Hand-written, untrusted. The invariant between grid points, and that the body carries it from a point to the next:
  the current expert's weights are in place, and the next expert's three copies are in flight exactly when the tables
  name a next expert.
-/
module
public import proofs.«01_k».proof.Proof.Body
public import proofs.«01_k».proof.Proof.BodyFirst
public import proofs.«01_k».proof.Proof.BodyNew0
public import proofs.«01_k».proof.Proof.BodyNew1
public import proofs.«01_k».proof.Proof.Slot
public import proofs.«01_k».proof.Proof.Points
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the body needs of the tables: experts in range, the slots alternating from expert to expert, the next expert
    named at every tile of an expert that has one and at no tile of the last. -/
structure TabOK (E X P : ℕ → BitVec 32) (N : ℕ) : Prop where
  hN : N ≤ 167
  e : ∀ n, n < N → (E n).toNat < 32
  x : ∀ n, n < N → (X n).toNat < 32 ∨ 2 ^ 31 ≤ (X n).toNat
  p0 : 0 < N → P 0 = 0#32
  p : ∀ n, n < N → P n = 0#32 ∨ P n = 1#32
  same : ∀ n, n + 1 < N → E (n + 1) = E n → X (n + 1) = X n ∧ P (n + 1) = P n
  new : ∀ n, n + 1 < N → E (n + 1) ≠ E n → X n = E (n + 1) ∧ (P n = 0#32 → P (n + 1) = 1#32) ∧ (P n = 1#32 → P (n + 1) = 0#32)
  last : 0 < N → 2 ^ 31 ≤ (X (N - 1)).toNat

/-- A next expert is in flight before point `n`. -/
def pend (X : ℕ → BitVec 32) (N n : ℕ) : Prop := 0 < n ∧ n ≤ N ∧ (X (n - 1)).toNat < 2 ^ 31

/-- No copy in flight. -/
def Quiet (c : Dev nD) (w1 : BufOf F c hbA) (w3 : BufOf F c hbB) (w2 : BufOf F c hbC) : sProp (RM F) :=
  iprop(∃ fA fB fC, lands c fA fB fC ∗ semVal ((c : Thread nD τ), SemLoc.dma (4 : Fin 6)) 0 ∗ semVal ((c : Thread nD τ), SemLoc.dma (5 : Fin 6)) 0 ∗ wWhole c w1 w3 w2)
/-- An expert's copies in flight into slot 0, into slot 1. -/
def Fly0 (c : Dev nD) (e : BitVec 32) (w1 : BufOf F c hbA) (w3 : BufOf F c hbB) (w2 : BufOf F c hbC) : sProp (RM F) :=
  iprop(∃ (he : e.toNat < 32), ∃ fA fB fC, flight c 4 e he 0 (by omega) w1 w3 w2 fA fB fC ∗ semVal ((c : Thread nD τ), SemLoc.dma (5 : Fin 6)) 0 ∗ wRest c e he w1 w3 w2)
def Fly1 (c : Dev nD) (e : BitVec 32) (w1 : BufOf F c hbA) (w3 : BufOf F c hbB) (w2 : BufOf F c hbC) : sProp (RM F) :=
  iprop(∃ (he : e.toNat < 32), ∃ fA fB fC, flight c 5 e he 1 (by omega) w1 w3 w2 fA fB fC ∗ semVal ((c : Thread nD τ), SemLoc.dma (4 : Fin 6)) 0 ∗ wRest c e he w1 w3 w2)
/-- The copies before point `n`. -/
def Tr (c : Dev nD) (X P : ℕ → BitVec 32) (N : ℕ) (w1 : BufOf F c hbA) (w3 : BufOf F c hbB) (w2 : BufOf F c hbC) (n : ℕ) : sProp (RM F) :=
  iprop((⌜¬ pend X N n⌝ ∗ Quiet c w1 w3 w2) ∨ (∃ e, ⌜pend X N n ∧ e = X (n - 1) ∧ P (n - 1) = 1#32⌝ ∗ Fly0 c e w1 w3 w2)
    ∨ (∃ e, ⌜pend X N n ∧ e = X (n - 1) ∧ P (n - 1) = 0#32⌝ ∗ Fly1 c e w1 w3 w2))
/-- The current expert's weights before point `n`. -/
def Cur (c : Dev nD) (E : ℕ → BitVec 32) (N : ℕ) (w1 : BufOf F c hbA) (w3 : BufOf F c hbB) (w2 : BufOf F c hbC) (n : ℕ) : sProp (RM F) :=
  iprop(∃ gA gB gC, ⌜0 < n → n ≤ N → rdA c gA = exA c w1 (E (n - 1)) ∧ rdB c gB = exB c w3 (E (n - 1)) ∧ rdC c gC = exC c w2 (E (n - 1))⌝ ∗ curs c gA gB gC)
/-- What the body stores at point `n`. -/
def pcs (c : Dev nD) (E : ℕ → BitVec 32) (N : ℕ) (arg5 : Memref sig .tc .vmem S2048x128 .f32) (x : Vec F S2048x128 .f32)
    (w1 : BufOf F c hbA) (w3 : BufOf F c hbB) (w2 : BufOf F c hbC) (n : ℕ) : List (View.Piece (Elt F) S2048x128 .f32) :=
  if n < N then outP arg5 x (exA c w1 (E n)) (exB c w3 (E n)) (exC c w2 (E n)) else outZ

section
variable (c : Dev nD) (i : grid0.Coords) (arg5 : Memref sig .tc .vmem S2048x128 .f32) (harg5 : arg5.IsWhole)
    (arg9 : Memref sig .tc .vmem S2048x128 .f32) (harg9 : arg9.IsWhole)
    (TE : BufOf F c tbE) (TN : BufOf F c tbN) (TX : BufOf F c tbX) (TP : BufOf F c tbP) (x : Vec F S2048x128 .f32)
    (N : ℕ) (hw : twN TN = BitVec.ofNat 32 N) (ok : TabOK (tw TE) (tw TX) (tw TP) N)
    (w1 : BufOf F c hbA) (w3 : BufOf F c hbB) (w2 : BufOf F c hbC)
    (gA : BufOf F c scA) (gB : BufOf F c scB) (gC : BufOf F c scC)
    (W : Waits sig Unit) (K : PUnit → sProp (RM F))

/-- The goal's hypotheses and the goal of every case: the tables, the tile's rows, its output, the current weights, the
    copies as `T` says, what the core owes. -/
def pre0_ (T : sProp (RM F)) : sProp (RM F) :=
  iprop(tabs c TN TE TX TP ∗ curs c gA gB gC ∗ T
    ∗ (arg5.view.loc (c : Thread nD τ) ↦[arg5.view.set]{fullShare} arg5.view.rep x) ∗ (∃ d, owns (c : Thread nD τ) arg9 fullShare d) ∗ owes (c : Thread nD τ) 0 W
    ∗ (iprop(tabs c TN TE TX TP ∗ Cur c (tw TE) N w1 w3 w2 ((i 0).val + 1) ∗ Tr c (tw TX) (tw TP) N w1 w3 w2 ((i 0).val + 1)
        ∗ (arg5.view.loc (c : Thread nD τ) ↦[arg5.view.set]{fullShare} arg5.view.rep x)
        ∗ (∃ f, arg9.view.loc (c : Thread nD τ) ↦[arg9.view.set]{fullShare} arg9.view.writes (Elt F) f (pcs c (tw TE) N arg5 x w1 w3 w2 (i 0).val))
        ∗ (∃ W', owes (c : Thread nD τ) 0 W')) -∗ K ⟨⟩))

include hw ok in
set_option maxHeartbeats 4000000 in
theorem step_rest (hn : N ≤ (i 0).val) :
    pre0_ c i arg5 arg9 TE TN TX TP x N w1 w3 w2 gA gB gC W K (Tr c (tw TX) (tw TP) N w1 w3 w2 (i 0).val)
      ⊢ wp frame (wpE (defs₀ (F := F)) Variants.none c none) Set.univ (bodyAt (F := F) i arg5 harg5 arg9 harg9) K := by
  have h1 : ¬ (k0_cond1 i (wdN TN) = 1#1) := by rw [wdN_eq, cond1_iff i _ N ok.hN hw]; omega
  have h5 : k0_cond5 i (wdN TN) = 1#1 := by rw [wdN_eq, cond5_iff i _ N ok.hN hw]; omega
  have hp : ¬ pend (tw TX) N (i 0).val := by
    rintro ⟨a, b, d⟩
    have e : (i 0).val = N := by omega
    rw [e] at a d; have := ok.last a; omega
  have hp' : ¬ pend (tw TX) N ((i 0).val + 1) := by
    rintro ⟨a, b, d⟩; omega
  unfold pre0_ Tr Cur pcs
  rw [if_neg (by omega)]
  iintro ⟨HT, HC, HTr, H5, H9, HW, Hk⟩
  iapply (run_rest c i arg5 harg5 arg9 harg9 TE TN TX TP x h1 h5 K)
  isplitl [HT]; · iexact HT
  isplitl [H9]; · iexact H9
  iintro ⟨HT, H9⟩
  iapply Hk
  isplitl [HT]; · iexact HT
  isplitl [HC]
  · iexists gA, gB, gC
    isplitr; swap; · iexact HC
    ipureintro; intro _ h; omega
  isplitl [HTr]
  · icases HTr with (⟨-, HQ⟩ | ⟨%e, %he, HQ⟩ | ⟨%e, %he, HQ⟩)
    · ileft
      isplitr; · ipureintro; exact hp'
      iexact HQ
    · exact absurd he.1 hp
    · exact absurd he.1 hp
  isplitl [H5]; · iexact H5
  isplitl [H9]; · iexact H9
  iexists W; iexact HW

include hw ok in
set_option maxHeartbeats 4000000 in
theorem step_same (hn : (i 0).val < N) (h0 : 0 < (i 0).val) (hE : tw TE (i 0).val = tw TE ((i 0).val - 1))
    (hg : rdA c gA = exA c w1 (tw TE ((i 0).val - 1)) ∧ rdB c gB = exB c w3 (tw TE ((i 0).val - 1)) ∧ rdC c gC = exC c w2 (tw TE ((i 0).val - 1))) :
    pre0_ c i arg5 arg9 TE TN TX TP x N w1 w3 w2 gA gB gC W K (Tr c (tw TX) (tw TP) N w1 w3 w2 (i 0).val)
      ⊢ wp frame (wpE (defs₀ (F := F)) Variants.none c none) Set.univ (bodyAt (F := F) i arg5 harg5 arg9 harg9) K := by
  have h1 : k0_cond1 i (wdN TN) = 1#1 := by rw [wdN_eq, cond1_iff i _ N ok.hN hw]; omega
  have h5 : ¬ (k0_cond5 i (wdN TN) = 1#1) := by rw [wdN_eq, cond5_iff i _ N ok.hN hw]; omega
  have h2 : ¬ (k0_cond2 i (wd tbE (k0_off1 i) (k0_off1_inb i) TE) (wd tbE (k0_off2 i) (k0_off2_inb i) TE) = 1#1) := by
    rw [cond2_iff, wdE_eq, wdE_eq, off1_0, off2_0]
    rintro (h | h)
    · omega
    · exact h hE
  have hs := ok.same ((i 0).val - 1) (by omega) (by rw [Nat.sub_add_cancel h0]; exact hE)
  rw [Nat.sub_add_cancel h0] at hs
  have hpp : pend (tw TX) N (i 0).val ↔ pend (tw TX) N ((i 0).val + 1) := by
    unfold pend; rw [Nat.add_sub_cancel, hs.1]
    exact ⟨fun h => ⟨by omega, by omega, h.2.2⟩, fun h => ⟨by omega, by omega, h.2.2⟩⟩
  obtain ⟨g1, g2, g3⟩ := hg
  rw [← hE] at g1 g2 g3
  unfold pre0_ Tr Cur pcs
  rw [if_pos hn, ← g1, ← g2, ← g3, Nat.add_sub_cancel]
  iintro ⟨HT, HC, HTr, H5, H9, HW, Hk⟩
  iapply (run_same c i arg5 harg5 arg9 harg9 TE TN TX TP x gA gB gC h1 h5 h2 K)
  isplitl [HT]; · iexact HT
  isplitl [H5]; · iexact H5
  isplitl [H9]; · iexact H9
  isplitl [HC]; · iexact HC
  iintro ⟨HT, H5, H9, HC⟩
  iapply Hk
  isplitl [HT]; · iexact HT
  isplitl [HC]
  · iexists gA, gB, gC
    isplitr; swap; · iexact HC
    ipureintro; intro _ h
    refine ⟨?_, ?_, ?_⟩ <;> first | rfl | assumption
  isplitl [HTr]
  · icases HTr with (⟨%hq, HQ⟩ | ⟨%e, %he, HQ⟩ | ⟨%e, %he, HQ⟩)
    · ileft
      isplitr; · ipureintro; exact fun h => hq (hpp.2 h)
      iexact HQ
    · iright; ileft; iexists e
      isplitr; · ipureintro; exact ⟨hpp.1 he.1, he.2.1.trans hs.1.symm, hs.2.trans he.2.2⟩
      iexact HQ
    · iright; iright; iexists e
      isplitr; · ipureintro; exact ⟨hpp.1 he.1, he.2.1.trans hs.1.symm, hs.2.trans he.2.2⟩
      iexact HQ
  isplitl [H5]; · iexact H5
  isplitl [H9]; · iexact H9
  iexists W; iexact HW

include hw ok in
set_option maxHeartbeats 4000000 in
theorem step_first0_next (hn : (i 0).val < N) (h0 : (i 0).val = 0) (hP : tw TP (i 0).val = 0#32) (hX : (tw TX (i 0).val).toNat < 32) :
    pre0_ c i arg5 arg9 TE TN TX TP x N w1 w3 w2 gA gB gC W K (Quiet c w1 w3 w2)
      ⊢ wp frame (wpE (defs₀ (F := F)) Variants.none c none) Set.univ (bodyAt (F := F) i arg5 harg5 arg9 harg9) K := by
  have h1 : k0_cond1 i (wdN TN) = 1#1 := by rw [wdN_eq, cond1_iff i _ N ok.hN hw]; omega
  have h5 : ¬ (k0_cond5 i (wdN TN) = 1#1) := by rw [wdN_eq, cond5_iff i _ N ok.hN hw]; omega
  have h2 : k0_cond2 i (wd tbE (k0_off1 i) (k0_off1_inb i) TE) (wd tbE (k0_off2 i) (k0_off2_inb i) TE) = 1#1 := by
    rw [cond2_iff, wdE_eq, wdE_eq, off1_0, off2_0]
    exact .inl h0
  have h3 : k0_cond3 i = 1#1 := by rw [cond3_iff]; omega
  have h4 : k0_cond4 (wd tbX (k0_off21 i) (k0_off21_inb i) TX) = 1#1 := by
    rw [cond4_iff, wdX_eq, off21_0]; omega
  have eE : tw TE (i 0).val = (wd tbE ![0] inb_S167_S1_0 TE) := by rw [wdE_eq]; rw [h0]; rfl
  have he0 := ok.e _ hn
  have he : (wd tbE ![0] inb_S167_S1_0 TE).toNat < 32 := eE ▸ he0
  have hP' : wd tbP (k0_off3 i) (k0_off3_inb i) TP = 0#32 := by rw [wdP_eq, off3_0]; exact hP
  have he' : (wd tbE (k0_off11 i) (k0_off11_inb i) TE).toNat < 32 := by rw [wdE_eq, off11_0]; exact he0
  have eX : wd tbX (k0_off22 i) (k0_off22_inb i) TX = tw TX (i 0).val := by rw [wdX_eq, off22_0]
  have hn' : (wd tbX (k0_off22 i) (k0_off22_inb i) TX).toNat < 32 := eX ▸ hX
  have hpd : pend (tw TX) N ((i 0).val + 1) := ⟨by omega, by omega, by rw [Nat.add_sub_cancel]; omega⟩
  unfold pre0_ Tr Cur pcs
  rw [if_pos hn, Nat.add_sub_cancel, eE]
  unfold Quiet
  iintro ⟨HT, HC, ⟨%fA, %fB, %fC, HL, Hq4, Hq5, HH⟩, H5, H9, HW, Hk⟩
  rw [← rdA_cntA c _ he 0 (by omega) w1 fA, ← rdB_cntB c _ he 0 (by omega) w3 fB, ← rdC_cntC c _ he 0 (by omega) w2 fC]
  iapply (run_first0_next c i arg5 harg5 arg9 harg9 TE TN TX TP x he he' hn' hP' h1 h5 h2 h3 h4 w1 w3 w2 fA fB fC gA gB gC W K)
  isplitl [HT]; · iexact HT
  isplitl [H5]; · iexact H5
  isplitl [H9]; · iexact H9
  isplitl [HC]; · iexact HC
  isplitl [HL]; · iexact HL
  isplitl [Hq4]; · iexact Hq4
  isplitl [Hq5]; · iexact Hq5
  isplitl [HH]; · iexact HH
  isplitl [HW]; · iexact HW
  iintro ⟨HT, H5, H9, HC, HF, Hq, HR, HW⟩
  iapply Hk
  isplitl [HT]; · iexact HT
  isplitl [HC]
  · iexists (cntA c (wd tbE ![0] inb_S167_S1_0 TE) he 0 (by omega) w1 fA), (cntB c (wd tbE ![0] inb_S167_S1_0 TE) he 0 (by omega) w3 fB), (cntC c (wd tbE ![0] inb_S167_S1_0 TE) he 0 (by omega) w2 fC)
    isplitr; swap; · iexact HC
    ipureintro; intro _ _; exact ⟨rfl, rfl, rfl⟩
  isplitl [HF Hq HR]
  · iright; iright; iexists (wd tbX (k0_off22 i) (k0_off22_inb i) TX)
    isplitr; · ipureintro; exact ⟨hpd, eX, hP⟩
    unfold Fly1
    iexists hn', _, _, _
    isplitl [HF]; · iexact HF
    isplitl [Hq]; · iexact Hq
    iexact HR
  isplitl [H5]; · iexact H5
  isplitl [H9]; · iexact H9
  iexact HW

include hw ok in
set_option maxHeartbeats 4000000 in
theorem step_first0_last (hn : (i 0).val < N) (h0 : (i 0).val = 0) (hP : tw TP (i 0).val = 0#32) (hX : 2 ^ 31 ≤ (tw TX (i 0).val).toNat) :
    pre0_ c i arg5 arg9 TE TN TX TP x N w1 w3 w2 gA gB gC W K (Quiet c w1 w3 w2)
      ⊢ wp frame (wpE (defs₀ (F := F)) Variants.none c none) Set.univ (bodyAt (F := F) i arg5 harg5 arg9 harg9) K := by
  have h1 : k0_cond1 i (wdN TN) = 1#1 := by rw [wdN_eq, cond1_iff i _ N ok.hN hw]; omega
  have h5 : ¬ (k0_cond5 i (wdN TN) = 1#1) := by rw [wdN_eq, cond5_iff i _ N ok.hN hw]; omega
  have h2 : k0_cond2 i (wd tbE (k0_off1 i) (k0_off1_inb i) TE) (wd tbE (k0_off2 i) (k0_off2_inb i) TE) = 1#1 := by
    rw [cond2_iff, wdE_eq, wdE_eq, off1_0, off2_0]
    exact .inl h0
  have h3 : k0_cond3 i = 1#1 := by rw [cond3_iff]; omega
  have h4 : ¬ (k0_cond4 (wd tbX (k0_off21 i) (k0_off21_inb i) TX) = 1#1) := by
    rw [cond4_iff, wdX_eq, off21_0]; omega
  have eE : tw TE (i 0).val = (wd tbE ![0] inb_S167_S1_0 TE) := by rw [wdE_eq]; rw [h0]; rfl
  have he0 := ok.e _ hn
  have he : (wd tbE ![0] inb_S167_S1_0 TE).toNat < 32 := eE ▸ he0
  have hP' : wd tbP (k0_off3 i) (k0_off3_inb i) TP = 0#32 := by rw [wdP_eq, off3_0]; exact hP
  have he' : (wd tbE (k0_off11 i) (k0_off11_inb i) TE).toNat < 32 := by rw [wdE_eq, off11_0]; exact he0
  have hpd : ¬ pend (tw TX) N ((i 0).val + 1) := by
    rintro ⟨_, _, d⟩; rw [Nat.add_sub_cancel] at d; omega
  unfold pre0_ Tr Cur pcs
  rw [if_pos hn, Nat.add_sub_cancel, eE]
  unfold Quiet
  iintro ⟨HT, HC, ⟨%fA, %fB, %fC, HL, Hq4, Hq5, HH⟩, H5, H9, HW, Hk⟩
  rw [← rdA_cntA c _ he 0 (by omega) w1 fA, ← rdB_cntB c _ he 0 (by omega) w3 fB, ← rdC_cntC c _ he 0 (by omega) w2 fC]
  iapply (run_first0_last c i arg5 harg5 arg9 harg9 TE TN TX TP x he he' hP' h1 h5 h2 h3 h4 w1 w3 w2 fA fB fC gA gB gC W K)
  isplitl [HT]; · iexact HT
  isplitl [H5]; · iexact H5
  isplitl [H9]; · iexact H9
  isplitl [HC]; · iexact HC
  isplitl [HL]; · iexact HL
  isplitl [Hq4]; · iexact Hq4
  isplitl [Hq5]; · iexact Hq5
  isplitl [HH]; · iexact HH
  isplitl [HW]; · iexact HW
  iintro ⟨HT, H5, H9, HC, HL, Hq4, Hq5, HH, HW⟩
  iapply Hk
  isplitl [HT]; · iexact HT
  isplitl [HC]
  · iexists (cntA c (wd tbE ![0] inb_S167_S1_0 TE) he 0 (by omega) w1 fA), (cntB c (wd tbE ![0] inb_S167_S1_0 TE) he 0 (by omega) w3 fB), (cntC c (wd tbE ![0] inb_S167_S1_0 TE) he 0 (by omega) w2 fC)
    isplitr; swap; · iexact HC
    ipureintro; intro _ _; exact ⟨rfl, rfl, rfl⟩
  isplitl [HL Hq4 Hq5 HH]
  · ileft
    isplitr; · ipureintro; exact hpd
    try unfold Quiet
    iexists _, _, _
    isplitl [HL]; · iexact HL
    isplitl [Hq4]; · iexact Hq4
    isplitl [Hq5]; · iexact Hq5
    iexact HH
  isplitl [H5]; · iexact H5
  isplitl [H9]; · iexact H9
  iexact HW

include hw ok in
set_option maxHeartbeats 4000000 in
theorem step_new0_next (hn : (i 0).val < N) (h0 : 0 < (i 0).val) (hE : tw TE (i 0).val ≠ tw TE ((i 0).val - 1)) (hP : tw TP (i 0).val = 0#32) (hX : (tw TX (i 0).val).toNat < 32) :
    pre0_ c i arg5 arg9 TE TN TX TP x N w1 w3 w2 gA gB gC W K (Fly0 c (tw TE (i 0).val) w1 w3 w2)
      ⊢ wp frame (wpE (defs₀ (F := F)) Variants.none c none) Set.univ (bodyAt (F := F) i arg5 harg5 arg9 harg9) K := by
  have h1 : k0_cond1 i (wdN TN) = 1#1 := by rw [wdN_eq, cond1_iff i _ N ok.hN hw]; omega
  have h5 : ¬ (k0_cond5 i (wdN TN) = 1#1) := by rw [wdN_eq, cond5_iff i _ N ok.hN hw]; omega
  have h2 : k0_cond2 i (wd tbE (k0_off1 i) (k0_off1_inb i) TE) (wd tbE (k0_off2 i) (k0_off2_inb i) TE) = 1#1 := by
    rw [cond2_iff, wdE_eq, wdE_eq, off1_0, off2_0]
    exact .inr hE
  have h3 : ¬ (k0_cond3 i = 1#1) := by rw [cond3_iff]; omega
  have h4 : k0_cond4 (wd tbX (k0_off21 i) (k0_off21_inb i) TX) = 1#1 := by
    rw [cond4_iff, wdX_eq, off21_0]; omega
  have eE : tw TE (i 0).val = (wd tbE (k0_off11 i) (k0_off11_inb i) TE) := by rw [wdE_eq]; rw [off11_0]
  have he0 := ok.e _ hn
  have he : (wd tbE (k0_off11 i) (k0_off11_inb i) TE).toNat < 32 := eE ▸ he0
  have hP' : wd tbP (k0_off3 i) (k0_off3_inb i) TP = 0#32 := by rw [wdP_eq, off3_0]; exact hP
  have eX : wd tbX (k0_off22 i) (k0_off22_inb i) TX = tw TX (i 0).val := by rw [wdX_eq, off22_0]
  have hn' : (wd tbX (k0_off22 i) (k0_off22_inb i) TX).toNat < 32 := eX ▸ hX
  have hpd : pend (tw TX) N ((i 0).val + 1) := ⟨by omega, by omega, by rw [Nat.add_sub_cancel]; omega⟩
  unfold pre0_ Tr Cur pcs
  rw [if_pos hn, Nat.add_sub_cancel, eE]
  unfold Fly0
  iintro ⟨HT, HC, ⟨%hz, %fA, %fB, %fC, HF, Hq, HR⟩, H5, H9, HW, Hk⟩
  rw [← rdA_cntA c _ he 0 (by omega) w1 fA, ← rdB_cntB c _ he 0 (by omega) w3 fB, ← rdC_cntC c _ he 0 (by omega) w2 fC]
  iapply (run_new0_next c i arg5 harg5 arg9 harg9 TE TN TX TP x he hn' hP' h1 h5 h2 h3 h4 w1 w3 w2 fA fB fC gA gB gC W K)
  isplitl [HT]; · iexact HT
  isplitl [H5]; · iexact H5
  isplitl [H9]; · iexact H9
  isplitl [HC]; · iexact HC
  isplitl [HF]; · iexact HF
  isplitl [Hq]; · iexact Hq
  isplitl [HR]; · iexact HR
  isplitl [HW]; · iexact HW
  iintro ⟨HT, H5, H9, HC, HF, Hq, HR, HW⟩
  iapply Hk
  isplitl [HT]; · iexact HT
  isplitl [HC]
  · iexists (cntA c (wd tbE (k0_off11 i) (k0_off11_inb i) TE) he 0 (by omega) w1 fA), (cntB c (wd tbE (k0_off11 i) (k0_off11_inb i) TE) he 0 (by omega) w3 fB), (cntC c (wd tbE (k0_off11 i) (k0_off11_inb i) TE) he 0 (by omega) w2 fC)
    isplitr; swap; · iexact HC
    ipureintro; intro _ _; exact ⟨rfl, rfl, rfl⟩
  isplitl [HF Hq HR]
  · iright; iright; iexists (wd tbX (k0_off22 i) (k0_off22_inb i) TX)
    isplitr; · ipureintro; exact ⟨hpd, eX, hP⟩
    unfold Fly1
    iexists hn', _, _, _
    isplitl [HF]; · iexact HF
    isplitl [Hq]; · iexact Hq
    iexact HR
  isplitl [H5]; · iexact H5
  isplitl [H9]; · iexact H9
  iexact HW

include hw ok in
set_option maxHeartbeats 4000000 in
theorem step_new0_last (hn : (i 0).val < N) (h0 : 0 < (i 0).val) (hE : tw TE (i 0).val ≠ tw TE ((i 0).val - 1)) (hP : tw TP (i 0).val = 0#32) (hX : 2 ^ 31 ≤ (tw TX (i 0).val).toNat) :
    pre0_ c i arg5 arg9 TE TN TX TP x N w1 w3 w2 gA gB gC W K (Fly0 c (tw TE (i 0).val) w1 w3 w2)
      ⊢ wp frame (wpE (defs₀ (F := F)) Variants.none c none) Set.univ (bodyAt (F := F) i arg5 harg5 arg9 harg9) K := by
  have h1 : k0_cond1 i (wdN TN) = 1#1 := by rw [wdN_eq, cond1_iff i _ N ok.hN hw]; omega
  have h5 : ¬ (k0_cond5 i (wdN TN) = 1#1) := by rw [wdN_eq, cond5_iff i _ N ok.hN hw]; omega
  have h2 : k0_cond2 i (wd tbE (k0_off1 i) (k0_off1_inb i) TE) (wd tbE (k0_off2 i) (k0_off2_inb i) TE) = 1#1 := by
    rw [cond2_iff, wdE_eq, wdE_eq, off1_0, off2_0]
    exact .inr hE
  have h3 : ¬ (k0_cond3 i = 1#1) := by rw [cond3_iff]; omega
  have h4 : ¬ (k0_cond4 (wd tbX (k0_off21 i) (k0_off21_inb i) TX) = 1#1) := by
    rw [cond4_iff, wdX_eq, off21_0]; omega
  have eE : tw TE (i 0).val = (wd tbE (k0_off11 i) (k0_off11_inb i) TE) := by rw [wdE_eq]; rw [off11_0]
  have he0 := ok.e _ hn
  have he : (wd tbE (k0_off11 i) (k0_off11_inb i) TE).toNat < 32 := eE ▸ he0
  have hP' : wd tbP (k0_off3 i) (k0_off3_inb i) TP = 0#32 := by rw [wdP_eq, off3_0]; exact hP
  have hpd : ¬ pend (tw TX) N ((i 0).val + 1) := by
    rintro ⟨_, _, d⟩; rw [Nat.add_sub_cancel] at d; omega
  unfold pre0_ Tr Cur pcs
  rw [if_pos hn, Nat.add_sub_cancel, eE]
  unfold Fly0
  iintro ⟨HT, HC, ⟨%hz, %fA, %fB, %fC, HF, Hq, HR⟩, H5, H9, HW, Hk⟩
  rw [← rdA_cntA c _ he 0 (by omega) w1 fA, ← rdB_cntB c _ he 0 (by omega) w3 fB, ← rdC_cntC c _ he 0 (by omega) w2 fC]
  iapply (run_new0_last c i arg5 harg5 arg9 harg9 TE TN TX TP x he hP' h1 h5 h2 h3 h4 w1 w3 w2 fA fB fC gA gB gC W K)
  isplitl [HT]; · iexact HT
  isplitl [H5]; · iexact H5
  isplitl [H9]; · iexact H9
  isplitl [HC]; · iexact HC
  isplitl [HF]; · iexact HF
  isplitl [Hq]; · iexact Hq
  isplitl [HR]; · iexact HR
  isplitl [HW]; · iexact HW
  iintro ⟨HT, H5, H9, HC, HL, Hq4, Hq5, HH, HW⟩
  iapply Hk
  isplitl [HT]; · iexact HT
  isplitl [HC]
  · iexists (cntA c (wd tbE (k0_off11 i) (k0_off11_inb i) TE) he 0 (by omega) w1 fA), (cntB c (wd tbE (k0_off11 i) (k0_off11_inb i) TE) he 0 (by omega) w3 fB), (cntC c (wd tbE (k0_off11 i) (k0_off11_inb i) TE) he 0 (by omega) w2 fC)
    isplitr; swap; · iexact HC
    ipureintro; intro _ _; exact ⟨rfl, rfl, rfl⟩
  isplitl [HL Hq4 Hq5 HH]
  · ileft
    isplitr; · ipureintro; exact hpd
    try unfold Quiet
    iexists _, _, _
    isplitl [HL]; · iexact HL
    isplitl [Hq4]; · iexact Hq4
    isplitl [Hq5]; · iexact Hq5
    iexact HH
  isplitl [H5]; · iexact H5
  isplitl [H9]; · iexact H9
  iexact HW

include hw ok in
set_option maxHeartbeats 4000000 in
theorem step_new1_next (hn : (i 0).val < N) (h0 : 0 < (i 0).val) (hE : tw TE (i 0).val ≠ tw TE ((i 0).val - 1)) (hP : tw TP (i 0).val = 1#32) (hX : (tw TX (i 0).val).toNat < 32) :
    pre0_ c i arg5 arg9 TE TN TX TP x N w1 w3 w2 gA gB gC W K (Fly1 c (tw TE (i 0).val) w1 w3 w2)
      ⊢ wp frame (wpE (defs₀ (F := F)) Variants.none c none) Set.univ (bodyAt (F := F) i arg5 harg5 arg9 harg9) K := by
  have h1 : k0_cond1 i (wdN TN) = 1#1 := by rw [wdN_eq, cond1_iff i _ N ok.hN hw]; omega
  have h5 : ¬ (k0_cond5 i (wdN TN) = 1#1) := by rw [wdN_eq, cond5_iff i _ N ok.hN hw]; omega
  have h2 : k0_cond2 i (wd tbE (k0_off1 i) (k0_off1_inb i) TE) (wd tbE (k0_off2 i) (k0_off2_inb i) TE) = 1#1 := by
    rw [cond2_iff, wdE_eq, wdE_eq, off1_0, off2_0]
    exact .inr hE
  have h3 : ¬ (k0_cond3 i = 1#1) := by rw [cond3_iff]; omega
  have h4 : k0_cond4 (wd tbX (k0_off21 i) (k0_off21_inb i) TX) = 1#1 := by
    rw [cond4_iff, wdX_eq, off21_0]; omega
  have eE : tw TE (i 0).val = (wd tbE (k0_off11 i) (k0_off11_inb i) TE) := by rw [wdE_eq]; rw [off11_0]
  have he0 := ok.e _ hn
  have he : (wd tbE (k0_off11 i) (k0_off11_inb i) TE).toNat < 32 := eE ▸ he0
  have hP' : wd tbP (k0_off3 i) (k0_off3_inb i) TP = 1#32 := by rw [wdP_eq, off3_0]; exact hP
  have eX : wd tbX (k0_off22 i) (k0_off22_inb i) TX = tw TX (i 0).val := by rw [wdX_eq, off22_0]
  have hn' : (wd tbX (k0_off22 i) (k0_off22_inb i) TX).toNat < 32 := eX ▸ hX
  have hpd : pend (tw TX) N ((i 0).val + 1) := ⟨by omega, by omega, by rw [Nat.add_sub_cancel]; omega⟩
  unfold pre0_ Tr Cur pcs
  rw [if_pos hn, Nat.add_sub_cancel, eE]
  unfold Fly1
  iintro ⟨HT, HC, ⟨%hz, %fA, %fB, %fC, HF, Hq, HR⟩, H5, H9, HW, Hk⟩
  rw [← rdA_cntA c _ he 1 (by omega) w1 fA, ← rdB_cntB c _ he 1 (by omega) w3 fB, ← rdC_cntC c _ he 1 (by omega) w2 fC]
  iapply (run_new1_next c i arg5 harg5 arg9 harg9 TE TN TX TP x he hn' hP' h1 h5 h2 h3 h4 w1 w3 w2 fA fB fC gA gB gC W K)
  isplitl [HT]; · iexact HT
  isplitl [H5]; · iexact H5
  isplitl [H9]; · iexact H9
  isplitl [HC]; · iexact HC
  isplitl [HF]; · iexact HF
  isplitl [Hq]; · iexact Hq
  isplitl [HR]; · iexact HR
  isplitl [HW]; · iexact HW
  iintro ⟨HT, H5, H9, HC, HF, Hq, HR, HW⟩
  iapply Hk
  isplitl [HT]; · iexact HT
  isplitl [HC]
  · iexists (cntA c (wd tbE (k0_off11 i) (k0_off11_inb i) TE) he 1 (by omega) w1 fA), (cntB c (wd tbE (k0_off11 i) (k0_off11_inb i) TE) he 1 (by omega) w3 fB), (cntC c (wd tbE (k0_off11 i) (k0_off11_inb i) TE) he 1 (by omega) w2 fC)
    isplitr; swap; · iexact HC
    ipureintro; intro _ _; exact ⟨rfl, rfl, rfl⟩
  isplitl [HF Hq HR]
  · iright; ileft; iexists (wd tbX (k0_off22 i) (k0_off22_inb i) TX)
    isplitr; · ipureintro; exact ⟨hpd, eX, hP⟩
    unfold Fly0
    iexists hn', _, _, _
    isplitl [HF]; · iexact HF
    isplitl [Hq]; · iexact Hq
    iexact HR
  isplitl [H5]; · iexact H5
  isplitl [H9]; · iexact H9
  iexact HW

include hw ok in
set_option maxHeartbeats 4000000 in
theorem step_new1_last (hn : (i 0).val < N) (h0 : 0 < (i 0).val) (hE : tw TE (i 0).val ≠ tw TE ((i 0).val - 1)) (hP : tw TP (i 0).val = 1#32) (hX : 2 ^ 31 ≤ (tw TX (i 0).val).toNat) :
    pre0_ c i arg5 arg9 TE TN TX TP x N w1 w3 w2 gA gB gC W K (Fly1 c (tw TE (i 0).val) w1 w3 w2)
      ⊢ wp frame (wpE (defs₀ (F := F)) Variants.none c none) Set.univ (bodyAt (F := F) i arg5 harg5 arg9 harg9) K := by
  have h1 : k0_cond1 i (wdN TN) = 1#1 := by rw [wdN_eq, cond1_iff i _ N ok.hN hw]; omega
  have h5 : ¬ (k0_cond5 i (wdN TN) = 1#1) := by rw [wdN_eq, cond5_iff i _ N ok.hN hw]; omega
  have h2 : k0_cond2 i (wd tbE (k0_off1 i) (k0_off1_inb i) TE) (wd tbE (k0_off2 i) (k0_off2_inb i) TE) = 1#1 := by
    rw [cond2_iff, wdE_eq, wdE_eq, off1_0, off2_0]
    exact .inr hE
  have h3 : ¬ (k0_cond3 i = 1#1) := by rw [cond3_iff]; omega
  have h4 : ¬ (k0_cond4 (wd tbX (k0_off21 i) (k0_off21_inb i) TX) = 1#1) := by
    rw [cond4_iff, wdX_eq, off21_0]; omega
  have eE : tw TE (i 0).val = (wd tbE (k0_off11 i) (k0_off11_inb i) TE) := by rw [wdE_eq]; rw [off11_0]
  have he0 := ok.e _ hn
  have he : (wd tbE (k0_off11 i) (k0_off11_inb i) TE).toNat < 32 := eE ▸ he0
  have hP' : wd tbP (k0_off3 i) (k0_off3_inb i) TP = 1#32 := by rw [wdP_eq, off3_0]; exact hP
  have hpd : ¬ pend (tw TX) N ((i 0).val + 1) := by
    rintro ⟨_, _, d⟩; rw [Nat.add_sub_cancel] at d; omega
  unfold pre0_ Tr Cur pcs
  rw [if_pos hn, Nat.add_sub_cancel, eE]
  unfold Fly1
  iintro ⟨HT, HC, ⟨%hz, %fA, %fB, %fC, HF, Hq, HR⟩, H5, H9, HW, Hk⟩
  rw [← rdA_cntA c _ he 1 (by omega) w1 fA, ← rdB_cntB c _ he 1 (by omega) w3 fB, ← rdC_cntC c _ he 1 (by omega) w2 fC]
  iapply (run_new1_last c i arg5 harg5 arg9 harg9 TE TN TX TP x he hP' h1 h5 h2 h3 h4 w1 w3 w2 fA fB fC gA gB gC W K)
  isplitl [HT]; · iexact HT
  isplitl [H5]; · iexact H5
  isplitl [H9]; · iexact H9
  isplitl [HC]; · iexact HC
  isplitl [HF]; · iexact HF
  isplitl [Hq]; · iexact Hq
  isplitl [HR]; · iexact HR
  isplitl [HW]; · iexact HW
  iintro ⟨HT, H5, H9, HC, HL, Hq5, Hq4, HH, HW⟩
  iapply Hk
  isplitl [HT]; · iexact HT
  isplitl [HC]
  · iexists (cntA c (wd tbE (k0_off11 i) (k0_off11_inb i) TE) he 1 (by omega) w1 fA), (cntB c (wd tbE (k0_off11 i) (k0_off11_inb i) TE) he 1 (by omega) w3 fB), (cntC c (wd tbE (k0_off11 i) (k0_off11_inb i) TE) he 1 (by omega) w2 fC)
    isplitr; swap; · iexact HC
    ipureintro; intro _ _; exact ⟨rfl, rfl, rfl⟩
  isplitl [HL Hq4 Hq5 HH]
  · ileft
    isplitr; · ipureintro; exact hpd
    try unfold Quiet
    iexists _, _, _
    isplitl [HL]; · iexact HL
    isplitl [Hq4]; · iexact Hq4
    isplitl [Hq5]; · iexact Hq5
    iexact HH
  isplitl [H5]; · iexact H5
  isplitl [H9]; · iexact H9
  iexact HW

include hw ok in
set_option maxHeartbeats 4000000 in
/-- The body carries the invariant from point to point and stores `pcs`. -/
theorem step :
    iprop(tabs c TN TE TX TP ∗ Cur c (tw TE) N w1 w3 w2 (i 0).val ∗ Tr c (tw TX) (tw TP) N w1 w3 w2 (i 0).val
      ∗ (arg5.view.loc (c : Thread nD τ) ↦[arg5.view.set]{fullShare} arg5.view.rep x) ∗ (∃ d, owns (c : Thread nD τ) arg9 fullShare d) ∗ owes (c : Thread nD τ) 0 W
      ∗ (iprop(tabs c TN TE TX TP ∗ Cur c (tw TE) N w1 w3 w2 ((i 0).val + 1) ∗ Tr c (tw TX) (tw TP) N w1 w3 w2 ((i 0).val + 1)
        ∗ (arg5.view.loc (c : Thread nD τ) ↦[arg5.view.set]{fullShare} arg5.view.rep x)
        ∗ (∃ f, arg9.view.loc (c : Thread nD τ) ↦[arg9.view.set]{fullShare} arg9.view.writes (Elt F) f (pcs c (tw TE) N arg5 x w1 w3 w2 (i 0).val))
        ∗ (∃ W', owes (c : Thread nD τ) 0 W')) -∗ K ⟨⟩))
      ⊢ wp frame (wpE (defs₀ (F := F)) Variants.none c none) Set.univ (bodyAt (F := F) i arg5 harg5 arg9 harg9) K := by
  have key : ∀ gA gB gC, ((0 < (i 0).val → (i 0).val ≤ N → rdA c gA = exA c w1 (tw TE ((i 0).val - 1)) ∧ rdB c gB = exB c w3 (tw TE ((i 0).val - 1)) ∧ rdC c gC = exC c w2 (tw TE ((i 0).val - 1)))) →
      (pre0_ c i arg5 arg9 TE TN TX TP x N w1 w3 w2 gA gB gC W K (Tr c (tw TX) (tw TP) N w1 w3 w2 (i 0).val)
        ⊢ wp frame (wpE (defs₀ (F := F)) Variants.none c none) Set.univ (bodyAt (F := F) i arg5 harg5 arg9 harg9) K) := by
    intro gA gB gC hg
    by_cases hn : N ≤ (i 0).val
    · exact step_rest c i arg5 harg5 arg9 harg9 TE TN TX TP x N hw ok w1 w3 w2 gA gB gC W K hn
    have hn : (i 0).val < N := by omega
    by_cases hs : 0 < (i 0).val ∧ tw TE (i 0).val = tw TE ((i 0).val - 1)
    · exact step_same c i arg5 harg5 arg9 harg9 TE TN TX TP x N hw ok w1 w3 w2 gA gB gC W K hn hs.1 hs.2 (hg hs.1 (by omega))
    have hx := ok.x _ hn
    by_cases h0 : (i 0).val = 0
    · have hp : ¬ pend (tw TX) N (i 0).val := fun h => by have := h.1; omega
      have hP : tw TP (i 0).val = 0#32 := by rw [h0]; exact ok.p0 (by omega)
      have st : pre0_ c i arg5 arg9 TE TN TX TP x N w1 w3 w2 gA gB gC W K (Quiet c w1 w3 w2)
          ⊢ wp frame (wpE (defs₀ (F := F)) Variants.none c none) Set.univ (bodyAt (F := F) i arg5 harg5 arg9 harg9) K := by
        obtain hx | hx := hx
        · exact step_first0_next c i arg5 harg5 arg9 harg9 TE TN TX TP x N hw ok w1 w3 w2 gA gB gC W K hn h0 hP hx
        · exact step_first0_last c i arg5 harg5 arg9 harg9 TE TN TX TP x N hw ok w1 w3 w2 gA gB gC W K hn h0 hP hx
      refine .trans ?_ st
      unfold pre0_ Tr
      iintro ⟨HT, HC, HTr, HR⟩
      isplitl [HT]; · iexact HT
      isplitl [HC]; · iexact HC
      isplitl [HTr]
      · icases HTr with (⟨-, HQ⟩ | ⟨%e, %he, HQ⟩ | ⟨%e, %he, HQ⟩)
        · iexact HQ
        · exact absurd he.1 hp
        · exact absurd he.1 hp
      iexact HR
    · have h0 : 0 < (i 0).val := by omega
      have hE : tw TE (i 0).val ≠ tw TE ((i 0).val - 1) := fun h => hs ⟨h0, h⟩
      have hne := ok.new ((i 0).val - 1) (by omega) (by rw [Nat.sub_add_cancel h0]; exact hE)
      rw [Nat.sub_add_cancel h0] at hne
      have hp : pend (tw TX) N (i 0).val := ⟨h0, by omega, by rw [hne.1]; have := ok.e _ hn; omega⟩
      obtain hP0 | hP0 := ok.p ((i 0).val - 1) (by omega)
      · have hP := hne.2.1 hP0
        have st : pre0_ c i arg5 arg9 TE TN TX TP x N w1 w3 w2 gA gB gC W K (Fly1 c (tw TE (i 0).val) w1 w3 w2)
            ⊢ wp frame (wpE (defs₀ (F := F)) Variants.none c none) Set.univ (bodyAt (F := F) i arg5 harg5 arg9 harg9) K := by
          obtain hx | hx := hx
          · exact step_new1_next c i arg5 harg5 arg9 harg9 TE TN TX TP x N hw ok w1 w3 w2 gA gB gC W K hn h0 hE hP hx
          · exact step_new1_last c i arg5 harg5 arg9 harg9 TE TN TX TP x N hw ok w1 w3 w2 gA gB gC W K hn h0 hE hP hx
        refine .trans ?_ st
        unfold pre0_ Tr
        iintro ⟨HT, HC, HTr, HR⟩
        isplitl [HT]; · iexact HT
        isplitl [HC]; · iexact HC
        isplitl [HTr]
        · icases HTr with (⟨%hq, HQ⟩ | ⟨%e, %he, HQ⟩ | ⟨%e, %he, HQ⟩)
          · exact absurd hp hq
          · exact absurd (he.2.2.symm.trans hP0) (by decide)
          · rw [← hne.1, ← he.2.1]; iexact HQ
        iexact HR
      · have hP := hne.2.2 hP0
        have st : pre0_ c i arg5 arg9 TE TN TX TP x N w1 w3 w2 gA gB gC W K (Fly0 c (tw TE (i 0).val) w1 w3 w2)
            ⊢ wp frame (wpE (defs₀ (F := F)) Variants.none c none) Set.univ (bodyAt (F := F) i arg5 harg5 arg9 harg9) K := by
          obtain hx | hx := hx
          · exact step_new0_next c i arg5 harg5 arg9 harg9 TE TN TX TP x N hw ok w1 w3 w2 gA gB gC W K hn h0 hE hP hx
          · exact step_new0_last c i arg5 harg5 arg9 harg9 TE TN TX TP x N hw ok w1 w3 w2 gA gB gC W K hn h0 hE hP hx
        refine .trans ?_ st
        unfold pre0_ Tr
        iintro ⟨HT, HC, HTr, HR⟩
        isplitl [HT]; · iexact HT
        isplitl [HC]; · iexact HC
        isplitl [HTr]
        · icases HTr with (⟨%hq, HQ⟩ | ⟨%e, %he, HQ⟩ | ⟨%e, %he, HQ⟩)
          · exact absurd hp hq
          · rw [← hne.1, ← he.2.1]; iexact HQ
          · exact absurd (he.2.2.symm.trans hP0) (by decide)
        iexact HR
  conv in Cur c (tw TE) N w1 w3 w2 (i 0).val => unfold Cur
  iintro ⟨HT, ⟨%gA, %gB, %gC, %hg, HC⟩, HR⟩
  iapply (key gA gB gC hg)
  unfold pre0_
  isplitl [HT]; · iexact HT
  isplitl [HC]; · iexact HC
  iexact HR
end

end Cert.KernelIdeal.Hand
end
-- ==== Proof.Frame.lean ====
/-
  Hand-written, untrusted. The program's frame and the run it comes from, at any instance: the host lines leave the
  tables, the region's proof data say what every block of the result holds, the body keeps the invariant of `Step`,
  and the launch theorem concludes. `TabsOK` is what the run needs of the tables.
-/
module
public import proofs.«01_k».proof.Proof.Step
public import Idealize.ShloMosaic.Lib.Pipeline.TableIdle
public import Idealize.ShloMosaic.Lib.Affine
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-- The host lines before the region, stretch by stretch. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]
/-- The buffers at the region's entry. -/
def V (c : Dev nD) (b : Ref sig .tc) : Buf (Elt F) ((c : Thread nD τ).loc b) :=
  StableHlo.after (opss (F := F)).flatten (fun b => m (c, b)) b

/-- The tables at the region's entry. -/
def tbl : pre0.Contents (Elt F) := fun k => V m 0 (pre0.ref k)
/-- What the run needs of the tables: the number of tiles in use is `N`, the others as `TabOK`. -/
structure TabsOK (N : ℕ) : Prop where
  n : twN (V m 0 main_v69) = BitVec.ofNat 32 N
  ok : TabOK (tw (V m 0 main_v34)) (tw (V m 0 main_v55)) (tw (V m 0 main_v68)) N

theorem atN (pf : pre0.Contents (Elt F)) : pf.at 1 (Rect.unit (s := S1) ![0] S1.size inb_S1_S1_0) numel1_S1 = twN (pf 1) := by
  unfold twN
  refine congrArg (pf 1) (funext fun a => Fin.ext ?_)
  have ha : a = (0 : Fin 1) := Subsingleton.elim (α := Fin 1) _ _
  subst ha; rfl
theorem atDN (pf : pre0.Contents (Elt F)) : pf.atD 1 ![0] = twN (pf 1) := by
  unfold Pipeline.Prefetch.Contents.atD twN
  rw [dif_pos (by intro a; have ha : a = (0 : Fin 1) := Subsingleton.elim (α := Fin 1) _ _
                  subst ha; decide)]
  refine congrArg (pf 1) (funext fun a => Fin.ext ?_)
  have ha : a = (0 : Fin 1) := Subsingleton.elim (α := Fin 1) _ _
  subst ha; rfl

/-- The block of the rows that a point reads: its own while tiles are in use, the last one in use afterwards. -/
theorem tr0 (pf : pre0.Contents (Elt F)) (N : ℕ) (hN : N ≤ 167) (h : twN (pf 1) = BitVec.ofNat 32 N) (i : grid0.Coords) :
    cc0_transform_0 inb_S1_S1_0 numel1_S1 pf i = ![min (i 0).val (N - 1), 0] := by
  have hi := ixn i
  show ![(Scalar.maxsi (Scalar.minsi (BitVec.ofNat 32 (i 0).val) (Scalar.subi (pf.at 1 (Rect.unit (s := S1) ![0] S1.size inb_S1_S1_0) numel1_S1) 1#32)) 0#32).toNat, 0] = _
  rw [atN, h]
  have e1 : Affine.IsInt (Scalar.subi (BitVec.ofNat 32 N) 1#32) ((N : Int) - 1) :=
    Affine.subi (Affine.ofNat N (e := (N : Int)) ⟨rfl, by omega⟩) (Affine.ofNat 1 (e := 1) ⟨rfl, by omega⟩) ⟨rfl, by omega, by omega⟩
  have e3 := Affine.maxsi (Affine.minsi (Affine.ofNat (i 0).val (e := ((i 0).val : Int)) ⟨rfl, by omega⟩) e1 rfl)
    (Affine.ofNat 0 (e := 0) ⟨rfl, by omega⟩) rfl
  have e4 := Affine.nat_eq e3 (min (i 0).val (N - 1)) (by omega)
  rw [show (0#32 : BitVec 32) = BitVec.ofNat 32 0 from rfl, e4]

theorem ok0_of {N : ℕ} (hN : N ≤ 167) (h : twN (V m 0 main_v69) = BitVec.ofNat 32 N) : ok0 (tbl m) := by
  intro i
  refine ⟨?_, .inl rfl⟩
  rw [tr0 (tbl m) N hN h i]
  have hi := ixn i
  intro a
  match a with
  | ⟨0, _⟩ => show (min (i 0).val (N - 1) + 1) * 2048 ≤ 342016; omega
  | ⟨1, _⟩ => show (0 + 1) * 128 ≤ 128; omega

variable {m} {N : ℕ} (hT : TabsOK m N)

/-- The admissible tables. -/
def adm : (p : Fin 1) → (pcfgs (F := F) p).Adm := fun _ => ⟨tbl m, ok0_of m hT.ok.hN hT.n⟩
/-- The pipeline at them. -/
abbrev cfgA : Cfg sig Λ₀ := Pipeline.pin (pcfgs (F := F)) (adm hT) 0

variable (m) in
/-- The weights at the region's entry. -/
abbrev W1 (c : Dev nD) : BufOf F c hbA := V m c main_arg2
variable (m) in
abbrev W3 (c : Dev nD) : BufOf F c hbB := V m c main_arg3
variable (m) in
abbrev W2 (c : Dev nD) : BufOf F c hbC := V m c main_arg4

abbrev ms0 (t : Fin (cfgA hT).N) : Memref sig .tc .vmem S2048x128 .f32 := spec0_0.stage ((cfgA hT).slots t 0)
abbrev hs0 (t : Fin (cfgA hT).N) : (ms0 hT t).IsWhole := hstage0_0 (((cfgA hT).slots t 0).cast nbuf0_0)
abbrev ms1 (t : Fin (cfgA hT).N) : Memref sig .tc .vmem S2048x128 .f32 := spec0_1.stage ((cfgA hT).slots t 1)
abbrev hs1 (t : Fin (cfgA hT).N) : (ms1 hT t).IsWhole := hstage0_1 (((cfgA hT).slots t 1).cast nbuf0_1)
/-- The output's first staging buffer, through which its blocks are stated. -/
abbrev VO : View sig .tc .vmem S2048x128 .f32 := (Memref.whole cc0_stg1_0 : Memref sig .tc .vmem S2048x128 .f32).view

/-- The block of the rows at a point. -/
def iblk (c : Dev nD) (t : Fin (cfgA hT).N) : Vec F S2048x128 .f32 :=
  (((cfgA hT).win 0).blk t).view.read (Elt F) (V m c (Pipeline.arrRef spec0 0))

/-- What the body leaves in the output's buffer at point `t`. -/
def outsAt (c : Dev nD) (t : Fin (cfgA hT).N) : Vec F S2048x128 .f32 :=
  VO.read (Elt F) (VO.writes (Elt F) VO.junk (pcs c (tw (V m 0 main_v34)) N (ms0 hT t) (iblk hT c t) (W1 m c) (W3 m c) (W2 m c) t.val))

/-- The invariant before point `n`. -/
def Phi (c : Dev nD) (n : ℕ) : sProp 𝕄 :=
  iprop(tabs c (V m 0 main_v69) (V m 0 main_v34) (V m 0 main_v55) (V m 0 main_v68)
    ∗ Cur c (tw (V m 0 main_v34)) N (W1 m c) (W3 m c) (W2 m c) n
    ∗ Tr c (tw (V m 0 main_v55)) (tw (V m 0 main_v68)) N (W1 m c) (W3 m c) (W2 m c) n ∗ (∃ r, prngReg c r))

/-- The proof data of the one pipeline. -/
def dats (_ : Fin 1) (c : Dev nD) : Dat τ (Elt F) Unit ℕ (Pipeline.UD sig nD τ) ℕ (cfgA hT) c where
  A w := V m c (Pipeline.arrRef spec0 w)
  after w t := match w with
    | ⟨0, _⟩ => iblk hT c t
    | ⟨1, _⟩ => outsAt hT c t
  Φ t := Phi (m := m) (N := N) c t.val
  q _ := fullShare
  owed _ := 0

theorem A_eq (c : Dev nD) (w : Fin (cfgA hT).W) : (dats hT 0 c).A w = V m c (Pipeline.arrRef spec0 w) := by dsimp only [dats]
theorem after0_0 (c : Dev nD) (t : Fin (cfgA hT).N) : (dats hT 0 c).after (0 : Fin 2) t = iblk hT c t := rfl
theorem after0_1 (c : Dev nD) (t : Fin (cfgA hT).N) : (dats hT 0 c).after (1 : Fin 2) t = outsAt hT c t := rfl

set_option maxHeartbeats 1000000 in
theorem before0_0 (c : Dev nD) (t : Fin (cfgA hT).N) (d) : (dats hT 0 c).before (0 : Fin 2) t d = iblk hT c t :=
  ((dats hT 0 c).before_in_eq_fetched (0 : Fin 2) rfl (fun _ => rfl) (fun _ _ _ => rfl) (fun t => by rw [after0_0]; unfold Dat.blockOf iblk; rfl) t d).trans
    (by unfold Dat.fetched Dat.blockOf iblk; rfl)

theorem coord_t (t : Fin (cfgA hT).N) : (grid0.coords t 0).val = t.val := by
  have h := Pipeline.Grid.coords_val (G := grid0) t 0 (S := 1) (B := 167) (by decide) rfl
  have ht : t.val < 167 := lt_of_lt_of_eq t.isLt N_0
  rw [h]; omega

theorem idleV (i : grid0.Coords) (v : BitVec 32) (N : ℕ) (hN : N ≤ 167) (hv : v = BitVec.ofNat 32 N) :
    (!(k0_cond1 i v == 1#1) && !(k0_cond5 i v == 1#1)) = false := by
  have h1 := cond1_iff i v N hN hv
  have h5 := cond5_iff i v N hN hv
  by_cases h : (i 0).val < N
  · rw [h1.2 h]; rfl
  · rw [h5.2 (by omega)]; simp
theorem idle0_eq (pf : pre0.Contents (Elt F)) (N : ℕ) (hN : N ≤ 167) (h : twN (pf 1) = BitVec.ofNat 32 N) (i : grid0.Coords) :
    idle0 pf (1 : Fin 2) i = false :=
  idleV i (pf.atD 1 ![0]) N hN ((atDN pf).trans h)
theorem at_idle (a : (pcfg0 (F := F)).Adm) : (pcfg0.at a).idle = idle0 a.1 := rfl
theorem idleG (a : (pcfg0 (F := F)).Adm) (N : ℕ) (hN : N ≤ 167) (h : twN (a.1 1) = BitVec.ofNat 32 N) (i : grid0.Coords) :
    (pcfg0.at a).idle (1 : Fin 2) i = false :=
  (congrFun (congrFun (at_idle a) (1 : Fin 2)) i).trans (idle0_eq a.1 N hN h i)
theorem admN : twN ((adm hT 0).1 1) = BitVec.ofNat 32 N := hT.n
/-- The output's block is written at every point. -/
theorem idle1 (t : Fin (cfgA hT).N) : (cfgA hT).idle (1 : Fin 2) ((cfgA hT).grid.coords t) = false :=
  idleG (adm hT 0) N hT.ok.hN (admN hT) ((cfgA hT).grid.coords t)

/-- The eight strided stores, or the one of zeros, cover the block. -/
theorem coverP (arg5 : Memref sig .tc .vmem S2048x128 .f32) (x : Vec F S2048x128 .f32) (vA vB : Vec F S1024x512 .bf16) (vC : Vec F S512x1024 .bf16)
    (y : S2048x128.Idx) : ∃ pc ∈ outP arg5 x vA vB vC, y ∈ pc.1.set := by
  have h0 : (y 0).val < 2048 := (y 0).isLt
  have h1 : (y 1).val < 128 := (y 1).isLt
  have key : ∀ (r : ℕ) (hin : ∀ a, _) (hr : (y 0).val % 8 = r), y ∈ (⟨(⟨![r, 0], S256x128.size, ![8, 1], hin⟩ : LoadRect S2048x128), spos_8_1⟩ : Rect S2048x128).set := by
    intro r hin hr
    rw [LoadRect.mem_set]
    intro a
    match a with
    | ⟨0, _⟩ => exact ⟨(y 0).val / 8, by show (y 0).val / 8 < 256; omega, by show (y 0).val = r + 8 * ((y 0).val / 8); omega⟩
    | ⟨1, _⟩ => exact ⟨(y 1).val, by show (y 1).val < 128; omega, by show (y 1).val = 0 + 1 * (y 1).val; omega⟩
  have h8 : (y 0).val % 8 < 8 := Nat.mod_lt _ (by omega)
  unfold outP
  rcases (show (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 from by omega)
    with h | h | h | h | h | h | h | h
  · exact ⟨_, List.mem_cons_self, key 7 _ h⟩
  · exact ⟨_, List.mem_cons_of_mem _ (List.mem_cons_self), key 6 _ h⟩
  · exact ⟨_, List.mem_cons_of_mem _ (List.mem_cons_of_mem _ (List.mem_cons_self)), key 5 _ h⟩
  · exact ⟨_, List.mem_cons_of_mem _ (List.mem_cons_of_mem _ (List.mem_cons_of_mem _ (List.mem_cons_self))), key 4 _ h⟩
  · exact ⟨_, List.mem_cons_of_mem _ (List.mem_cons_of_mem _ (List.mem_cons_of_mem _ (List.mem_cons_of_mem _ (List.mem_cons_self)))), key 3 _ h⟩
  · exact ⟨_, List.mem_cons_of_mem _ (List.mem_cons_of_mem _ (List.mem_cons_of_mem _ (List.mem_cons_of_mem _ (List.mem_cons_of_mem _ (List.mem_cons_self))))), key 2 _ h⟩
  · exact ⟨_, List.mem_cons_of_mem _ (List.mem_cons_of_mem _ (List.mem_cons_of_mem _ (List.mem_cons_of_mem _ (List.mem_cons_of_mem _ (List.mem_cons_of_mem _ (List.mem_cons_self)))))), key 1 _ h⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 _ h⟩
theorem coverZ (y : S2048x128.Idx) : ∃ pc ∈ outZ (F := F), y ∈ pc.1.set :=
  View.cover_of_tiledL (outZ (F := F)) S2048x128.size (by sl_kernel_rfl) y
theorem cover (c : Dev nD) (E : ℕ → BitVec 32) (N : ℕ) (arg5 : Memref sig .tc .vmem S2048x128 .f32) (x : Vec F S2048x128 .f32)
    (w1 : BufOf F c hbA) (w3 : BufOf F c hbB) (w2 : BufOf F c hbC) (n : ℕ) (y : S2048x128.Idx) :
    ∃ pc ∈ pcs c E N arg5 x w1 w3 w2 n, y ∈ pc.1.set := by
  unfold pcs; split
  · exact coverP _ _ _ _ _ y
  · exact coverZ y

def bodyPre (c : Dev nD) (t : Fin (cfgA hT).N) : sProp 𝕄 :=
  iprop((dats hT 0 c).Φ t.castSucc ∗ (dats hT 0 c).owesAt () t.castSucc
    ∗ (∃ d, owns (c : Thread nD τ) (ms0 hT t) fullShare ((dats hT 0 c).before (0 : Fin 2) t d))
    ∗ (∃ d, owns (c : Thread nD τ) (ms1 hT t) fullShare ((dats hT 0 c).before (1 : Fin 2) t d)))
def bodyPost (c : Dev nD) (t : Fin (cfgA hT).N) : sProp 𝕄 :=
  iprop((dats hT 0 c).Φ t.succ ∗ (dats hT 0 c).owesAt () t.succ
    ∗ owns (c : Thread nD τ) (ms0 hT t) fullShare ((dats hT 0 c).after (0 : Fin 2) t)
    ∗ owns (c : Thread nD τ) (ms1 hT t) fullShare ((dats hT 0 c).after (1 : Fin 2) t))

set_option maxHeartbeats 4000000 in
theorem sound_body (c : Dev nD) (t : Fin (cfgA hT).N) :
    bodyPre hT c t ⊢ wp frame (wpE (defs₀ (F := F)) Variants.none c none) Set.univ (bodyAt (grid0.coords t) (ms0 hT t) (hs0 hT t) (ms1 hT t) (hs1 hT t)) (fun _ => bodyPost hT c t) := by
  unfold bodyPre bodyPost
  simp only [before0_0, after0_0, after0_1]
  rw [show (dats hT 0 c).Φ t.castSucc = Phi (m := m) (N := N) c t.val from rfl, show (dats hT 0 c).Φ t.succ = Phi (m := m) (N := N) c (t.val + 1) from rfl]
  unfold Dat.owesAt Pipeline.owesWithin
  rw [show (dats hT 0 c).owed t.castSucc = 0 from rfl, show (dats hT 0 c).owed t.succ = 0 from rfl]
  have hc := coord_t hT t
  unfold Phi
  iintro ⟨⟨HT, HC, HTr, Hg⟩, ⟨%W, -, HW⟩, ⟨%d0, H0⟩, ⟨%d1, H1⟩⟩
  rw [← hc]
  iapply (step c (grid0.coords t) (ms0 hT t) (hs0 hT t) (ms1 hT t) (hs1 hT t) (V m 0 main_v34) (V m 0 main_v69) (V m 0 main_v55) (V m 0 main_v68) (iblk hT c t) N hT.n hT.ok (W1 m c) (W3 m c) (W2 m c) W _)
  isplitl [HT]; · iexact HT
  isplitl [HC]; · iexact HC
  isplitl [HTr]; · iexact HTr
  isplitl [H0]; · iapply rep_of_owns; iexact H0
  isplitl [H1]; · iexists _; iexact H1
  isplitl [HW]; · iexact HW
  iintro ⟨HT, HC, HTr, H0, ⟨%f, H1⟩, ⟨%W', HW'⟩⟩
  isplitl [HT HC HTr Hg]
  · isplitl [HT]; · iexact HT
    isplitl [HC]; · iexact HC
    isplitl [HTr]; · iexact HTr
    iexact Hg
  isplitl [HW']
  · iexists W'; isplitr; · ipureintro; exact fun _ _ => Or.inl trivial
    iexact HW'
  isplitl [H0]; · iapply owns_of_rep; iexact H0
  unfold owns; iexists _; isplitr
  swap; · iexact H1
  ipureintro; unfold outsAt; rw [← hc]; exact View.read_writes_of_cover _ _ _ _ _ (cover c _ _ _ _ _ _ _ _)

theorem defs₀_row (t : Fin (cfgA hT).N) :
    defs₀ (F := F) .tc (cfgA hT).body ((cfgA hT).bodyArgs t ((cfgA hT).slots t)) = bodyAt (grid0.coords t) (ms0 hT t) (hs0 hT t) (ms1 hT t) (hs1 hT t) := by
  unfold defs₀; rw [Defs.onTc_tc]

theorem body_obligation (c : Dev nD) : BodyObligation (dats hT 0 c) (defs₀ (F := F)) Variants.none () Set.univ := fun t => by
  rw [bigSep_W0, bigSep_W0, defs₀_row]
  rw [idle1 hT t]
  exact triple_restated (sound_body hT c t) rfl .rfl fun _ => .rfl

/-! ## The launch -/

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (4 : Fin 6)) 0 ∗ semVal ((c : Thread nD τ), SemLoc.dma (5 : Fin 6)) 0) := by
  rw [Pipeline.ownSems0_eq_of_list c osem0 [0, 1] (by decide) (by decide)]; rfl
/-- The weights, which the body's own copies read. -/
def H0 : Finset (Ref sig .tc) := {main_arg2, main_arg3, main_arg4}
theorem H0_sub : H0 ⊆ Pipeline.restRefsP sig pre0 spec0 := by decide
variable (m) in
theorem hbmPts0_eq (c : Dev nD) :
    (bigSep H0 (fun b => ((c : Thread nD τ).loc b) ↦{fullShare} V m c b) : sProp 𝕄) = wWhole c (W1 m c) (W3 m c) (W2 m c) := by
  rw [BI.bigSep_eq_bigSepL_of_eq [main_arg2, main_arg3, main_arg4] (by decide) (by decide)]; rfl
theorem prefHeld_eq (c : Dev nD) (v : pre0.Contents (Elt F)) :
    (Pipeline.prefHeld (Ix := Unit) (Name := ℕ) (U := Pipeline.UD sig nD τ) (Lvl := ℕ) pre0 c (fun _ => fullShare.right) v : sProp 𝕄)
      = iprop((((c : Thread nD τ).loc main_v34) ↦{fullShare.right} v 0) ∗ (((c : Thread nD τ).loc main_v69) ↦{fullShare.right} v 1)
          ∗ (((c : Thread nD τ).loc main_v55) ↦{fullShare.right} v 2) ∗ (((c : Thread nD τ).loc main_v68) ↦{fullShare.right} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

theorem hin (c : Dev nD) : iprop(Pipeline.ΦD osem0 spec0 H0 (V m) c ∗ Pipeline.ΦT pre0 (tbl m) c) ⊢ (dats hT 0 c).Φ 0 := by
  rw [show (dats hT 0 c).Φ 0 = Phi (m := m) (N := N) c 0 from rfl, Pipeline.ΦD_eq, scopedRest0_eq, ownSems00_eq, hbmPts0_eq]
  unfold Pipeline.ΦT
  rw [prefHeld_eq]
  unfold Phi tabs Cur Tr Quiet curs lands
  simp only [Memref.view_whole, View.set_whole]
  iintro ⟨⟨⟨⟨%f0, S0⟩, ⟨%f1, S1⟩, ⟨%f2, S2⟩, ⟨%f3, S3⟩, ⟨%f4, S4⟩, ⟨%f5, S5⟩⟩, Hg, ⟨Q4, Q5⟩, HW⟩, ⟨TE, TN, TX, TP⟩⟩
  isplitl [TE TN TX TP]
  · isplitl [TN]; · iexact TN
    isplitl [TE]; · iexact TE
    isplitl [TX]; · iexact TX
    iexact TP
  isplitl [S0 S1 S2]
  · iexists f0, f1, f2
    isplitr; · ipureintro; intro h; omega
    isplitl [S0]; · iexact S0
    isplitl [S1]; · iexact S1
    iexact S2
  isplitl [S3 S4 S5 Q4 Q5 HW]
  · ileft
    isplitr; · ipureintro; exact fun h => absurd h.1 (by omega)
    iexists f3, f4, f5
    isplitl [S3 S4 S5]
    · isplitl [S3]; · iexact S3
      isplitl [S4]; · iexact S4
      iexact S5
    isplitl [Q4]; · iexact Q4
    isplitl [Q5]; · iexact Q5
    iexact HW
  iexact Hg

theorem hout (c : Dev nD) : (dats hT 0 c).Φ (Fin.last (cfgA hT).N) ⊢ Pipeline.ΦD osem0 spec0 H0 (V m) c := by
  have hl : (Fin.last (cfgA hT).N).val = 167 := N_0
  have hp : ¬ pend (tw (V m 0 main_v55)) N 167 := by
    rintro ⟨_, h, d⟩
    have hN := hT.ok.hN
    have e : N = 167 := by omega
    have hl := hT.ok.last (by omega)
    rw [e] at hl; omega
  rw [show (dats hT 0 c).Φ (Fin.last (cfgA hT).N) = Phi (m := m) (N := N) c (Fin.last (cfgA hT).N).val from rfl, hl, Pipeline.ΦD_eq, scopedRest0_eq, ownSems00_eq, hbmPts0_eq]
  unfold Phi Cur Tr
  iintro ⟨-, ⟨%gA, %gB, %gC, -, HC⟩, HTr, Hg⟩
  icases HTr with (⟨-, HQ⟩ | ⟨%e, %he, HQ⟩ | ⟨%e, %he, HQ⟩)
  · unfold Quiet curs lands
    simp only [Memref.view_whole, View.set_whole]
    icases HC with ⟨S0, S1, S2⟩
    icases HQ with ⟨%fA, %fB, %fC, ⟨S3, S4, S5⟩, Q4, Q5, HW⟩
    isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    isplitl [Hg]; · iexact Hg
    isplitl [Q4 Q5]
    · isplitl [Q4]; · iexact Q4
      iexact Q5
    iexact HW
  · exact absurd he.1 hp
  · exact absurd he.1 hp

theorem opss_fresh : (opss (F := F)).Forall fun ops => ops.Forall fun op => op.fresh = ∅ := by
  unfold opss
  repeat' first | exact rfl | constructor
variable (m) in
theorem hmain : Pipeline.HMainP (Ix := Unit) (Name := ℕ) (U := Pipeline.UD sig nD τ) (Lvl := ℕ) (pcfgs (F := F)) 0 defs₀ Variants.none m (main (F := F)) (V m) :=
  Pipeline.hmainP_prefixes pcfgs 0 defs₀ Variants.none m main opss ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩ opss_fresh main_chain

set_option backward.isDefEq.respectTransparency.types false in
theorem run_main : θ_run defs (onTc (τ := τ) (main (F := F))) (s₀ m ρ) (fun r => Pipeline.FramePost (Pipeline.pin (pcfgs (F := F)) (adm hT)) (dats hT) 0 (V m) r ∧ r.2.sem = fun _ => 0) :=
  Pipeline.θ_run_frameP_dma (Q' := _) pcfgs (adm hT) (dats hT) (0 : Fin 1) launch0 osem0 defs₀ Variants.none ownSemFacts0 H0 H0_sub m ρ main
    (hbody := fun c => (body_obligation hT c).loose) (hshare := fun c => (dats hT 0 c).share_full fun _ => rfl)
    (howed := fun _ _ => rfl) (V := V m) (hmain := hmain m) (hA := A_eq hT)
    (hpf := fun c k => by rw [Subsingleton.elim c 0]; rfl)
    (hin := fun c => hin hT c) (hout := fun c => hout hT c) (hQ' := fun _ h => h)

end Cert.KernelIdeal.Hand
end
-- ==== Proof.Host.lean ====
/- The host lines that prepare the tables, each stretch read as one function of the buffers it takes. -/
module
public import proofs.«01_k».proof.Proof.Frame
public import Idealize.ShloMosaic.Lib.StableHlo.RunRead
public import Idealize.ShloMosaic.Lib.Routing.OpsSearch
public import Idealize.ShloMosaic.Lib.Routing.Words
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Routing

/-- A word in every place of a vector of 32. -/
abbrev k32 (w : BitVec 32) : IVec S32 32 := broadcastInDim S32 ![] bcast_S_S32 (constantI S_ 32 w)
/-- A word in every place of a vector of 167. -/
abbrev k167 (w : BitVec 32) : IVec S167 32 := broadcastInDim S167 ![] bcast_S_S167 (constantI S_ 32 w)
/-- A vector of 32 as the columns of a 167 by 32 array. -/
abbrev cols {α : Type} (v : S32.Idx → α) : S167x32.Idx → α := broadcastInDim S167x32 ![0, 1] bcast_S1x32_S167x32_0_1 (broadcastInDim S1x32 ![1] bcast_S32_S1x32_1 v)
/-- A vector of 167 as the rows of a 167 by 32 array. -/
abbrev rows {α : Type} (v : S167.Idx → α) : S167x32.Idx → α := broadcastInDim S167x32 ![0, 1] bcast_S167x1_S167x32_0_1 (broadcastInDim S167x1 ![0] bcast_S167_S167x1_0 v)
/-- The last of a vector of 32. -/
abbrev last32 (v : IVec S32 32) : IVec S_ 32 := shapeCast S_ (extractStridedSlice S1 ![31] v slices_S32_S1_31) shapeCasts_S1_S_
/-- How many marks each row of a 167 by 32 array has. -/
abbrev tally (v : IVec S167x32 1) : IVec S167 32 := Host.reduce IntOp.addi (extui 32 v natLt_1_32) (constantI S_ 32 0#32) reducesTo_S167x32_S167_d1 h_S_

def f0 : IVec S32 32 := iotaInDim S32 32 0
def f4 (a : IVec S32 32) : IVec S32 32 := subi (addi a (k32 256#32)) (k32 1#32)
def f5 (a : IVec S32 32) : IVec S32 32 := pyDiv bcast_S_S32 a (constantI S_ 32 256#32)
def f7 (a : IVec S32 32) : IVec S32 32 := muli a (k32 256#32)
def f8 (a : IVec S32 32) : IVec S32 32 := Host.reduceWindow IntOp.addi ![32] ![1] ![31] ![0] a (broadcastInDim S_ ![] bcast_S_S_ (constantI S_ 32 0#32)) reduceWindows_S32_S32_w32s1p31_0 h_S_
def f11 : IVec S167 32 := muli (iotaInDim S167 32 0) (k167 256#32)
def f14 (v8 : IVec S32 32) : IVec S_ 32 := pyDiv0 (last32 v8) (constantI S_ 32 256#32)
def f27 (v8 : IVec S32 32) (v14 : IVec S_ 32) : IVec S_ 32 :=
  Host.reduce IntOp.addi (extui 32 (cmpi .sle v8 (broadcastInDim S32 ![] bcast_S_S32 (muli (subi v14 (constantI S_ 32 1#32)) (constantI S_ 32 256#32)))) natLt_1_32) (constantI S_ 32 0#32) reducesTo_S32_S_d0 h_S_
def f31 (v8 : IVec S32 32) (v11 : IVec S167 32) : IVec S167 1 := cmpi .slt v11 (broadcastInDim S167 ![] bcast_S_S167 (last32 v8))
def f33 (v8 : IVec S32 32) (v11 : IVec S167 32) : IVec S167 32 := minsi (tally (cmpi .sle (cols v8) (rows v11))) (k167 31#32)
def f34 (v31 : IVec S167 1) (v33 : IVec S167 32) (v27 : IVec S_ 32) : IVec S167 32 := select v31 v33 (broadcastInDim S167 ![] bcast_S_S167 v27)
def f39 (v0 : IVec S32 32) (v34 : IVec S167 32) : IVec S167x32 1 := cmpi .eq (rows v34) (cols v0)
def f40 (v39 : IVec S167x32 1) (v8 : IVec S32 32) : IVec S167x32 32 := select v39 (broadcastInDim S167x32 ![1] bcast_S32_S167x32_1 v8) (broadcastInDim S167x32 ![] bcast_S_S167x32 (constantI S_ 32 0#32))
def f41 (v40 : IVec S167x32 32) : IVec S167 32 := Host.reduce IntOp.addi v40 (constantI S_ 32 0#32) reducesTo_S167x32_S167_d1 h_S_
def f54 (v8 : IVec S32 32) (v41 : IVec S167 32) : IVec S167 32 := minsi (tally (cmpi .sle (cols v8) (rows v41))) (k167 31#32)
def f55 (v45 : IVec S167 1) (v54 : IVec S167 32) : IVec S167 32 := select v45 v54 (k167 4294967295#32)
def f67 (v0 : IVec S32 32) (v34 : IVec S167 32) (v7 : IVec S32 32) : IVec S167 32 :=
  tally (andi (cmpi .slt (cols v0) (rows v34)) (broadcastInDim S167x32 ![0, 1] bcast_S1x32_S167x32_0_1 (cmpi .sgt (broadcastInDim S1x32 ![1] bcast_S32_S1x32_1 v7) (broadcastInDim S1x32 ![] bcast_S_S1x32 (constantI S_ 32 0#32)))))
def f68 (v67 : IVec S167 32) : IVec S167 32 := pyRem bcast_S_S167 v67 (constantI S_ 32 2#32)
def f69 (v14 : IVec S_ 32) : IVec S1 32 := shapeCast S1 v14 shapeCasts_S_S1

def d7 (c : IVec S32 32) := f7 (f5 (f4 c))
def d8 (c : IVec S32 32) := f8 (d7 c)
def d14 (c : IVec S32 32) := f14 (d8 c)
def d34 (c : IVec S32 32) := f34 (f31 (d8 c) f11) (f33 (d8 c) f11) (f27 (d8 c) (d14 c))
def d41 (c : IVec S32 32) := f41 (f40 (f39 f0 (d34 c)) (d8 c))
def d55 (c : IVec S32 32) := f55 (f31 (d8 c) (d41 c)) (f54 (d8 c) (d41 c))
def d68 (c : IVec S32 32) := f68 (f67 f0 (d34 c) (d7 c))

/-- What the buffers in use hold before stretch 0, from the counts `c`. -/
structure I0 (c : IVec S32 32) (X : Valuation τ sig (Elt F)) : Prop where
  arg1 : X (Proc.devRef .tc main_arg1) = (c)
/-- What the buffers in use hold before stretch 1, from the counts `c`. -/
structure I1 (c : IVec S32 32) (X : Valuation τ sig (Elt F)) : Prop where
  v0 : X (Proc.devRef .tc main_v0) = (f0)
  v4 : X (Proc.devRef .tc main_v4) = (f4 c)
  c_1 : X (Proc.devRef .tc main_c_1) = (constantI S_ 32 256#32)
/-- What the buffers in use hold before stretch 2, from the counts `c`. -/
structure I2 (c : IVec S32 32) (X : Valuation τ sig (Elt F)) : Prop where
  v0 : X (Proc.devRef .tc main_v0) = (f0)
  v5 : X (Proc.devRef .tc main_v5) = (f5 (f4 c))
/-- What the buffers in use hold before stretch 3, from the counts `c`. -/
structure I3 (c : IVec S32 32) (X : Valuation τ sig (Elt F)) : Prop where
  v0 : X (Proc.devRef .tc main_v0) = (f0)
  v7 : X (Proc.devRef .tc main_v7) = (d7 c)
/-- What the buffers in use hold before stretch 4, from the counts `c`. -/
structure I4 (c : IVec S32 32) (X : Valuation τ sig (Elt F)) : Prop where
  v0 : X (Proc.devRef .tc main_v0) = (f0)
  v7 : X (Proc.devRef .tc main_v7) = (d7 c)
  v8 : X (Proc.devRef .tc main_v8) = (d8 c)
/-- What the buffers in use hold before stretch 5, from the counts `c`. -/
structure I5 (c : IVec S32 32) (X : Valuation τ sig (Elt F)) : Prop where
  v0 : X (Proc.devRef .tc main_v0) = (f0)
  v7 : X (Proc.devRef .tc main_v7) = (d7 c)
  v8 : X (Proc.devRef .tc main_v8) = (d8 c)
  v11 : X (Proc.devRef .tc main_v11) = (f11)
  v13 : X (Proc.devRef .tc main_v13) = (last32 (d8 c))
  c_4 : X (Proc.devRef .tc main_c_4) = (constantI S_ 32 256#32)
/-- What the buffers in use hold before stretch 6, from the counts `c`. -/
structure I6 (c : IVec S32 32) (X : Valuation τ sig (Elt F)) : Prop where
  v14 : X (Proc.devRef .tc main_v14) = (d14 c)
  v0 : X (Proc.devRef .tc main_v0) = (f0)
  v7 : X (Proc.devRef .tc main_v7) = (d7 c)
  v8 : X (Proc.devRef .tc main_v8) = (d8 c)
  v11 : X (Proc.devRef .tc main_v11) = (f11)
/-- What the buffers in use hold before stretch 7, from the counts `c`. -/
structure I7 (c : IVec S32 32) (X : Valuation τ sig (Elt F)) : Prop where
  v14 : X (Proc.devRef .tc main_v14) = (d14 c)
  v0 : X (Proc.devRef .tc main_v0) = (f0)
  v7 : X (Proc.devRef .tc main_v7) = (d7 c)
  v8 : X (Proc.devRef .tc main_v8) = (d8 c)
  v31 : X (Proc.devRef .tc main_v31) = (f31 (d8 c) f11)
  v33 : X (Proc.devRef .tc main_v33) = (f33 (d8 c) f11)
  v27 : X (Proc.devRef .tc main_v27) = (f27 (d8 c) (d14 c))
/-- What the buffers in use hold before stretch 8, from the counts `c`. -/
structure I8 (c : IVec S32 32) (X : Valuation τ sig (Elt F)) : Prop where
  v34 : X (Proc.devRef .tc main_v34) = (d34 c)
  v14 : X (Proc.devRef .tc main_v14) = (d14 c)
  v0 : X (Proc.devRef .tc main_v0) = (f0)
  v7 : X (Proc.devRef .tc main_v7) = (d7 c)
  v8 : X (Proc.devRef .tc main_v8) = (d8 c)
/-- What the buffers in use hold before stretch 9, from the counts `c`. -/
structure I9 (c : IVec S32 32) (X : Valuation τ sig (Elt F)) : Prop where
  v34 : X (Proc.devRef .tc main_v34) = (d34 c)
  v14 : X (Proc.devRef .tc main_v14) = (d14 c)
  v0 : X (Proc.devRef .tc main_v0) = (f0)
  v7 : X (Proc.devRef .tc main_v7) = (d7 c)
  v8 : X (Proc.devRef .tc main_v8) = (d8 c)
  v39 : X (Proc.devRef .tc main_v39) = (f39 f0 (d34 c))
  c_10 : X (Proc.devRef .tc main_c_10) = (constantI S_ 32 0#32)
/-- What the buffers in use hold before stretch 10, from the counts `c`. -/
structure I10 (c : IVec S32 32) (X : Valuation τ sig (Elt F)) : Prop where
  v34 : X (Proc.devRef .tc main_v34) = (d34 c)
  v14 : X (Proc.devRef .tc main_v14) = (d14 c)
  v0 : X (Proc.devRef .tc main_v0) = (f0)
  v7 : X (Proc.devRef .tc main_v7) = (d7 c)
  v8 : X (Proc.devRef .tc main_v8) = (d8 c)
  v40 : X (Proc.devRef .tc main_v40) = (f40 (f39 f0 (d34 c)) (d8 c))
/-- What the buffers in use hold before stretch 11, from the counts `c`. -/
structure I11 (c : IVec S32 32) (X : Valuation τ sig (Elt F)) : Prop where
  v34 : X (Proc.devRef .tc main_v34) = (d34 c)
  v14 : X (Proc.devRef .tc main_v14) = (d14 c)
  v0 : X (Proc.devRef .tc main_v0) = (f0)
  v7 : X (Proc.devRef .tc main_v7) = (d7 c)
  v45 : X (Proc.devRef .tc main_v45) = (f31 (d8 c) (d41 c))
  v54 : X (Proc.devRef .tc main_v54) = (f54 (d8 c) (d41 c))
  c_14 : X (Proc.devRef .tc main_c_14) = (constantI S_ 32 4294967295#32)
/-- What the buffers in use hold before stretch 12, from the counts `c`. -/
structure I12 (c : IVec S32 32) (X : Valuation τ sig (Elt F)) : Prop where
  v34 : X (Proc.devRef .tc main_v34) = (d34 c)
  v55 : X (Proc.devRef .tc main_v55) = (d55 c)
  v14 : X (Proc.devRef .tc main_v14) = (d14 c)
  v0 : X (Proc.devRef .tc main_v0) = (f0)
  v7 : X (Proc.devRef .tc main_v7) = (d7 c)
/-- What the buffers in use hold before stretch 13, from the counts `c`. -/
structure I13 (c : IVec S32 32) (X : Valuation τ sig (Elt F)) : Prop where
  v34 : X (Proc.devRef .tc main_v34) = (d34 c)
  v55 : X (Proc.devRef .tc main_v55) = (d55 c)
  v14 : X (Proc.devRef .tc main_v14) = (d14 c)
  v67 : X (Proc.devRef .tc main_v67) = (f67 f0 (d34 c) (d7 c))
  c_17 : X (Proc.devRef .tc main_c_17) = (constantI S_ 32 2#32)
/-- What the buffers in use hold before stretch 14, from the counts `c`. -/
structure I14 (c : IVec S32 32) (X : Valuation τ sig (Elt F)) : Prop where
  v34 : X (Proc.devRef .tc main_v34) = (d34 c)
  v55 : X (Proc.devRef .tc main_v55) = (d55 c)
  v68 : X (Proc.devRef .tc main_v68) = (d68 c)
  v14 : X (Proc.devRef .tc main_v14) = (d14 c)
/-- What the tables hold after the last stretch, from the counts `c`. -/
structure I15 (c : IVec S32 32) (X : Valuation τ sig (Elt F)) : Prop where
  v34 : X (Proc.devRef .tc main_v34) = (d34 c)
  v55 : X (Proc.devRef .tc main_v55) = (d55 c)
  v68 : X (Proc.devRef .tc main_v68) = (d68 c)
  v69 : X (Proc.devRef .tc main_v69) = (f69 (d14 c))
  v14 : X (Proc.devRef .tc main_v14) = (d14 c)
theorem I0_next {c : IVec S32 32} {X : Valuation τ sig (Elt F)} (h : I0 c X) : I1 c (StableHlo.after (hostOps0 (F := F)) X) where
  v0 := by
    have e : StableHlo.after (hostOps0 (F := F)) X (Proc.devRef .tc main_v0) = (f0) := by
      after_reads_simp
      try simp -implicitDefEqProofs only [StableHlo.TRef.toBuf, StableHlo.TRef.ofBuf, cast_cast, cast_eq, id]
      try rfl
    rw [e]
    try rfl
  v4 := by
    have e : StableHlo.after (hostOps0 (F := F)) X (Proc.devRef .tc main_v4) = (f4 (X (Proc.devRef .tc main_arg1))) := by
      after_reads_simp
      try simp -implicitDefEqProofs only [StableHlo.TRef.toBuf, StableHlo.TRef.ofBuf, cast_cast, cast_eq, id]
      try rfl
    rw [e, h.arg1]
    try rfl
  c_1 := by
    have e : StableHlo.after (hostOps0 (F := F)) X (Proc.devRef .tc main_c_1) = (constantI S_ 32 256#32) := by
      after_reads_simp
      try simp -implicitDefEqProofs only [StableHlo.TRef.toBuf, StableHlo.TRef.ofBuf, cast_cast, cast_eq, id]
      try rfl
    rw [e]
    try rfl
theorem I1_next {c : IVec S32 32} {X : Valuation τ sig (Elt F)} (h : I1 c X) : I2 c (StableHlo.after (hostOps0_1 (F := F)) X) where
  v0 := by
    after_reads_simp
    exact h.v0
  v5 := by
    after_reads_simp
    try simp -implicitDefEqProofs only [StableHlo.TRef.toBuf, StableHlo.TRef.ofBuf, cast_cast, cast_eq, id]
    rw [h.c_1]
    rw [h.v4]
    unfold f5 pyDiv; rfl
theorem I2_next {c : IVec S32 32} {X : Valuation τ sig (Elt F)} (h : I2 c X) : I3 c (StableHlo.after (hostOps0_2 (F := F)) X) where
  v0 := by
    after_reads_simp
    exact h.v0
  v7 := by
    have e : StableHlo.after (hostOps0_2 (F := F)) X (Proc.devRef .tc main_v7) = (f7 (X (Proc.devRef .tc main_v5))) := by
      after_reads_simp
      try simp -implicitDefEqProofs only [StableHlo.TRef.toBuf, StableHlo.TRef.ofBuf, cast_cast, cast_eq, id]
      try rfl
    rw [e, h.v5]
    try rfl
theorem I3_next {c : IVec S32 32} {X : Valuation τ sig (Elt F)} (h : I3 c X) : I4 c (StableHlo.after (hostOps0_3 (F := F)) X) where
  v0 := by
    after_reads_simp
    exact h.v0
  v7 := by
    after_reads_simp
    exact h.v7
  v8 := by
    have e : StableHlo.after (hostOps0_3 (F := F)) X (Proc.devRef .tc main_v8) = (f8 (X (Proc.devRef .tc main_v7))) := by
      after_reads_simp
      try simp -implicitDefEqProofs only [StableHlo.TRef.toBuf, StableHlo.TRef.ofBuf, cast_cast, cast_eq, id]
      try rfl
    rw [e, h.v7]
    try rfl
theorem I4_next {c : IVec S32 32} {X : Valuation τ sig (Elt F)} (h : I4 c X) : I5 c (StableHlo.after (hostOps0_4 (F := F)) X) where
  v0 := by
    after_reads_simp
    exact h.v0
  v7 := by
    after_reads_simp
    exact h.v7
  v8 := by
    after_reads_simp
    exact h.v8
  v11 := by
    have e : StableHlo.after (hostOps0_4 (F := F)) X (Proc.devRef .tc main_v11) = (f11) := by
      after_reads_simp
      try simp -implicitDefEqProofs only [StableHlo.TRef.toBuf, StableHlo.TRef.ofBuf, cast_cast, cast_eq, id]
      try rfl
    rw [e]
    try rfl
  v13 := by
    have e : StableHlo.after (hostOps0_4 (F := F)) X (Proc.devRef .tc main_v13) = (last32 (X (Proc.devRef .tc main_v8))) := by
      after_reads_simp
      try simp -implicitDefEqProofs only [StableHlo.TRef.toBuf, StableHlo.TRef.ofBuf, cast_cast, cast_eq, id]
      try rfl
    rw [e, h.v8]
    try rfl
  c_4 := by
    have e : StableHlo.after (hostOps0_4 (F := F)) X (Proc.devRef .tc main_c_4) = (constantI S_ 32 256#32) := by
      after_reads_simp
      try simp -implicitDefEqProofs only [StableHlo.TRef.toBuf, StableHlo.TRef.ofBuf, cast_cast, cast_eq, id]
      try rfl
    rw [e]
    try rfl
theorem I5_next {c : IVec S32 32} {X : Valuation τ sig (Elt F)} (h : I5 c X) : I6 c (StableHlo.after (hostOps0_5 (F := F)) X) where
  v14 := by
    after_reads_simp
    try simp -implicitDefEqProofs only [StableHlo.TRef.toBuf, StableHlo.TRef.ofBuf, cast_cast, cast_eq, id]
    rw [h.c_4]
    rw [h.v13]
    unfold d14 f14 pyDiv0; rfl
  v0 := by
    after_reads_simp
    exact h.v0
  v7 := by
    after_reads_simp
    exact h.v7
  v8 := by
    after_reads_simp
    exact h.v8
  v11 := by
    after_reads_simp
    exact h.v11
theorem I6_next {c : IVec S32 32} {X : Valuation τ sig (Elt F)} (h : I6 c X) : I7 c (StableHlo.after (hostOps0_6 (F := F)) X) where
  v14 := by
    after_reads_simp
    exact h.v14
  v0 := by
    after_reads_simp
    exact h.v0
  v7 := by
    after_reads_simp
    exact h.v7
  v8 := by
    after_reads_simp
    exact h.v8
  v31 := by
    have e : StableHlo.after (hostOps0_6 (F := F)) X (Proc.devRef .tc main_v31) = (f31 (X (Proc.devRef .tc main_v8)) (X (Proc.devRef .tc main_v11))) := by
      after_reads_simp
      try simp -implicitDefEqProofs only [StableHlo.TRef.toBuf, StableHlo.TRef.ofBuf, cast_cast, cast_eq, id]
      try rfl
    rw [e, h.v8, h.v11]
    try rfl
  v33 := by
    have e : StableHlo.after (hostOps0_6 (F := F)) X (Proc.devRef .tc main_v33) = (f33 (X (Proc.devRef .tc main_v8)) (X (Proc.devRef .tc main_v11))) := by
      after_reads_simp
      try simp -implicitDefEqProofs only [StableHlo.TRef.toBuf, StableHlo.TRef.ofBuf, cast_cast, cast_eq, id]
      try rfl
    rw [e, h.v8, h.v11]
    try rfl
  v27 := by
    have e : StableHlo.after (hostOps0_6 (F := F)) X (Proc.devRef .tc main_v27) = (f27 (X (Proc.devRef .tc main_v8)) (X (Proc.devRef .tc main_v14))) := by
      after_reads_simp
      try simp -implicitDefEqProofs only [StableHlo.TRef.toBuf, StableHlo.TRef.ofBuf, cast_cast, cast_eq, id]
      try rfl
    rw [e, h.v8, h.v14]
    try rfl
theorem I7_next {c : IVec S32 32} {X : Valuation τ sig (Elt F)} (h : I7 c X) : I8 c (StableHlo.after (hostOps0_7 (F := F)) X) where
  v34 := by
    have e : StableHlo.after (hostOps0_7 (F := F)) X (Proc.devRef .tc main_v34) = (f34 (X (Proc.devRef .tc main_v31)) (X (Proc.devRef .tc main_v33)) (X (Proc.devRef .tc main_v27))) := by
      after_reads_simp
      try simp -implicitDefEqProofs only [StableHlo.TRef.toBuf, StableHlo.TRef.ofBuf, cast_cast, cast_eq, id]
      try rfl
    rw [e, h.v31, h.v33, h.v27]
    try rfl
  v14 := by
    after_reads_simp
    exact h.v14
  v0 := by
    after_reads_simp
    exact h.v0
  v7 := by
    after_reads_simp
    exact h.v7
  v8 := by
    after_reads_simp
    exact h.v8
theorem I8_next {c : IVec S32 32} {X : Valuation τ sig (Elt F)} (h : I8 c X) : I9 c (StableHlo.after (hostOps0_8 (F := F)) X) where
  v34 := by
    after_reads_simp
    exact h.v34
  v14 := by
    after_reads_simp
    exact h.v14
  v0 := by
    after_reads_simp
    exact h.v0
  v7 := by
    after_reads_simp
    exact h.v7
  v8 := by
    after_reads_simp
    exact h.v8
  v39 := by
    have e : StableHlo.after (hostOps0_8 (F := F)) X (Proc.devRef .tc main_v39) = (f39 (X (Proc.devRef .tc main_v0)) (X (Proc.devRef .tc main_v34))) := by
      after_reads_simp
      try simp -implicitDefEqProofs only [StableHlo.TRef.toBuf, StableHlo.TRef.ofBuf, cast_cast, cast_eq, id]
      try rfl
    rw [e, h.v0, h.v34]
    try rfl
  c_10 := by
    have e : StableHlo.after (hostOps0_8 (F := F)) X (Proc.devRef .tc main_c_10) = (constantI S_ 32 0#32) := by
      after_reads_simp
      try simp -implicitDefEqProofs only [StableHlo.TRef.toBuf, StableHlo.TRef.ofBuf, cast_cast, cast_eq, id]
      try rfl
    rw [e]
    try rfl
theorem I9_next {c : IVec S32 32} {X : Valuation τ sig (Elt F)} (h : I9 c X) : I10 c (StableHlo.after (hostOps0_9 (F := F)) X) where
  v34 := by
    after_reads_simp
    exact h.v34
  v14 := by
    after_reads_simp
    exact h.v14
  v0 := by
    after_reads_simp
    exact h.v0
  v7 := by
    after_reads_simp
    exact h.v7
  v8 := by
    after_reads_simp
    exact h.v8
  v40 := by
    after_reads_simp
    try simp -implicitDefEqProofs only [StableHlo.TRef.toBuf, StableHlo.TRef.ofBuf, cast_cast, cast_eq, id]
    rw [h.c_10]
    rw [h.v39]
    rw [h.v8]
    unfold f40; rfl
theorem I10_next {c : IVec S32 32} {X : Valuation τ sig (Elt F)} (h : I10 c X) : I11 c (StableHlo.after (hostOps0_10 (F := F)) X) where
  v34 := by
    after_reads_simp
    exact h.v34
  v14 := by
    after_reads_simp
    exact h.v14
  v0 := by
    after_reads_simp
    exact h.v0
  v7 := by
    after_reads_simp
    exact h.v7
  v45 := by
    have e : StableHlo.after (hostOps0_10 (F := F)) X (Proc.devRef .tc main_v45) = (f31 (X (Proc.devRef .tc main_v8)) (f41 (X (Proc.devRef .tc main_v40)))) := by
      after_reads_simp
      try simp -implicitDefEqProofs only [StableHlo.TRef.toBuf, StableHlo.TRef.ofBuf, cast_cast, cast_eq, id]
      try rfl
    rw [e, h.v8, h.v40]
    try rfl
  v54 := by
    have e : StableHlo.after (hostOps0_10 (F := F)) X (Proc.devRef .tc main_v54) = (f54 (X (Proc.devRef .tc main_v8)) (f41 (X (Proc.devRef .tc main_v40)))) := by
      after_reads_simp
      try simp -implicitDefEqProofs only [StableHlo.TRef.toBuf, StableHlo.TRef.ofBuf, cast_cast, cast_eq, id]
      try rfl
    rw [e, h.v8, h.v40]
    try rfl
  c_14 := by
    have e : StableHlo.after (hostOps0_10 (F := F)) X (Proc.devRef .tc main_c_14) = (constantI S_ 32 4294967295#32) := by
      after_reads_simp
      try simp -implicitDefEqProofs only [StableHlo.TRef.toBuf, StableHlo.TRef.ofBuf, cast_cast, cast_eq, id]
      try rfl
    rw [e]
    try rfl
theorem I11_next {c : IVec S32 32} {X : Valuation τ sig (Elt F)} (h : I11 c X) : I12 c (StableHlo.after (hostOps0_11 (F := F)) X) where
  v34 := by
    after_reads_simp
    exact h.v34
  v55 := by
    after_reads_simp
    try simp -implicitDefEqProofs only [StableHlo.TRef.toBuf, StableHlo.TRef.ofBuf, cast_cast, cast_eq, id]
    rw [h.c_14]
    rw [h.v45]
    rw [h.v54]
    unfold d55 f55; rfl
  v14 := by
    after_reads_simp
    exact h.v14
  v0 := by
    after_reads_simp
    exact h.v0
  v7 := by
    after_reads_simp
    exact h.v7
theorem I12_next {c : IVec S32 32} {X : Valuation τ sig (Elt F)} (h : I12 c X) : I13 c (StableHlo.after (hostOps0_12 (F := F)) X) where
  v34 := by
    after_reads_simp
    exact h.v34
  v55 := by
    after_reads_simp
    exact h.v55
  v14 := by
    after_reads_simp
    exact h.v14
  v67 := by
    have e : StableHlo.after (hostOps0_12 (F := F)) X (Proc.devRef .tc main_v67) = (f67 (X (Proc.devRef .tc main_v0)) (X (Proc.devRef .tc main_v34)) (X (Proc.devRef .tc main_v7))) := by
      after_reads_simp
      try simp -implicitDefEqProofs only [StableHlo.TRef.toBuf, StableHlo.TRef.ofBuf, cast_cast, cast_eq, id]
      try rfl
    rw [e, h.v0, h.v34, h.v7]
    try rfl
  c_17 := by
    have e : StableHlo.after (hostOps0_12 (F := F)) X (Proc.devRef .tc main_c_17) = (constantI S_ 32 2#32) := by
      after_reads_simp
      try simp -implicitDefEqProofs only [StableHlo.TRef.toBuf, StableHlo.TRef.ofBuf, cast_cast, cast_eq, id]
      try rfl
    rw [e]
    try rfl
theorem I13_next {c : IVec S32 32} {X : Valuation τ sig (Elt F)} (h : I13 c X) : I14 c (StableHlo.after (hostOps0_13 (F := F)) X) where
  v34 := by
    after_reads_simp
    exact h.v34
  v55 := by
    after_reads_simp
    exact h.v55
  v68 := by
    after_reads_simp
    try simp -implicitDefEqProofs only [StableHlo.TRef.toBuf, StableHlo.TRef.ofBuf, cast_cast, cast_eq, id]
    rw [h.c_17]
    rw [h.v67]
    unfold d68 f68 pyRem divGuard; rfl
  v14 := by
    after_reads_simp
    exact h.v14
theorem I14_next {c : IVec S32 32} {X : Valuation τ sig (Elt F)} (h : I14 c X) : I15 c (StableHlo.after (hostOps0_14 (F := F)) X) where
  v34 := by
    after_reads_simp
    exact h.v34
  v55 := by
    after_reads_simp
    exact h.v55
  v68 := by
    after_reads_simp
    exact h.v68
  v69 := by
    have e : StableHlo.after (hostOps0_14 (F := F)) X (Proc.devRef .tc main_v69) = (f69 (X (Proc.devRef .tc main_v14))) := by
      after_reads_simp
      try simp -implicitDefEqProofs only [StableHlo.TRef.toBuf, StableHlo.TRef.ofBuf, cast_cast, cast_eq, id]
      try rfl
    rw [e, h.v14]
    try rfl
  v14 := by
    after_reads_simp
    exact h.v14

theorem after_app (l₁ l₂ : List (HloOp τ sig (Elt F))) (X : Valuation τ sig (Elt F)) : StableHlo.after (l₁ ++ l₂) X = StableHlo.after l₂ (StableHlo.after l₁ X) := by
  induction l₁ generalizing X with
  | nil => rfl
  | cons a l ih => exact ih _

theorem after_flat (ls : List (List (HloOp τ sig (Elt F)))) (X : Valuation τ sig (Elt F)) :
    StableHlo.after ls.flatten X = ls.foldl (fun X l => StableHlo.after l X) X := by
  induction ls generalizing X with
  | nil => rfl
  | cons a l ih => rw [List.flatten_cons, after_app]; exact ih _

/-- The tables, from the counts. -/
theorem tables (m : (ℓ : Loc nD τ sig) → Buf (Elt F) ℓ) (c : Dev nD) :
    I15 (m (c, Proc.devRef .tc main_arg1)) (StableHlo.after (opss (F := F)).flatten (fun b => m (c, b))) := by
  have h0 : I0 (m (c, Proc.devRef .tc main_arg1)) (fun b => m (c, b)) := ⟨rfl⟩
  have h := I14_next (I13_next (I12_next (I11_next (I10_next (I9_next (I8_next (I7_next (I6_next (I5_next (I4_next (I3_next (I2_next (I1_next (I0_next h0))))))))))))))
  rw [after_flat]; exact h

theorem V_v34 (m : (ℓ : Loc nD τ sig) → Buf (Elt F) ℓ) (c : Dev nD) : V m c main_v34 = d34 (m (c, Proc.devRef .tc main_arg1)) := (tables m c).v34
theorem V_v55 (m : (ℓ : Loc nD τ sig) → Buf (Elt F) ℓ) (c : Dev nD) : V m c main_v55 = d55 (m (c, Proc.devRef .tc main_arg1)) := (tables m c).v55
theorem V_v68 (m : (ℓ : Loc nD τ sig) → Buf (Elt F) ℓ) (c : Dev nD) : V m c main_v68 = d68 (m (c, Proc.devRef .tc main_arg1)) := (tables m c).v68
theorem V_v69 (m : (ℓ : Loc nD τ sig) → Buf (Elt F) ℓ) (c : Dev nD) : V m c main_v69 = f69 (d14 (m (c, Proc.devRef .tc main_arg1))) := (tables m c).v69
/-- The host lines leave the arguments alone. -/
theorem V_arg (m : (ℓ : Loc nD τ sig) → Buf (Elt F) ℓ) (c : Dev nD) (b : Ref sig .tc)
    (hb : b = main_arg0 ∨ b = main_arg1 ∨ b = main_arg2 ∨ b = main_arg3 ∨ b = main_arg4) : V m c b = m ((c : Thread nD τ).loc b) := by
  unfold V opss
  rcases hb with rfl | rfl | rfl | rfl | rfl <;>
  · simp only [List.flatten_cons, List.flatten_nil, List.append_nil]
    after_reads_simp
    try rfl

end Cert.KernelIdeal.Hand
end
-- ==== Proof.Words.lean ====
/- The tables as numbers: what each word of them holds, where the counts hold naturals. -/
module
public import proofs.«01_k».proof.Proof.Host
public import Idealize.ShloMosaic.Lib.Pointwise.Reduce
@[expose] public section

noncomputable section

namespace Cert.KernelIdeal.Hand

open Cert.KernelIdeal Cert.KernelIdeal.Gen
open Idealize.ShloMosaic hiding ix0 ix1 ix2
open Idealize.ShloMosaic.TcCoe

open Idealize.ShloMosaic.Routing Idealize.ShloMosaic.ValueIdx Idealize.ShloMosaic.WordCmp

theorem bit0 {b : BitVec 1} (h : b ≠ 1#1) : b = 0#1 := by revert b; decide

/-- The rows an expert takes: its count, rounded up to whole tiles of 256. -/
def padn (n : ℕ → ℕ) (e : ℕ) : ℕ := (n e + 255) / 256 * 256
/-- The row where an expert's rows end. -/
def cum (n : ℕ → ℕ) (e : ℕ) : ℕ := ((List.range (e + 1)).map (padn n)).sum
/-- The expert of a tile: the first whose rows end behind the tile's first row. -/
def texp (n : ℕ → ℕ) (t : ℕ) : ℕ := Nat.count (fun e => cum n e ≤ 256 * t) 32
/-- How many experts end at or before the row where a tile's expert ends. -/
def tnext (n : ℕ → ℕ) (t : ℕ) : ℕ := Nat.count (fun e => cum n e ≤ cum n (texp n t)) 32
/-- How many experts before a tile's own have rows. -/
def tpar (n : ℕ → ℕ) (t : ℕ) : ℕ := Nat.count (fun e => e < texp n t ∧ 0 < padn n e) 32

theorem cum_succ (n : ℕ → ℕ) (e : ℕ) : cum n (e + 1) = cum n e + padn n (e + 1) := by
  unfold cum; rw [List.range_succ, List.map_append, List.sum_append]; simp
theorem cum_mono (n : ℕ → ℕ) {a b : ℕ} (h : a ≤ b) : cum n a ≤ cum n b := by
  induction b, h using Nat.le_induction with
  | base => exact le_rfl
  | succ b _ ih => rw [cum_succ]; omega

/-- The counts hold naturals, and all rows together are few. -/
structure CountsOK (c : IVec S32 32) (n : ℕ → ℕ) : Prop where
  w : ∀ e : Fin 32, c (ix1 e) = BitVec.ofNat 32 (n e.val)
  b : ∀ e : ℕ, e < 32 → n e ≤ 34816
  tot : cum n 31 ≤ 42976

theorem onehot {β : Type} [DecidableEq β] (s : Finset β) (q : β) (w : BitVec 32) (g : β → BitVec 32) (hg : ∀ x, g x = if x = q then w else 0#32) :
    s.fold IntOp.addi 0#32 g = if q ∈ s then w else 0#32 := by
  induction s using Finset.induction_on with
  | empty => simp
  | insert a s ha ih =>
    rw [Finset.fold_insert ha, ih, hg]
    by_cases hq : a = q
    · subst hq
      rw [if_pos rfl, if_neg ha, if_pos (Finset.mem_insert_self _ _)]
      exact BitVec.add_zero _
    · rw [if_neg hq]
      have : (q ∈ insert a s) ↔ q ∈ s := by
        rw [Finset.mem_insert]; exact ⟨fun h => h.resolve_left fun h => hq h.symm, Or.inr⟩
      simp only [this]
      exact BitVec.zero_add _

variable {c : IVec S32 32} {n : ℕ → ℕ} (H : CountsOK c n)
include H

theorem cum_le (e : Fin 32) : cum n e.val ≤ 42976 := le_trans (cum_mono n (by omega)) H.tot

theorem d7_ap (e : Fin 32) : d7 c (ix1 e) = BitVec.ofNat 32 (padn n e.val) := by
  have h4 : f4 c (ix1 e) = BitVec.ofNat 32 (n e.val + 255) := by
    show c (ix1 e) + 256#32 - 1#32 = _
    rw [H.w e, BitVec.ofNat_add, BitVec.sub_eq_add_neg, BitVec.add_assoc]
    rfl
  have hb := H.b e.val e.isLt
  have h5 : f5 (f4 c) (ix1 e) = BitVec.ofNat 32 ((n e.val + 255) / 256) :=
    pyDiv_ap bcast_S_S32 (f4 c) (constantI S_ 32 256#32) (ix1 e) h4 rfl (by omega) (by omega) (by omega)
  show f5 (f4 c) (ix1 e) * 256#32 = _
  rw [h5]; exact (BitVec.ofNat_mul _ _).symm

theorem d8_ap (e : Fin 32) : d8 c (ix1 e) = BitVec.ofNat 32 (cum n e.val) := by
  have hi : broadcastInDim S_ ![] bcast_S_S_ (constantI S_ 32 0#32) ValueIdx.ix0 = 0#32 := bc0 (s := S_) bcast_S_S_ _ _
  unfold d8 f8 cum
  exact cumsum1 (N := 32) (Nm1 := 31) rfl (d7 c) (padn n) (d7_ap H) (broadcastInDim S_ ![] bcast_S_S_ (constantI S_ 32 0#32)) hi reduceWindows_S32_S32_w32s1p31_0 h_S_ e

theorem last_ap : last32 (d8 c) ValueIdx.ix0 = BitVec.ofNat 32 (cum n 31) := by
  have h : last32 (d8 c) ValueIdx.ix0 = extractStridedSlice S1 ![31] (d8 c) slices_S32_S1_31 (ix1 (0 : Fin 1)) := by
    refine shapeCast_apply _ shapeCasts_S1_S_ _ _ ?_
    rw [Shape.rowMajor_val_one]
    have := (S_.rowMajor ValueIdx.ix0).isLt
    have h1 : S_.numel = 1 := rfl
    show 0 = _
    omega
  rw [h, slice1 (m := 32) (n := 1) 31 (d8 c) slices_S32_S1_31 (0 : Fin 1) (by decide)]
  exact d8_ap H ⟨31, by omega⟩

theorem d14_ap : d14 c ValueIdx.ix0 = BitVec.ofNat 32 (cum n 31 / 256) := by
  have := H.tot
  exact pyDiv0_ap (last32 (d8 c)) (constantI S_ 32 256#32) (last_ap H) rfl (by omega) (by omega) (by omega)

omit H in
theorem f11_ap (t : Fin 167) : f11 (ix1 t) = BitVec.ofNat 32 (256 * t.val) := by
  show BitVec.ofNat 32 t.val * 256#32 = _
  rw [Nat.mul_comm]; exact (BitVec.ofNat_mul _ _).symm

/-- A row of the comparison with a bound, counted. -/
theorem tally_ap (v : IVec S167 32) (t : Fin 167) (b : ℕ) (hv : v (ix1 t) = BitVec.ofNat 32 b) (hb : b < 2 ^ 31) :
    tally (cmpi .sle (cols (d8 c)) (rows v)) (ix1 t) = BitVec.ofNat 32 (Nat.count (fun e => cum n e ≤ b) 32) := by
  refine reduce_count (n := 167) (m := 32) (by omega) _ natLt_1_32 reducesTo_S167x32_S167_d1 h_S_ t (fun e => cum n e ≤ b) fun q => ?_
  have h1 : cols (d8 c) (ix2 t q) = BitVec.ofNat 32 (cum n q.val) := (bcCols (n := 167) (m := 32) _ _ (d8 c) t q).trans (d8_ap H q)
  have h2 : rows v (ix2 t q) = BitVec.ofNat 32 b := (bcRows (n := 167) (m := 32) _ _ v t q).trans hv
  show IntOp.cmpi .sle (cols (d8 c) (ix2 t q)) (rows v (ix2 t q)) = 1#1 ↔ _
  rw [h1, h2]
  exact cmpi_sle_ofNat_eq_one_iff (w := 32) (lt_of_le_of_lt (cum_le H q) (by omega)) hb

theorem lt_texp_iff (t : ℕ) {e : ℕ} (he : e < 32) : cum n e ≤ 256 * t ↔ e < texp n t :=
  lt_count_iff (Q := fun e => cum n e ≤ 256 * t) (fun a b hab _ h => le_trans (cum_mono n hab) h) he

theorem texp_lt {t : ℕ} (ht : 256 * t < cum n 31) : texp n t < 32 := by
  have h := lt_texp_iff H t (e := 31) (by omega)
  have h2 : ¬ 31 < texp n t := fun h' => by have := h.2 h'; omega
  omega

omit H in
theorem min31 {a : ℕ} (ha : a < 32) : IntOp.minsi (BitVec.ofNat 32 a) 31#32 = BitVec.ofNat 32 a := by
  unfold IntOp.minsi
  by_cases h : a < 31
  · rw [if_pos]
    have h := (cmpi_slt_ofNat_eq_one_iff (w := 32) (a := a) (b := 31) (by omega) (by omega)).2 h
    cases hs : (BitVec.ofNat 32 a).slt 31#32
    · rw [show IntOp.cmpi .slt (BitVec.ofNat 32 a) (BitVec.ofNat 32 31) = BitVec.ofBool ((BitVec.ofNat 32 a).slt 31#32) from rfl, hs] at h
      exact absurd h (by decide)
    · rfl
  · have : a = 31 := by omega
    subst this; rfl

theorem d34_ap (t : Fin 167) (ht : 256 * t.val < cum n 31) : d34 c (ix1 t) = BitVec.ofNat 32 (texp n t.val) := by
  have hT := H.tot
  have h31 : f31 (d8 c) f11 (ix1 t) = 1#1 := by
    show IntOp.cmpi .slt (f11 (ix1 t)) (broadcastInDim S167 ![] bcast_S_S167 (last32 (d8 c)) (ix1 t)) = 1#1
    rw [f11_ap, bc0 (s := S167) bcast_S_S167 (last32 (d8 c)) (ix1 t), last_ap H]
    exact (cmpi_slt_ofNat_eq_one_iff (w := 32) (by omega) (by omega)).2 ht
  show Scalar.select (f31 (d8 c) f11 (ix1 t)) (f33 (d8 c) f11 (ix1 t)) _ = _
  rw [select_of_eq_one h31]
  show IntOp.minsi (tally (cmpi .sle (cols (d8 c)) (rows f11)) (ix1 t)) 31#32 = _
  rw [tally_ap H f11 t _ (f11_ap t) (by omega)]
  exact min31 (texp_lt H ht)

theorem d41_ap (t : Fin 167) (ht : 256 * t.val < cum n 31) : d41 c (ix1 t) = BitVec.ofNat 32 (cum n (texp n t.val)) := by
  have hT := texp_lt H ht
  show Host.reduce IntOp.addi (f40 (f39 f0 (d34 c)) (d8 c)) (constantI S_ 32 0#32) reducesTo_S167x32_S167_d1 h_S_ (ix1 t) = _
  rw [Host.reduce_eq_fold]
  refine ((reducesTo_S167x32_S167_d1).fold_fiber_r2_a1 (n0 := 167) (n1 := 32) (ix1 t) IntOp.addi _ _).trans ?_
  refine (onehot Finset.univ (⟨texp n t.val, hT⟩ : Fin 32) (BitVec.ofNat 32 (cum n (texp n t.val))) _ fun q => ?_).trans (if_pos (Finset.mem_univ _))
  show f40 (f39 f0 (d34 c)) (d8 c) (ix2 t q) = _
  have h39 : f39 f0 (d34 c) (ix2 t q) = 1#1 ↔ q = ⟨texp n t.val, hT⟩ := by
    have h1 : cols f0 (ix2 t q) = BitVec.ofNat 32 q.val := (bcCols (n := 167) (m := 32) _ _ f0 t q).trans rfl
    have h2 : rows (d34 c) (ix2 t q) = BitVec.ofNat 32 (texp n t.val) := (bcRows (n := 167) (m := 32) _ _ (d34 c) t q).trans (d34_ap H t ht)
    show IntOp.cmpi .eq (rows (d34 c) (ix2 t q)) (cols f0 (ix2 t q)) = 1#1 ↔ _
    rw [h1, h2, cmpi_eq_ofNat_eq_one_iff (w := 32) (by omega) (by omega), Fin.ext_iff]
    exact eq_comm
  show Scalar.select (f39 f0 (d34 c) (ix2 t q)) (broadcastInDim S167x32 ![1] bcast_S32_S167x32_1 (d8 c) (ix2 t q)) 0#32 = _
  by_cases hq : q = ⟨texp n t.val, hT⟩
  · rw [select_of_eq_one (h39.2 hq), if_pos hq]
    have h3 : broadcastInDim S167x32 ![1] bcast_S32_S167x32_1 (d8 c) (ix2 t q) = d8 c (ix1 q) := by
      refine broadcastInDim_apply _ _ _ _ _ fun a => ?_
      match a with
      | ⟨0, _⟩ => rfl
    rw [h3, d8_ap H, hq]
  · rw [if_neg hq]
    have : f39 f0 (d34 c) (ix2 t q) ≠ 1#1 := fun h => hq (h39.1 h)
    exact select_of_eq_zero (bit0 this) _ _

theorem d55_ap (t : Fin 167) (ht : 256 * t.val < cum n 31) :
    d55 c (ix1 t) = if cum n (texp n t.val) < cum n 31 then BitVec.ofNat 32 (tnext n t.val) else 4294967295#32 := by
  have hT := texp_lt H ht
  have hc : cum n (texp n t.val) ≤ 42976 := cum_le H ⟨texp n t.val, hT⟩
  have hT' := H.tot
  have h31 : f31 (d8 c) (d41 c) (ix1 t) = 1#1 ↔ cum n (texp n t.val) < cum n 31 := by
    show IntOp.cmpi .slt (d41 c (ix1 t)) (broadcastInDim S167 ![] bcast_S_S167 (last32 (d8 c)) (ix1 t)) = 1#1 ↔ _
    rw [d41_ap H t ht, bc0 (s := S167) bcast_S_S167 (last32 (d8 c)) (ix1 t), last_ap H]
    exact cmpi_slt_ofNat_eq_one_iff (w := 32) (by omega) (by omega)
  show Scalar.select (f31 (d8 c) (d41 c) (ix1 t)) (f54 (d8 c) (d41 c) (ix1 t)) 4294967295#32 = _
  by_cases h : cum n (texp n t.val) < cum n 31
  · rw [select_of_eq_one (h31.2 h), if_pos h]
    show IntOp.minsi (tally (cmpi .sle (cols (d8 c)) (rows (d41 c))) (ix1 t)) 31#32 = _
    rw [tally_ap H (d41 c) t _ (d41_ap H t ht) (by omega)]
    refine min31 ?_
    have h2 := lt_count_iff (N := 32) (Q := fun e => cum n e ≤ cum n (texp n t.val)) (fun a b hab _ h => le_trans (cum_mono n hab) h) (r := 31) (by omega)
    have h3 : ¬ 31 < Nat.count (fun e => cum n e ≤ cum n (texp n t.val)) 32 := fun h' => by have := h2.2 h'; omega
    omega
  · rw [if_neg h]
    have : f31 (d8 c) (d41 c) (ix1 t) ≠ 1#1 := fun h' => h (h31.1 h')
    exact select_of_eq_zero (bit0 this) _ _

theorem d68_ap (t : Fin 167) (ht : 256 * t.val < cum n 31) : d68 c (ix1 t) = BitVec.ofNat 32 (tpar n t.val % 2) := by
  have hT := texp_lt H ht
  have h67 : f67 f0 (d34 c) (d7 c) (ix1 t) = BitVec.ofNat 32 (tpar n t.val) := by
    refine reduce_count (n := 167) (m := 32) (by omega) _ natLt_1_32 reducesTo_S167x32_S167_d1 h_S_ t (fun e => e < texp n t.val ∧ 0 < padn n e) fun q => ?_
    have h1 : cols f0 (ix2 t q) = BitVec.ofNat 32 q.val := (bcCols (n := 167) (m := 32) _ _ f0 t q).trans rfl
    have h2 : rows (d34 c) (ix2 t q) = BitVec.ofNat 32 (texp n t.val) := (bcRows (n := 167) (m := 32) _ _ (d34 c) t q).trans (d34_ap H t ht)
    have h3 : broadcastInDim S167x32 ![0, 1] bcast_S1x32_S167x32_0_1 (cmpi .sgt (broadcastInDim S1x32 ![1] bcast_S32_S1x32_1 (d7 c)) (broadcastInDim S1x32 ![] bcast_S_S1x32 (constantI S_ 32 0#32))) (ix2 t q)
        = IntOp.cmpi .sgt (BitVec.ofNat 32 (padn n q.val)) 0#32 := by
      refine (show _ = IntOp.cmpi .sgt (cols (d7 c) (ix2 t q)) 0#32 from rfl).trans ?_
      rw [show cols (d7 c) (ix2 t q) = BitVec.ofNat 32 (padn n q.val) from (bcCols (n := 167) (m := 32) _ _ (d7 c) t q).trans (d7_ap H q)]
    have hp : padn n q.val < 2 ^ 31 := by have := H.b q.val q.isLt; unfold padn; omega
    show IntOp.andi (IntOp.cmpi .slt (cols f0 (ix2 t q)) (rows (d34 c) (ix2 t q))) _ = 1#1 ↔ _
    rw [h1, h2, h3, IntOp.andi_eq_one, cmpi_slt_ofNat_eq_one_iff (w := 32) (by omega) (by omega), cmpi_sgt_ofNat_eq_one_iff (w := 32) hp (by omega)]
  have hle : tpar n t.val ≤ 32 := Nat.count_le _
  exact pyRem_ap bcast_S_S167 _ (constantI S_ 32 2#32) (ix1 t) h67 rfl (by omega) (by omega) (by omega)

end Cert.KernelIdeal.Hand
end
-- ==== Proof.Tables.lean ====
/- The tables have the properties the run asks for. -/
module
public import proofs.«01_k».proof.Proof.Words
@[expose] public section

noncomputable section

namespace Cert.KernelIdeal.Hand

open Cert.KernelIdeal Cert.KernelIdeal.Gen
open Idealize.ShloMosaic hiding ix0 ix1 ix2
open Idealize.ShloMosaic.TcCoe

open Idealize.ShloMosaic.Routing Idealize.ShloMosaic.ValueIdx

section nat
variable (n : ℕ → ℕ)
theorem padn_dvd (e : ℕ) : padn n e % 256 = 0 := by unfold padn; omega
theorem cum_dvd (e : ℕ) : cum n e % 256 = 0 := by
  induction e with
  | zero => have := padn_dvd n 0; unfold cum; simpa using this
  | succ e ih => have := padn_dvd n (e + 1); rw [cum_succ]; omega
/-- An expert's rows end where the one before it ends, plus its own. -/
theorem padn_le_cum (e : ℕ) : padn n e ≤ cum n e := by
  cases e with
  | zero => unfold cum; simp
  | succ e => rw [cum_succ]; omega

theorem count_split (Q : ℕ → Prop) [DecidablePred Q] (a b : ℕ) (hab : a < b) (hb : b ≤ 32) (ha : Q a) (hn : ∀ e, a < e → e < b → ¬ Q e) :
    Nat.count (fun e => e < b ∧ Q e) 32 = Nat.count (fun e => e < a ∧ Q e) 32 + 1 := by
  have key : ∀ x, x ≤ 32 → Nat.count (fun e => e < x ∧ Q e) 32 = Nat.count Q x := by
    intro x hx
    obtain ⟨d, hd⟩ : ∃ d, 32 = x + d := ⟨32 - x, by omega⟩
    rw [hd, Nat.count_add, count_congr_of_lt (Q := Q) x (fun i hi => by simp [hi])]
    have : Nat.count (fun k => x + k < x ∧ Q (x + k)) d = 0 := Nat.count_iff_forall_not.mpr fun m hm hq => by omega
    rw [this]; rfl
  rw [key b hb, key a (by omega)]
  obtain ⟨d, rfl⟩ : ∃ d, b = (a + 1) + d := ⟨b - (a + 1), by omega⟩
  rw [Nat.count_add, Nat.count_succ, if_pos ha]
  have : Nat.count (fun k => Q (a + 1 + k)) d = 0 := Nat.count_iff_forall_not.mpr fun m hm hq => hn (a + 1 + m) (by omega) (by omega) hq
  rw [this]
end nat

variable {c : IVec S32 32} {n : ℕ → ℕ} (H : CountsOK c n)
include H

/-- A tile's expert ends behind the tile's first row. -/
theorem lt_cum_texp {t : ℕ} (ht : 256 * t < cum n 31) : 256 * t < cum n (texp n t) := by
  have h := lt_texp_iff H t (texp_lt H ht)
  by_contra hn
  exact absurd (h.1 (by omega)) (lt_irrefl _)

theorem pad_zero {e x : ℕ} (hx : x < e) (h : cum n e ≤ cum n x) : padn n e = 0 := by
  obtain ⟨e, rfl⟩ : ∃ d, e = d + 1 := ⟨e - 1, by omega⟩
  have := cum_succ n e
  have := cum_mono n (show x ≤ e by omega)
  omega

/-- A tile's expert has rows. -/
theorem pad_texp {t : ℕ} (ht : 256 * t < cum n 31) : 0 < padn n (texp n t) := by
  have h1 := lt_cum_texp H ht
  have h32 := texp_lt H ht
  by_cases h0 : texp n t = 0
  · rw [h0] at h1 ⊢
    have : cum n 0 = padn n 0 := by unfold cum; simp
    omega
  · obtain ⟨e, he⟩ : ∃ d, texp n t = d + 1 := ⟨texp n t - 1, by omega⟩
    have h2 := (lt_texp_iff H t (e := e) (by omega)).2 (by omega)
    have := cum_succ n e
    rw [he] at h1 ⊢
    omega

/-- Where the expert changes from one tile to the next, the next tile's is the one the table names. -/
theorem texp_new {t : ℕ} (ht : 256 * (t + 1) < cum n 31) (hne : texp n (t + 1) ≠ texp n t) :
    texp n t < texp n (t + 1) ∧ cum n (texp n t) = 256 * (t + 1) := by
  have h32 := texp_lt H (t := t) (by omega)
  have h32' := texp_lt H ht
  have h1 := lt_cum_texp H (t := t) (by omega)
  have hd := cum_dvd n (texp n t)
  have hlt : texp n t < texp n (t + 1) := by
    by_contra hn
    have hlt' : texp n (t + 1) < texp n t := by omega
    have := (lt_texp_iff H t h32').2 hlt'
    have := lt_cum_texp H ht
    omega
  have := (lt_texp_iff H (t + 1) h32).2 hlt
  exact ⟨hlt, by omega⟩

theorem ofNat_inj {a b : ℕ} (ha : a < 2 ^ 32) (hb : b < 2 ^ 32) (h : BitVec.ofNat 32 a = BitVec.ofNat 32 b) : a = b := by
  have := congrArg BitVec.toNat h
  rw [BitVec.toNat_ofNat, BitVec.toNat_ofNat, Nat.mod_eq_of_lt ha, Nat.mod_eq_of_lt hb] at this
  exact this

omit H in
theorem tw_of {T : S167.Idx → BitVec 32} {t : ℕ} (ht : t < 167) : tw T t = T (ix1 ⟨t, ht⟩) := by
  unfold tw; rw [dif_pos ht]
  refine congrArg T (funext fun a => ?_)
  match a with
  | ⟨0, _⟩ => rfl

omit H in
theorem ofNat_mod2 (a : ℕ) : BitVec.ofNat 32 (a % 2) = 0#32 ∨ BitVec.ofNat 32 (a % 2) = 1#32 := by
  rcases Nat.mod_two_eq_zero_or_one a with h | h <;> rw [h] <;> simp

theorem tabOK : TabOK (tw (d34 c)) (tw (d55 c)) (tw (d68 c)) (cum n 31 / 256) := by
  have hT := H.tot
  have hD := cum_dvd n 31
  have hE : ∀ t, t < cum n 31 / 256 → tw (d34 c) t = BitVec.ofNat 32 (texp n t) := fun t ht => by
    rw [tw_of (by omega)]; exact d34_ap H ⟨t, by omega⟩ (by show 256 * t < _; omega)
  have hX : ∀ t, t < cum n 31 / 256 → tw (d55 c) t = if cum n (texp n t) < cum n 31 then BitVec.ofNat 32 (tnext n t) else 4294967295#32 := fun t ht => by
    rw [tw_of (by omega)]; exact d55_ap H ⟨t, by omega⟩ (by show 256 * t < _; omega)
  have hP : ∀ t, t < cum n 31 / 256 → tw (d68 c) t = BitVec.ofNat 32 (tpar n t % 2) := fun t ht => by
    rw [tw_of (by omega)]; exact d68_ap H ⟨t, by omega⟩ (by show 256 * t < _; omega)
  have hl : ∀ t, t < cum n 31 / 256 → texp n t < 32 := fun t ht => texp_lt H (by omega)
  refine ⟨by omega, fun t ht => ?_, fun t ht => ?_, fun h0 => ?_, fun t ht => ?_, fun t ht he => ?_, fun t ht hne => ?_, fun h0 => ?_⟩
  · have := hl t ht
    rw [hE t ht, BitVec.toNat_ofNat]; omega
  · rw [hX t ht]
    split
    · next h =>
      left
      have h2 := lt_count_iff (N := 32) (Q := fun e => cum n e ≤ cum n (texp n t)) (fun a b hab _ h => le_trans (cum_mono n hab) h) (r := 31) (by omega)
      have h3 : ¬ 31 < tnext n t := fun h' => by have := h2.2 h'; omega
      rw [BitVec.toNat_ofNat]; omega
    · right; decide
  · rw [hP 0 h0]
    have : tpar n 0 = 0 := Nat.count_iff_forall_not.mpr fun e he hq => by
      have h1 := (lt_texp_iff H 0 he).2 hq.1
      have := padn_le_cum n e
      omega
    rw [this]
  · rw [hP t ht]; exact ofNat_mod2 _
  · have hte : texp n (t + 1) = texp n t := by
      have h1 := hl (t + 1) ht
      have h2 := hl t (by omega)
      rw [hE t (by omega), hE (t + 1) ht] at he
      exact ofNat_inj H (by omega) (by omega) he
    rw [hX t (by omega), hX (t + 1) ht, hP t (by omega), hP (t + 1) ht]
    unfold tnext tpar
    rw [hte]
    exact ⟨rfl, rfl⟩
  · have hte : texp n (t + 1) ≠ texp n t := fun h => hne (by rw [hE t (by omega), hE (t + 1) ht, h])
    obtain ⟨hlt, hc⟩ := texp_new H (t := t) (by omega) hte
    have h32 := hl (t + 1) ht
    have hp : tpar n (t + 1) = tpar n t + 1 := by
      refine count_split (fun e => 0 < padn n e) _ _ hlt (by omega) (pad_texp H (by omega)) fun e h1 h2 hq => ?_
      have h3 := (lt_texp_iff H (t + 1) (e := e) (by omega)).2 h2
      have := pad_zero H h1 (by omega)
      omega
    rw [hX t (by omega), hE (t + 1) ht, hP t (by omega), hP (t + 1) ht, if_pos (by omega), hp]
    refine ⟨?_, fun h => ?_, fun h => ?_⟩
    · unfold tnext; rw [hc]; rfl
    · have := ofNat_inj H (a := tpar n t % 2) (b := 0) (by omega) (by omega) h
      rw [show (tpar n t + 1) % 2 = 1 by omega]
    · have := ofNat_inj H (a := tpar n t % 2) (b := 1) (by omega) (by omega) h
      rw [show (tpar n t + 1) % 2 = 0 by omega]
  · rw [hX _ (by omega), if_neg]
    · decide
    · have h1 := lt_cum_texp H (t := cum n 31 / 256 - 1) (by omega)
      have := cum_dvd n (texp n (cum n 31 / 256 - 1))
      omega

theorem tabN : twN (f69 (d14 c)) = BitVec.ofNat 32 (cum n 31 / 256) := by
  refine Eq.trans ?_ (d14_ap H)
  refine shapeCast_apply _ shapeCasts_S_S1 _ _ ?_
  have h0 := (S_.rowMajor ValueIdx.ix0).isLt
  have h1 : S_.numel = 1 := rfl
  have h2 := (S1.rowMajor (fun a => ⟨0, lt_of_lt_of_eq Nat.one_pos (by rw [Subsingleton.elim a (0 : Fin 1)]; rfl)⟩)).isLt
  have h3 : S1.numel = 1 := numel1_S1
  omega

omit H in
/-- Where device 0's counts hold naturals that fit, the run's tables are good. -/
theorem tabsOK {F : FTy → Type} [FloatOps F] (m : (ℓ : Loc nD τ sig) → Buf (Elt F) ℓ) {n : ℕ → ℕ} (H : CountsOK (m (0, Proc.devRef .tc main_arg1)) n) :
    TabsOK m (cum n 31 / 256) where
  n := by rw [V_v69]; exact tabN H
  ok := by rw [V_v34, V_v55, V_v68]; exact tabOK H

end Cert.KernelIdeal.Hand
end
-- ==== Proof.Pre.lean ====
/- What the precondition says of the counts. -/
module
public import proofs.«01_k».proof.Proof.Tables
public import proofs.«01_k».proof.Proof.Gen.Pre_counts_fit
@[expose] public section

noncomputable section

namespace Cert.KernelIdeal.Hand

open Cert.KernelIdeal Cert.KernelIdeal.Gen
open Idealize.ShloMosaic hiding ix0 ix1 ix2
open Idealize.ShloMosaic.TcCoe

open Idealize.SL.Sem
open Idealize.ShloMosaic.Routing Idealize.ShloMosaic.ValueIdx Idealize.ShloMosaic.WordCmp

theorem sum_padn (n : ℕ → ℕ) (k : ℕ) : ((List.range k).map (padn n)).sum ≤ ((List.range k).map n).sum + 255 * k := by
  induction k with
  | zero => simp
  | succ k ih =>
    rw [List.range_succ, List.map_append, List.map_append, List.sum_append, List.sum_append]
    have : padn n k ≤ n k + 255 := by unfold padn; omega
    simp only [List.map_cons, List.map_nil, List.sum_cons, List.sum_nil]
    omega

theorem sum_le (n : ℕ → ℕ) (b k : ℕ) (h : ∀ e, e < k → n e ≤ b) : ((List.range k).map n).sum ≤ b * k := by
  induction k with
  | zero => simp
  | succ k ih =>
    rw [List.range_succ, List.map_append, List.sum_append]
    have := ih fun e he => h e (by omega)
    have := h k (by omega)
    simp only [List.map_cons, List.map_nil, List.sum_cons, List.sum_nil]
    rw [Nat.mul_succ]; omega

theorem and_pt (c : IVec S32 32) (x : IVec S_ 32) (hb : S_.BroadcastsInDim S32 (![] : Fin 0 → Fin S32.rank)) (e : Fin 32) :
    andi (andi (cmpi .sge c (broadcastInDim S32 ![] hb (constantI S_ 32 0#32))) (cmpi .sle c (broadcastInDim S32 ![] hb (constantI S_ 32 34816#32)))) (broadcastInDim S32 ![] hb (cmpi .sle x (constantI S_ 32 34816#32))) (ix1 e)
      = IntOp.andi (IntOp.andi (IntOp.cmpi .sge (c (ix1 e)) 0#32) (IntOp.cmpi .sle (c (ix1 e)) 34816#32)) (IntOp.cmpi .sle (x ValueIdx.ix0) 34816#32) := by
  show IntOp.andi (IntOp.andi _ _) (broadcastInDim S32 ![] hb (cmpi .sle x (constantI S_ 32 34816#32)) (ix1 e)) = _
  rw [bc0 (s := S32)]
  rfl

/-- The counts as naturals. -/
def cnt (c : IVec S32 32) (e : ℕ) : ℕ := if h : e < 32 then (c (ix1 ⟨e, h⟩)).toNat else 0

theorem countsOK {F : FTy → Type} [FloatOps F] [hp : Cert.Pre_counts_fit.Facts] (a0 : FVec F S342016x128 .f32) (c : IVec S32 32) (a2 a3 : FVec F S2x32x1024x512 .f32) (a4 : FVec F S2x32x512x1024 .f32)
    (h : Cert.Pre_counts_fit.fn (F := F) a0 c a2 a3 a4 = fun _ => 1#1) : CountsOK c (cnt c) := by
  have hw : ∀ e : Fin 32, c (ix1 e) = BitVec.ofNat 32 (cnt c e.val) := fun e => by
    unfold cnt; rw [dif_pos e.isLt]; exact (BitVec.ofNat_toNat (m := 32) (c (ix1 e))).symm ▸ (BitVec.setWidth_eq _).symm
  have hl : ∀ e : Fin 32, cnt c e.val < 2 ^ 32 := fun e => by
    unfold cnt; rw [dif_pos e.isLt]; exact BitVec.isLt _
  have key : ∀ e : Fin 32, IntOp.andi (IntOp.andi (IntOp.cmpi .sge (c (ix1 e)) 0#32) (IntOp.cmpi .sle (c (ix1 e)) 34816#32))
      (IntOp.cmpi .sle (Host.reduce IntOp.addi c (constantI shape0 32 0#32) hp.reducesTo_S32_S_d0 hp.h_S_ ValueIdx.ix0) 34816#32) = 1#1 := fun e => by
    have h1 := congrFun h (ix1 e)
    unfold Cert.Pre_counts_fit.fn at h1
    exact (and_pt c (Host.reduce IntOp.addi c (constantI shape0 32 0#32) hp.reducesTo_S32_S_d0 hp.h_S_) hp.bcast_S_S32 e).symm.trans h1
  simp only [IntOp.andi_eq_one] at key
  have hb : ∀ e : ℕ, e < 32 → cnt c e ≤ 34816 := fun e he => by
    have hk := (key ⟨e, he⟩).1
    have h31 : cnt c e < 2 ^ 31 := by
      have := IntOp.cmpi_sge.1 hk.1
      have h2 : (0#32 : BitVec 32).toInt = 0 := rfl
      rw [h2, toInt_nonneg_iff_lt_half] at this
      unfold cnt; rw [dif_pos he]; exact this
    have h1 := hk.2
    rw [hw ⟨e, he⟩] at h1
    exact (cmpi_sle_ofNat_eq_one_iff (w := 32) (b := 34816) h31 (by omega)).1 h1
  have hs := (key 0).2
  rw [reduce_sum (N := 32) c (cnt c) hw] at hs
  have hsum := sum_le (cnt c) 34816 32 hb
  have hle := (cmpi_sle_ofNat_eq_one_iff (w := 32) (b := 34816) (by omega) (by omega)).1 hs
  have hp := sum_padn (cnt c) 32
  exact ⟨hw, hb, by show ((List.range 32).map (padn (cnt c))).sum ≤ 42976; omega⟩

theorem ne1 : ∀ w : Fin 2, (spec0 w).arr.view.ref ≠ main_arg1 := by decide
theorem ne2 : ∀ w : Fin 2, (spec0 w).arr.view.ref ≠ main_arg2 := by decide
theorem ne3 : ∀ w : Fin 2, (spec0 w).arr.view.ref ≠ main_arg3 := by decide
theorem ne4 : ∀ w : Fin 2, (spec0 w).arr.view.ref ≠ main_arg4 := by decide

/-- One device. -/
theorem dev0 (c : Dev nD) : c = 0 := Subsingleton.elim (α := Fin 1) _ _

/-- The run of the kernel, where device 0's counts hold naturals that fit: the arguments are unchanged, and the result array holds what the
    pipeline's data say. -/
theorem run_args {F : FTy → Type} [FloatOps F] (m : (ℓ : Loc nD τ sig) → Buf (Elt F) ℓ) (ρ : Dev nD → PrngReg) {N : ℕ} (hT : TabsOK m N) :
    θ_run (defs (F := F)) (onTc (τ := τ) (main (F := F))) ⟨m, fun _ => 0, ρ⟩ (fun r => (∀ c : Dev nD,
      r.2.mem ((c.tc : Thread nD τ).loc main_v70) = (dats hT 0 c).arrAt 1 (cfgA hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run (defs (F := F)) _ _).mono (fun r h => ⟨fun c => ⟨?_, ?_, ?_, ?_, ?_, ?_⟩, h.2⟩) (run_main ρ hT)
  · exact (h.1 c).1 1
  · exact ((h.1 c).1 0).trans (((dats hT 0 c).arrAt_in 0 rfl _).trans ((A_eq hT c 0).trans (V_arg m c main_arg0 (.inl rfl))))
  · exact ((h.1 c).2 main_arg1 (Pipeline.mem_restRefs_of main_arg1 (by decide) fun w => ne1 w)).trans (V_arg m c main_arg1 (.inr (.inl rfl)))
  · exact ((h.1 c).2 main_arg2 (Pipeline.mem_restRefs_of main_arg2 (by decide) fun w => ne2 w)).trans (V_arg m c main_arg2 (.inr (.inr (.inl rfl))))
  · exact ((h.1 c).2 main_arg3 (Pipeline.mem_restRefs_of main_arg3 (by decide) fun w => ne3 w)).trans (V_arg m c main_arg3 (.inr (.inr (.inr (.inl rfl)))))
  · exact ((h.1 c).2 main_arg4 (Pipeline.mem_restRefs_of main_arg4 (by decide) fun w => ne4 w)).trans (V_arg m c main_arg4 (.inr (.inr (.inr (.inr rfl)))))

end Cert.KernelIdeal.Hand
end
-- ==== Proof.Same.lean ====
/- The kernel read over words and the kernel read over the extended reals are one program: its host part
   and its body table are the same, over any float values. -/
module

public import proofs.«01_k».proof.Proof.Gen.Kernel
public import proofs.«01_k».proof.Proof.Gen.KernelIdeal

@[expose] public section

set_option maxHeartbeats 3000000
set_option maxRecDepth 20000

noncomputable section

namespace Cert.Same

open Idealize.ShloMosaic Idealize.SL.Sem

variable {F : FTy → Type} [FloatOps F]
attribute [local instance] Cert.Kernel.Gen.facts Cert.KernelIdeal.Gen.facts

/-! ## The host part, its calls written out -/
theorem main_part0_eq : @Kernel.main_part0 F _ _ = @KernelIdeal.main_part0 F _ _ := by
  delta Kernel.main_part0 KernelIdeal.main_part0
  dsimp only [
  Kernel.fn_remainder.body, Kernel.fn_where_5.body, Kernel.fn_where_4.body, Kernel.fn_where_3.body, Kernel.fn_floor_divide_1.body,
    Kernel.fn_where_2.body, Kernel.fn_cumsum.body, Kernel.fn_cumsum_0.body, Kernel.fn_floor_divide.body, Kernel.fn_where.body,
    Kernel.main_call6, Kernel.main_call6_call0, Kernel.main_call5, Kernel.main_call4, Kernel.main_call3, Kernel.main_call2,
    Kernel.main_call2_call0, Kernel.main_call1, Kernel.main_call1_call0, Kernel.main_call0, Kernel.main_call0_call0, Kernel.main_call6_v14,
    Kernel.main_call6_v13, Kernel.main_call6_v12, Kernel.main_call6_v11, Kernel.main_call6_v10, Kernel.main_call6_v9, Kernel.main_call6_c_3,
    Kernel.main_call6_v8, Kernel.main_call6_v7, Kernel.main_call6_c_2, Kernel.main_call6_v6, Kernel.main_call6_v5, Kernel.main_call6_c_1,
    Kernel.main_call6_v4, Kernel.main_call6_v3, Kernel.main_call6_v2, Kernel.main_call6_c_0, Kernel.main_call6_v1, Kernel.main_call6_c,
    Kernel.main_call6_v0, Kernel.main_call5_v1, Kernel.main_call5_v0, Kernel.main_call4_v2, Kernel.main_call4_v1, Kernel.main_call4_v0,
    Kernel.main_call3_v0, Kernel.main_call2_v8, Kernel.main_call2_c_0, Kernel.main_call2_v7, Kernel.main_call2_v6, Kernel.main_call2_c,
    Kernel.main_call2_v5, Kernel.main_call2_v4, Kernel.main_call2_v3, Kernel.main_call2_v2, Kernel.main_call2_v1, Kernel.main_call2_v0,
    Kernel.main_call1_call0_v0, Kernel.main_call1_call0_c, Kernel.main_call0_v13, Kernel.main_call0_v12, Kernel.main_call0_c_0,
    Kernel.main_call0_v11, Kernel.main_call0_v10, Kernel.main_call0_v9, Kernel.main_call0_c, Kernel.main_call0_v8, Kernel.main_call0_v7,
    Kernel.main_call0_v6, Kernel.main_call0_v5, Kernel.main_call0_v4, Kernel.main_call0_v3, Kernel.main_call0_v2, Kernel.main_call0_v1,
    Kernel.main_call0_v0, KernelIdeal.fn_remainder.body, KernelIdeal.fn_where_5.body, KernelIdeal.fn_where_4.body,
    KernelIdeal.fn_where_3.body, KernelIdeal.fn_floor_divide_1.body, KernelIdeal.fn_where_2.body, KernelIdeal.fn_cumsum.body,
    KernelIdeal.fn_cumsum_0.body, KernelIdeal.fn_floor_divide.body, KernelIdeal.fn_where.body, KernelIdeal.main_call6,
    KernelIdeal.main_call6_call0, KernelIdeal.main_call5, KernelIdeal.main_call4, KernelIdeal.main_call3, KernelIdeal.main_call2,
    KernelIdeal.main_call2_call0, KernelIdeal.main_call1, KernelIdeal.main_call1_call0, KernelIdeal.main_call0, KernelIdeal.main_call0_call0,
    KernelIdeal.main_call6_v14, KernelIdeal.main_call6_v13, KernelIdeal.main_call6_v12, KernelIdeal.main_call6_v11,
    KernelIdeal.main_call6_v10, KernelIdeal.main_call6_v9, KernelIdeal.main_call6_c_3, KernelIdeal.main_call6_v8, KernelIdeal.main_call6_v7,
    KernelIdeal.main_call6_c_2, KernelIdeal.main_call6_v6, KernelIdeal.main_call6_v5, KernelIdeal.main_call6_c_1, KernelIdeal.main_call6_v4,
    KernelIdeal.main_call6_v3, KernelIdeal.main_call6_v2, KernelIdeal.main_call6_c_0, KernelIdeal.main_call6_v1, KernelIdeal.main_call6_c,
    KernelIdeal.main_call6_v0, KernelIdeal.main_call5_v1, KernelIdeal.main_call5_v0, KernelIdeal.main_call4_v2, KernelIdeal.main_call4_v1,
    KernelIdeal.main_call4_v0, KernelIdeal.main_call3_v0, KernelIdeal.main_call2_v8, KernelIdeal.main_call2_c_0, KernelIdeal.main_call2_v7,
    KernelIdeal.main_call2_v6, KernelIdeal.main_call2_c, KernelIdeal.main_call2_v5, KernelIdeal.main_call2_v4, KernelIdeal.main_call2_v3,
    KernelIdeal.main_call2_v2, KernelIdeal.main_call2_v1, KernelIdeal.main_call2_v0, KernelIdeal.main_call1_call0_v0,
    KernelIdeal.main_call1_call0_c, KernelIdeal.main_call0_v13, KernelIdeal.main_call0_v12, KernelIdeal.main_call0_c_0,
    KernelIdeal.main_call0_v11, KernelIdeal.main_call0_v10, KernelIdeal.main_call0_v9, KernelIdeal.main_call0_c, KernelIdeal.main_call0_v8,
    KernelIdeal.main_call0_v7, KernelIdeal.main_call0_v6, KernelIdeal.main_call0_v5, KernelIdeal.main_call0_v4, KernelIdeal.main_call0_v3,
    KernelIdeal.main_call0_v2, KernelIdeal.main_call0_v1, KernelIdeal.main_call0_v0]
  rfl

theorem main_part1_eq : @Kernel.main_part1 F _ _ = @KernelIdeal.main_part1 F _ _ := by
  delta Kernel.main_part1 KernelIdeal.main_part1
  dsimp only [
  Kernel.fn_remainder.body, Kernel.fn_where_5.body, Kernel.fn_where_4.body, Kernel.fn_where_3.body, Kernel.fn_floor_divide_1.body,
    Kernel.fn_where_2.body, Kernel.fn_cumsum.body, Kernel.fn_cumsum_0.body, Kernel.fn_floor_divide.body, Kernel.fn_where.body,
    Kernel.main_call6, Kernel.main_call6_call0, Kernel.main_call5, Kernel.main_call4, Kernel.main_call3, Kernel.main_call2,
    Kernel.main_call2_call0, Kernel.main_call1, Kernel.main_call1_call0, Kernel.main_call0, Kernel.main_call0_call0, Kernel.main_call6_v14,
    Kernel.main_call6_v13, Kernel.main_call6_v12, Kernel.main_call6_v11, Kernel.main_call6_v10, Kernel.main_call6_v9, Kernel.main_call6_c_3,
    Kernel.main_call6_v8, Kernel.main_call6_v7, Kernel.main_call6_c_2, Kernel.main_call6_v6, Kernel.main_call6_v5, Kernel.main_call6_c_1,
    Kernel.main_call6_v4, Kernel.main_call6_v3, Kernel.main_call6_v2, Kernel.main_call6_c_0, Kernel.main_call6_v1, Kernel.main_call6_c,
    Kernel.main_call6_v0, Kernel.main_call5_v1, Kernel.main_call5_v0, Kernel.main_call4_v2, Kernel.main_call4_v1, Kernel.main_call4_v0,
    Kernel.main_call3_v0, Kernel.main_call2_v8, Kernel.main_call2_c_0, Kernel.main_call2_v7, Kernel.main_call2_v6, Kernel.main_call2_c,
    Kernel.main_call2_v5, Kernel.main_call2_v4, Kernel.main_call2_v3, Kernel.main_call2_v2, Kernel.main_call2_v1, Kernel.main_call2_v0,
    Kernel.main_call1_call0_v0, Kernel.main_call1_call0_c, Kernel.main_call0_v13, Kernel.main_call0_v12, Kernel.main_call0_c_0,
    Kernel.main_call0_v11, Kernel.main_call0_v10, Kernel.main_call0_v9, Kernel.main_call0_c, Kernel.main_call0_v8, Kernel.main_call0_v7,
    Kernel.main_call0_v6, Kernel.main_call0_v5, Kernel.main_call0_v4, Kernel.main_call0_v3, Kernel.main_call0_v2, Kernel.main_call0_v1,
    Kernel.main_call0_v0, KernelIdeal.fn_remainder.body, KernelIdeal.fn_where_5.body, KernelIdeal.fn_where_4.body,
    KernelIdeal.fn_where_3.body, KernelIdeal.fn_floor_divide_1.body, KernelIdeal.fn_where_2.body, KernelIdeal.fn_cumsum.body,
    KernelIdeal.fn_cumsum_0.body, KernelIdeal.fn_floor_divide.body, KernelIdeal.fn_where.body, KernelIdeal.main_call6,
    KernelIdeal.main_call6_call0, KernelIdeal.main_call5, KernelIdeal.main_call4, KernelIdeal.main_call3, KernelIdeal.main_call2,
    KernelIdeal.main_call2_call0, KernelIdeal.main_call1, KernelIdeal.main_call1_call0, KernelIdeal.main_call0, KernelIdeal.main_call0_call0,
    KernelIdeal.main_call6_v14, KernelIdeal.main_call6_v13, KernelIdeal.main_call6_v12, KernelIdeal.main_call6_v11,
    KernelIdeal.main_call6_v10, KernelIdeal.main_call6_v9, KernelIdeal.main_call6_c_3, KernelIdeal.main_call6_v8, KernelIdeal.main_call6_v7,
    KernelIdeal.main_call6_c_2, KernelIdeal.main_call6_v6, KernelIdeal.main_call6_v5, KernelIdeal.main_call6_c_1, KernelIdeal.main_call6_v4,
    KernelIdeal.main_call6_v3, KernelIdeal.main_call6_v2, KernelIdeal.main_call6_c_0, KernelIdeal.main_call6_v1, KernelIdeal.main_call6_c,
    KernelIdeal.main_call6_v0, KernelIdeal.main_call5_v1, KernelIdeal.main_call5_v0, KernelIdeal.main_call4_v2, KernelIdeal.main_call4_v1,
    KernelIdeal.main_call4_v0, KernelIdeal.main_call3_v0, KernelIdeal.main_call2_v8, KernelIdeal.main_call2_c_0, KernelIdeal.main_call2_v7,
    KernelIdeal.main_call2_v6, KernelIdeal.main_call2_c, KernelIdeal.main_call2_v5, KernelIdeal.main_call2_v4, KernelIdeal.main_call2_v3,
    KernelIdeal.main_call2_v2, KernelIdeal.main_call2_v1, KernelIdeal.main_call2_v0, KernelIdeal.main_call1_call0_v0,
    KernelIdeal.main_call1_call0_c, KernelIdeal.main_call0_v13, KernelIdeal.main_call0_v12, KernelIdeal.main_call0_c_0,
    KernelIdeal.main_call0_v11, KernelIdeal.main_call0_v10, KernelIdeal.main_call0_v9, KernelIdeal.main_call0_c, KernelIdeal.main_call0_v8,
    KernelIdeal.main_call0_v7, KernelIdeal.main_call0_v6, KernelIdeal.main_call0_v5, KernelIdeal.main_call0_v4, KernelIdeal.main_call0_v3,
    KernelIdeal.main_call0_v2, KernelIdeal.main_call0_v1, KernelIdeal.main_call0_v0]
  rfl

/-- The two host programs agree. -/
theorem main_eq : @Kernel.main F _ _ = @KernelIdeal.main F _ _ := by
  delta Kernel.main KernelIdeal.main
  rw [main_part0_eq, main_part1_eq]
  rfl

/-! ## The kernel's body -/

theorem part1_eq : @Kernel.k0_part1 F _ _ = @KernelIdeal.k0_part1 F _ _ := rfl
theorem part2_eq : @Kernel.k0_part2 F _ _ = @KernelIdeal.k0_part2 F _ _ := rfl
theorem body_eq : @Kernel.cc0_moe_experts F _ _ = @KernelIdeal.cc0_moe_experts F _ _ := rfl
theorem pcfgs_eq : @Kernel.pcfgs F _ _ = @KernelIdeal.pcfgs F _ _ := rfl
/-- The two body tables agree. -/
theorem defs₀_eq : @Kernel.defs₀ F _ _ = @KernelIdeal.defs₀ F _ _ := by
  delta Kernel.defs₀ KernelIdeal.defs₀
  refine congrArg Defs.onTc (funext fun l => funext fun p => ?_)
  match l, p with
  | ⟨0, _⟩, (t, s) => rfl
  | ⟨_ + 1, h⟩, _ => exact absurd h (Nat.not_lt.2 (Nat.le_add_left _ _))
theorem defs_eq : @Kernel.defs F _ _ = @KernelIdeal.defs F _ _ := by
  delta Kernel.defs KernelIdeal.defs
  rw [defs₀_eq]
  rfl

/-- So what every run of the one ends with, every run of the other ends with. -/
theorem run (m : (ℓ : Loc Kernel.nD Kernel.τ Kernel.sig) → Buf (Elt F) ℓ) (ρ : Dev Kernel.nD → PrngReg) (Q : _ → Prop)
    (h : θ_run (KernelIdeal.defs (F := F)) (onTc (τ := KernelIdeal.τ) (KernelIdeal.main (F := F))) ⟨m, fun _ => 0, ρ⟩ Q) :
    θ_run (Kernel.defs (F := F)) (onTc (τ := Kernel.τ) (Kernel.main (F := F))) ⟨m, fun _ => 0, ρ⟩ Q := by
  rw [defs_eq, main_eq]
  exact h

end Cert.Same

end
-- ==== Proof.Expert.lean ====
/-
  Hand-written, untrusted. What an expert makes of one row, over the extended reals: the gated product of two
  products of the row, through a third. Both programs' results are stated in it.
-/
module
public import Idealize.ShloMosaic.Lib.Pipeline.Value
public import Idealize.ShloMosaic.Lib.IdealHost
public import Idealize.ShloMosaic.Lib.ValueIdx
@[expose] public section

noncomputable section

namespace Cert.Moe

open Idealize.ShloMosaic

/-- A row through one of an expert's first two matrices. -/
def lin (x : Fin 1024 → EReal) (A : Fin 1024 → Fin 512 → EReal) (j : Fin 512) : EReal := ∑ k, x k * A k j
/-- `silu(x A) * (x B)`, an entry. -/
def act (x : Fin 1024 → EReal) (A B : Fin 1024 → Fin 512 → EReal) (j : Fin 512) : EReal :=
  lin x A j * Ideal.div 1 (1 + Ideal.exp (-(lin x A j))) * lin x B j
/-- The expert's value for a row, a column of it. -/
def val (x : Fin 1024 → EReal) (A B : Fin 1024 → Fin 512 → EReal) (C : Fin 512 → Fin 1024 → EReal) (col : Fin 1024) : EReal :=
  ∑ j, act x A B j * C j col

end Cert.Moe
end
-- ==== Proof.BlockVal.lean ====
/-
  Hand-written, untrusted. What the body's eight strided stores leave in a tile's block, entry by entry, over the
  extended reals: the expert's value for each of the tile's rows.
-/
module
public import proofs.«01_k».proof.Proof.Slot
public import proofs.«01_k».proof.Proof.Expert
public import Idealize.ShloMosaic.Lib.Pipeline.Value
public import Idealize.ShloMosaic.Lib.IdealHost
public import Idealize.ShloMosaic.Lib.MatmulPlain
public import Idealize.ShloMosaic.Lib.ValueIdx
@[expose] public section

noncomputable section

namespace Cert.KernelIdeal.Hand

open Cert.KernelIdeal Cert.KernelIdeal.Gen
open Idealize.ShloMosaic
open Idealize.ShloMosaic.TcCoe
open Idealize.ShloMosaic.ValueIdx

/-- Eight pieces side by side, read at a column. -/
theorem cat_at (v : Fin 8 → Vec Ideal S256x128 .f32) (q : Fin 256) (k : Fin 1024) :
    concatenate S256x1024 1 [⟨S256x128, v 0⟩, ⟨S256x128, v 1⟩, ⟨S256x128, v 2⟩, ⟨S256x128, v 3⟩, ⟨S256x128, v 4⟩, ⟨S256x128, v 5⟩, ⟨S256x128, v 6⟩, ⟨S256x128, v 7⟩]
      concatenates_S256x128_S256x128_S256x128_S256x128_S256x128_S256x128_S256x128_S256x128_S256x1024_d1 (ix2 q k)
      = v ⟨k.val / 128, by omega⟩ (ix2 q ⟨k.val % 128, by omega⟩) := by
  obtain ⟨s, hs⟩ : ∃ s : Fin 8, k.val / 128 = s.val := ⟨⟨k.val / 128, by omega⟩, rfl⟩
  have e : (⟨k.val / 128, by omega⟩ : Fin 8) = s := Fin.ext hs
  rw [e]
  refine concatenate_apply_piece (t := S256x1024) 1 _ _ (ix2 q k) s.val (by simp) S256x128 (v s) ?_ rfl (128 * s.val) ?_
    (ix2 q ⟨k.val % 128, by omega⟩) ?_ ?_
  · fin_cases s <;> rfl
  · fin_cases s <;> rfl
  · intro b hb
    match b, hb with
    | ⟨0, _⟩, _ => rfl
    | ⟨1, _⟩, hb => exact absurd rfl hb
  · show 128 * s.val + k.val % 128 = k.val
    omega

/-- The first products' left operand: row `q` of the tile. -/
theorem strided_at (arg5 : Memref sig .tc .vmem S2048x128 .f32) (x : Vec Ideal S2048x128 .f32) (s : ℕ) (hs : s < 8) (h) (q : Fin 256) (l : Fin 128) :
    View.readAt (Elt Ideal) arg5.view (⟨![s, 0], S256x128.size, ![8, 1], h⟩ : LoadRect S2048x128) (arg5.view.rep x) (ix2 q l)
      = x (ix2 ⟨8 * q.val + s, by omega⟩ l) := by
  rw [View.readAt_apply, View.read_rep]
  refine congrArg x (funext fun a => Fin.ext ?_)
  match a with
  | ⟨0, _⟩ => show s + 8 * q.val = 8 * q.val + s; omega
  | ⟨1, _⟩ => show 0 + 1 * l.val = l.val; omega

/-- A row of the tile. -/
def rowOf (x : Vec Ideal S2048x128 .f32) (q : Fin 256) (k : Fin 1024) : EReal :=
  x (ix2 ⟨8 * q.val + k.val / 128, by omega⟩ ⟨k.val % 128, by omega⟩)

theorem dot1_plain : dot_S256x1024_S1024x512_S256x512_1_0_0_1_n_n = DotDims.plain 256 1024 512 := rfl
theorem dot2_plain : dot_S256x512_S512x1024_S256x1024_1_0_0_1_n_n = DotDims.plain 256 512 1024 := rfl

variable (arg5 : Memref sig .tc .vmem S2048x128 .f32) (x : Vec Ideal S2048x128 .f32) (vA vB : Vec Ideal S1024x512 .bf16) (vC : Vec Ideal S512x1024 .bf16)

/-- The tile's rows side by side, an entry. -/
theorem pay14_at (q : Fin 256) (k : Fin 1024) :
    k0_pay14 (View.readAt (Elt Ideal) arg5.view (⟨![0, 0], S256x128.size, ![8, 1], inb_S2048x128_S256x128_0_0_s_8_1⟩ : LoadRect S2048x128) (arg5.view.rep x)) (View.readAt (Elt Ideal) arg5.view (⟨![1, 0], S256x128.size, ![8, 1], inb_S2048x128_S256x128_1_0_s_8_1⟩ : LoadRect S2048x128) (arg5.view.rep x)) (View.readAt (Elt Ideal) arg5.view (⟨![2, 0], S256x128.size, ![8, 1], inb_S2048x128_S256x128_2_0_s_8_1⟩ : LoadRect S2048x128) (arg5.view.rep x)) (View.readAt (Elt Ideal) arg5.view (⟨![3, 0], S256x128.size, ![8, 1], inb_S2048x128_S256x128_3_0_s_8_1⟩ : LoadRect S2048x128) (arg5.view.rep x)) (View.readAt (Elt Ideal) arg5.view (⟨![4, 0], S256x128.size, ![8, 1], inb_S2048x128_S256x128_4_0_s_8_1⟩ : LoadRect S2048x128) (arg5.view.rep x)) (View.readAt (Elt Ideal) arg5.view (⟨![5, 0], S256x128.size, ![8, 1], inb_S2048x128_S256x128_5_0_s_8_1⟩ : LoadRect S2048x128) (arg5.view.rep x)) (View.readAt (Elt Ideal) arg5.view (⟨![6, 0], S256x128.size, ![8, 1], inb_S2048x128_S256x128_6_0_s_8_1⟩ : LoadRect S2048x128) (arg5.view.rep x)) (View.readAt (Elt Ideal) arg5.view (⟨![7, 0], S256x128.size, ![8, 1], inb_S2048x128_S256x128_7_0_s_8_1⟩ : LoadRect S2048x128) (arg5.view.rep x)) (ix2 q k)
      = rowOf x q k := by
  unfold k0_pay14
  refine (cat_at (fun s => View.readAt (Elt Ideal) arg5.view (⟨![s.val, 0], S256x128.size, ![8, 1], by
      intro a; have := s.isLt
      match a with
      | ⟨0, _⟩ => exact Or.inr (by show s.val + 8 * (256 - 1) < 2048; omega)
      | ⟨1, _⟩ => exact Or.inr (by show 0 + 1 * (128 - 1) < 128; omega)⟩ : LoadRect S2048x128) (arg5.view.rep x)) q k).trans ?_
  exact strided_at arg5 x (k.val / 128) (by omega) _ q _

theorem act1_at (q : Fin 256) (j : Fin 512) :
    act1 arg5 x vA (ix2 q j) = Moe.lin (rowOf x q) (fun k j => vA (ix2 k j)) j := by
  unfold act1 k0_pay15
  refine (Ideal.matmul_plain_apply none _ vA _ q j).trans ?_
  exact (congrArg (· + _) (Ideal.ofBits_zero_f32)).trans ((zero_add _).trans (Finset.sum_congr rfl fun k _ => congrArg (· * _) (pay14_at arg5 x q k)))
theorem act2_at (q : Fin 256) (j : Fin 512) :
    act2 arg5 x vB (ix2 q j) = Moe.lin (rowOf x q) (fun k j => vB (ix2 k j)) j := by
  unfold act2 k0_pay16
  refine (Ideal.matmul_plain_apply none _ vB _ q j).trans ?_
  exact (congrArg (· + _) (Ideal.ofBits_zero_f32)).trans ((zero_add _).trans (Finset.sum_congr rfl fun k _ => congrArg (· * _) (pay14_at arg5 x q k)))
theorem act3_at (q : Fin 256) (j : Fin 512) :
    act3 arg5 x vA (ix2 q j) = 1 + Ideal.exp (-(Moe.lin (rowOf x q) (fun k j => vA (ix2 k j)) j)) := by
  have h : act3 arg5 x vA (ix2 q j) = Ideal.ofBits .f32 0x3F800000#32 + Ideal.exp (Ideal.ofBits .f32 0x00000000#32 - act1 arg5 x vA (ix2 q j)) := rfl
  rw [h, act1_at, Ideal.ofBits_one_f32, Ideal.ofBits_zero_f32, zero_sub]

/-- The second product, an entry. -/
theorem pay1_at (q : Fin 256) (col : Fin 1024) :
    k0_pay1 (act1 arg5 x vA) (act2 arg5 x vB) (act3 arg5 x vA) (Scalar.ofBits .f32 0x3F800000#32) vC (ix2 q col)
      = Moe.val (rowOf x q) (fun k j => vA (ix2 k j)) (fun k j => vB (ix2 k j)) (fun j c => vC (ix2 j c)) col := by
  unfold k0_pay1
  refine (Ideal.matmul_plain_apply none _ vC _ q col).trans ?_
  refine (congrArg (· + _) (Ideal.ofBits_zero_f32)).trans ((zero_add _).trans (Finset.sum_congr rfl fun j _ => congrArg (· * _) ?_))
  show act1 arg5 x vA (ix2 q j) * Ideal.div (Ideal.ofBits .f32 0x3F800000#32) (act3 arg5 x vA (ix2 q j)) * act2 arg5 x vB (ix2 q j) = _
  rw [act1_at, act2_at, act3_at, Ideal.ofBits_one_f32]
  rfl

/-- What the tile's block holds. -/
def blockG (y : S2048x128.Idx) : EReal :=
  Moe.val (rowOf x ⟨(y 0).val / 8, by have h : (y 0).val < 2048 := (y 0).isLt; omega⟩) (fun k j => vA (ix2 k j)) (fun k j => vB (ix2 k j)) (fun j c => vC (ix2 j c))
    ⟨128 * ((y 0).val % 8) + (y 1).val, by have h : (y 1).val < 128 := (y 1).isLt; omega⟩

theorem slice_at (s : ℕ) (hs : s < 8) (h1) (h2) (z : S256x128.Idx) (P : FVec Ideal S256x1024 .f32)
    (hP : ∀ q col, P (ix2 q col) = Moe.val (rowOf x q) (fun k j => vA (ix2 k j)) (fun k j => vB (ix2 k j)) (fun j c => vC (ix2 j c)) col) :
    extractStridedSlice S256x128 ![0, 128 * s] P h1 z
      = blockG x vA vB vC ((⟨(⟨![s, 0], S256x128.size, ![8, 1], h2⟩ : LoadRect S2048x128), spos_8_1⟩ : Rect S2048x128).emb z) := by
  have hz0 : (z 0).val < 256 := (z 0).isLt
  have hz1 : (z 1).val < 128 := (z 1).isLt
  rw [extractStridedSlice_apply _ P h1 z (ix2 ⟨(z 0).val, hz0⟩ ⟨128 * s + (z 1).val, by omega⟩) (by
    intro a
    match a with
    | ⟨0, _⟩ => exact (Nat.zero_add _).symm
    | ⟨1, _⟩ => rfl), hP]
  have e0 : ((((⟨(⟨![s, 0], S256x128.size, ![8, 1], h2⟩ : LoadRect S2048x128), spos_8_1⟩ : Rect S2048x128).emb z) 0 : Fin _) : ℕ) = s + 8 * (z 0).val := rfl
  have e1 : ((((⟨(⟨![s, 0], S256x128.size, ![8, 1], h2⟩ : LoadRect S2048x128), spos_8_1⟩ : Rect S2048x128).emb z) 1 : Fin _) : ℕ) = 0 + 1 * (z 1).val := rfl
  unfold blockG
  congr 1
  · congr 1
    apply Fin.ext
    show (z 0).val = _ / 8
    rw [e0]; omega
  · apply Fin.ext
    show 128 * s + (z 1).val = 128 * (_ % 8) + _
    rw [e0, e1]; omega

/-- The block that the eight stores leave. -/
theorem outP_at {κ : Kind} {sp : Space} (v : View sig κ sp S2048x128 .f32) (y : S2048x128.Idx)
    (hc : ∃ pc ∈ outP arg5 x vA vB vC, y ∈ pc.1.set) :
    v.read (Elt Ideal) (v.writes (Elt Ideal) v.junk (outP arg5 x vA vB vC)) y = blockG x vA vB vC y := by
  rw [View.read_writes_apply_eq_canon v _ y _ hc]
  refine View.canon_apply_of_pieces (blockG x vA vB vC) _ ?_ y hc
  have hP := pay1_at arg5 x vA vB vC
  intro p hp
  unfold outP at hp
  simp only [List.mem_cons, List.not_mem_nil, or_false] at hp
  rcases hp with rfl | rfl | rfl | rfl | rfl | rfl | rfl | rfl
  · exact fun z => slice_at x vA vB vC 7 (by omega) slices_S256x1024_o0_896_S256x128 inb_S2048x128_S256x128_7_0_s_8_1 z _ hP
  · exact fun z => slice_at x vA vB vC 6 (by omega) slices_S256x1024_o0_768_S256x128 inb_S2048x128_S256x128_6_0_s_8_1 z _ hP
  · exact fun z => slice_at x vA vB vC 5 (by omega) slices_S256x1024_o0_640_S256x128 inb_S2048x128_S256x128_5_0_s_8_1 z _ hP
  · exact fun z => slice_at x vA vB vC 4 (by omega) slices_S256x1024_o0_512_S256x128 inb_S2048x128_S256x128_4_0_s_8_1 z _ hP
  · exact fun z => slice_at x vA vB vC 3 (by omega) slices_S256x1024_o0_384_S256x128 inb_S2048x128_S256x128_3_0_s_8_1 z _ hP
  · exact fun z => slice_at x vA vB vC 2 (by omega) slices_S256x1024_o0_256_S256x128 inb_S2048x128_S256x128_2_0_s_8_1 z _ hP
  · exact fun z => slice_at x vA vB vC 1 (by omega) slices_S256x1024_o0_128_S256x128 inb_S2048x128_S256x128_1_0_s_8_1 z _ hP
  · exact fun z => slice_at x vA vB vC 0 (by omega) slices_S256x1024_o0_0_S256x128 inb_S2048x128_S256x128_0_0_s_8_1 z _ hP

end Cert.KernelIdeal.Hand
end
-- ==== Proof.RefStep.lean ====
/-
  Hand-written, untrusted. One trip of the reference's loop, entry by entry, over the extended reals: expert `k`'s gate
  times its value for the row is added.
-/
module
public import proofs.«01_k».proof.Proof.Gen.ReferenceIdeal.Run
public import proofs.«01_k».proof.Proof.Expert
public import Idealize.ShloMosaic.Lib.Pipeline.Value
public import Idealize.ShloMosaic.Lib.IdealHost
public import Idealize.ShloMosaic.Lib.StackMember
public import Idealize.ShloMosaic.Lib.DynamicIndex
public import Idealize.ShloMosaic.Lib.ValueIdx
@[expose] public section

noncomputable section

namespace Cert.ReferenceIdeal.Hand

open Cert.ReferenceIdeal Cert.ReferenceIdeal.Gen Cert.ReferenceIdeal.Value
open Idealize.ShloMosaic Idealize.ShloMosaic.StableHlo
open Idealize.ShloMosaic.TcCoe
open Idealize.ShloMosaic.ValueIdx

/-- The starts that a trip's number gives a block of rank three. -/
theorem start3 (k : ℕ) (hk : k < 32) (a : Fin 3) :
    ((((![constantI S_ 32 (BitVec.ofNat 32 k), constantI S_ 32 0#32, constantI S_ 32 0#32] : Fin 3 → (⟨S_, .i32⟩ : BufTy).Contents (Elt Ideal))) a (Shape.Idx.first h_S_) : BitVec 32)).toInt
      = ((![k, 0, 0] : Fin 3 → ℕ) a : ℤ) := by
  match a with
  | ⟨0, _⟩ => exact toInt_ofNat_of_lt (by omega)
  | ⟨1, _⟩ => rfl
  | ⟨2, _⟩ => rfl

/-- A member of a stack of matrices, taken at a trip's number. -/
theorem member (M N : ℕ) (A : (⟨3, ![32, M, N]⟩ : Shape).Idx → EReal) (k : ℕ) (hk : k < 32) (st : Fin 3 → ℤ) (hst : ∀ a, st a = ((![k, 0, 0] : Fin 3 → ℕ) a : ℤ))
    (hf : (⟨3, ![32, M, N]⟩ : Shape).Slices (fun _ => 0) ⟨3, ![1, M, N]⟩) (hc : (⟨3, ![1, M, N]⟩ : Shape).ShapeCasts ⟨2, ![M, N]⟩) (a : Fin M) (j : Fin N) :
    shapeCast ⟨2, ![M, N]⟩ (Host.dynamicSlice ⟨3, ![1, M, N]⟩ A st hf) hc (ix2 a j) = A (ix3 ⟨k, hk⟩ a j) := by
  have ho : (⟨3, ![32, M, N]⟩ : Shape).Slices (![k, 0, 0] : Fin 3 → ℕ) ⟨3, ![1, M, N]⟩ := by
    refine ⟨rfl, fun b => ?_⟩
    match b with
    | ⟨0, _⟩ => show k + 1 ≤ 32; omega
    | ⟨1, _⟩ => show 0 + M ≤ M; omega
    | ⟨2, _⟩ => show 0 + N ≤ N; omega
  rw [Host.dynamicSlice_eq_extractStridedSlice _ A st (![k, 0, 0] : Fin 3 → ℕ) hf ho hst]
  refine (shapeCast_apply _ hc (ix2 a j) (ix3 0 a j) ?_).trans (extractStridedSlice_apply _ A ho _ _ ?_)
  · rw [Shape.rowMajor_val_three, Shape.rowMajor_val_two]
    show (0 * M + a.val) * N + j.val = a.val * N + j.val
    rw [Nat.zero_mul, Nat.zero_add]
  · intro b
    match b with
    | ⟨0, _⟩ => rfl
    | ⟨1, _⟩ => exact (Nat.zero_add _).symm
    | ⟨2, _⟩ => exact (Nat.zero_add _).symm

/-- A row of a matrix, taken at a trip's number, along every column. -/
theorem gateRow (G : S32x42752.Idx → EReal) (k : ℕ) (hk : k < 32) (st : Fin 2 → ℤ) (hst : ∀ a, st a = ((![k, 0] : Fin 2 → ℕ) a : ℤ)) (r : Fin 42752) (col : Fin 1024) :
    broadcastInDim S42752x1024 ![0, 1] bcast_S42752x1_S42752x1024_0_1 (broadcastInDim S42752x1 ![0] bcast_S42752_S42752x1_0
      (shapeCast S42752 (Host.dynamicSlice S1x42752 G st sliceFits_S32x42752_S1x42752) shapeCasts_S1x42752_S42752)) (ix2 r col) = G (ix2 ⟨k, hk⟩ r) := by
  have ho : S32x42752.Slices (![k, 0] : Fin 2 → ℕ) S1x42752 := by
    refine ⟨rfl, fun b => ?_⟩
    match b with
    | ⟨0, _⟩ => show k + 1 ≤ 32; omega
    | ⟨1, _⟩ => show 0 + 42752 ≤ 42752; omega
  rw [Host.dynamicSlice_eq_extractStridedSlice _ G st (![k, 0] : Fin 2 → ℕ) sliceFits_S32x42752_S1x42752 ho hst]
  have e : broadcastInDim S42752x1024 ![0, 1] bcast_S42752x1_S42752x1024_0_1 (broadcastInDim S42752x1 ![0] bcast_S42752_S42752x1_0
      (shapeCast S42752 (extractStridedSlice S1x42752 (![k, 0] : Fin 2 → ℕ) G ho) shapeCasts_S1x42752_S42752)) (ix2 r col)
      = shapeCast S42752 (extractStridedSlice S1x42752 (![k, 0] : Fin 2 → ℕ) G ho) shapeCasts_S1x42752_S42752 (ValueIdx.ix1 r) := by
    unfold broadcastInDim
    refine congrArg _ (funext fun b => Fin.ext ?_)
    match b with
    | ⟨0, _⟩ => rfl
  rw [e]
  refine (shapeCast_apply _ shapeCasts_S1x42752_S42752 (ValueIdx.ix1 r) (ix2 0 r) ?_).trans (extractStridedSlice_apply _ G ho _ _ ?_)
  · rw [Shape.rowMajor_val_two, Shape.rowMajor_val_one]
    show 0 * 42752 + r.val = r.val
    omega
  · intro b
    match b with
    | ⟨0, _⟩ => rfl
    | ⟨1, _⟩ => exact (Nat.zero_add _).symm

theorem start2 (k : ℕ) (hk : k < 32) (a : Fin 2) :
    ((((![constantI S_ 32 (BitVec.ofNat 32 k), constantI S_ 32 0#32] : Fin 2 → (⟨S_, .i32⟩ : BufTy).Contents (Elt Ideal))) a (Shape.Idx.first h_S_) : BitVec 32)).toInt
      = ((![k, 0] : Fin 2 → ℕ) a : ℤ) := by
  match a with
  | ⟨0, _⟩ => exact toInt_ofNat_of_lt (by omega)
  | ⟨1, _⟩ => rfl

/-- An entry, as a number. -/
def ev (f : FVec Ideal S42752x512 .f32) (r : Fin 42752) (j : Fin 512) : EReal := f (ix2 r j)

section Trip
variable (V0 : Valuation τ sig (Elt Ideal)) (k : ℕ) (hk : k < 32)
  (A B : FVec Ideal S32x1024x512 .f32) (C : FVec Ideal S32x512x1024 .f32) (G : FVec Ideal S32x42752 .f32) (X acc : FVec Ideal S42752x1024 .f32)
  (h0 : V0 (Proc.devRef .tc main_v29_0) = A) (h1 : V0 (Proc.devRef .tc main_v29_1) = B) (h2 : V0 (Proc.devRef .tc main_v29_2) = C)
  (h3 : V0 (Proc.devRef .tc main_v29_3) = G) (h4 : V0 (Proc.devRef .tc main_v29_4) = X)
  (h5 : V0 (Proc.devRef .tc main_v29_5) = constantI S_ 32 (BitVec.ofNat 32 k)) (h6 : V0 (Proc.devRef .tc main_v29_6) = acc)
include h0 h4 h5 in
theorem v35_at (r : Fin 42752) (j : Fin 512) :
    (res_main_while0b_v35 V0 : FVec Ideal S42752x512 .f32) (ix2 r j) = Moe.lin (fun i => X (ix2 r i)) (fun a j => A (ix3 ⟨k, hk⟩ a j)) j := by
  unfold res_main_while0b_v35
  rw [h0, h4, h5]
  refine (StackMember.dotGeneral_plain_apply none X _ r j).trans (Finset.sum_congr rfl fun a _ => congrArg (_ * ·) ?_)
  exact member 1024 512 A k hk _ (start3 k hk) sliceFits_S32x1024x512_S1x1024x512 shapeCasts_S1x1024x512_S1024x512 a j

include h0 h1 h2 h3 h4 h5 h6 in
theorem step_at (r : Fin 42752) (col : Fin 1024) :
    (step_main_v29_6 V0 : FVec Ideal S42752x1024 .f32) (ix2 r col)
      = acc (ix2 r col) + G (ix2 ⟨k, hk⟩ r) * Moe.val (fun i => X (ix2 r i)) (fun a j => A (ix3 ⟨k, hk⟩ a j)) (fun a j => B (ix3 ⟨k, hk⟩ a j)) (fun j c => C (ix3 ⟨k, hk⟩ j c)) col := by
  have e35 := v35_at V0 k hk A X h0 h4 h5
  unfold step_main_v29_6
  rw [h1, h2, h3, h4, h5, h6]
  refine congrArg (acc (ix2 r col) + ·) (congrArg₂ (· * ·) (gateRow G k hk _ (start2 k hk) r col) ?_)
  refine (StackMember.dotGeneral_plain_apply none _ _ r col).trans (Finset.sum_congr rfl fun j _ => ?_)
  refine congrArg₂ (· * ·) ?_ (member 512 1024 C k hk _ (start3 k hk) sliceFits_S32x512x1024_S1x512x1024 shapeCasts_S1x512x1024_S512x1024 j col)
  show (ev (res_main_while0b_v35 V0) r j) * Ideal.div (Ideal.ofBits .f32 0x3F800000#32) (Ideal.ofBits .f32 0x3F800000#32 + Ideal.exp (-(ev (res_main_while0b_v35 V0) r j))) * _ = _
  rw [show ev (res_main_while0b_v35 V0) r j = _ from e35 r j, Ideal.ofBits_one_f32]
  unfold Moe.act
  refine congrArg₂ (fun y z : EReal => y * z) rfl ?_
  refine (StackMember.dotGeneral_plain_apply none X _ r j).trans (Finset.sum_congr rfl fun a _ => congrArg (_ * ·) ?_)
  exact member 1024 512 B k hk _ (start3 k hk) sliceFits_S32x1024x512_S1x1024x512 shapeCasts_S1x1024x512_S1024x512 a j
end Trip

end Cert.ReferenceIdeal.Hand
end
-- ==== Proof.RefHost.lean ====
/-
  Hand-written, untrusted. What the reference's loop starts from: the weights of layer 0, the rows, and the gates from
  the counts.
-/
module
public import proofs.«01_k».proof.Proof.RefStep
public import proofs.«01_k».proof.Proof.Host
@[expose] public section

noncomputable section

namespace Cert.ReferenceIdeal.Hand

open Cert.ReferenceIdeal Cert.ReferenceIdeal.Gen Cert.ReferenceIdeal.Value
open Idealize.ShloMosaic Idealize.ShloMosaic.StableHlo
open Idealize.ShloMosaic.TcCoe
open Idealize.ShloMosaic.Routing
open Cert.KernelIdeal.Hand (f5 f7 f8 k32 d7 d8 f4)

/-- The gates, from the rows where the experts end and how many rows each takes. -/
def gates (v6 v5 : IVec S32 32) : FVec Ideal S32x42752 .f32 :=
  transpose S32x42752 [1, 0] (uitofp .f32 (andi
    (cmpi .sge (broadcastInDim S42752x32 ![0, 1] bcast_S42752x1_S42752x32_0_1 (broadcastInDim S42752x1 ![0] bcast_S42752_S42752x1_0 (iotaInDim S42752 32 0)))
      (broadcastInDim S42752x32 ![0, 1] bcast_S1x32_S42752x32_0_1 (broadcastInDim S1x32 ![1] bcast_S32_S1x32_1 (subi v6 v5))))
    (cmpi .slt (broadcastInDim S42752x32 ![0, 1] bcast_S42752x1_S42752x32_0_1 (broadcastInDim S42752x1 ![0] bcast_S42752_S42752x1_0 (iotaInDim S42752 32 0)))
      (broadcastInDim S42752x32 ![0, 1] bcast_S1x32_S42752x32_0_1 (broadcastInDim S1x32 ![1] bcast_S32_S1x32_1 v6))))) transposes_S42752x32_S32x42752_1_0

variable (X : Valuation τ sig (Elt Ideal))

theorem r0_v0 : after (hostOps0 (F := Ideal)) X (Proc.devRef .tc main_v0) = shapeCast S42752x1024 (X (Proc.devRef .tc main_arg0)) shapeCasts_S342016x128_S42752x1024 := by
  after_reads_simp
  try simp -implicitDefEqProofs only [StableHlo.TRef.toBuf, StableHlo.TRef.ofBuf, cast_cast, cast_eq, id]
  try rfl
theorem r0_v2 : after (hostOps0 (F := Ideal)) X (Proc.devRef .tc main_v2) = addi (X (Proc.devRef .tc main_arg1)) (k32 255#32) := by
  after_reads_simp
  try simp -implicitDefEqProofs only [StableHlo.TRef.toBuf, StableHlo.TRef.ofBuf, cast_cast, cast_eq, id]
  try rfl
theorem r0_c : after (hostOps0 (F := Ideal)) X (Proc.devRef .tc main_c_0) = constantI S_ 32 256#32 := by
  after_reads_simp
  try simp -implicitDefEqProofs only [StableHlo.TRef.toBuf, StableHlo.TRef.ofBuf, cast_cast, cast_eq, id]
  try rfl
theorem r1_v3 (h : X (Proc.devRef .tc main_c_0) = constantI S_ 32 256#32) : after (hostOps0_1 (F := Ideal)) X (Proc.devRef .tc main_v3) = f5 (X (Proc.devRef .tc main_v2)) := by
  after_reads_simp
  try simp -implicitDefEqProofs only [StableHlo.TRef.toBuf, StableHlo.TRef.ofBuf, cast_cast, cast_eq, id]
  rw [h]
  unfold f5 pyDiv; rfl
theorem r1_v0 : after (hostOps0_1 (F := Ideal)) X (Proc.devRef .tc main_v0) = X (Proc.devRef .tc main_v0) := by
  after_reads_simp
theorem r2_v5 : after (hostOps0_2 (F := Ideal)) X (Proc.devRef .tc main_v5) = f7 (X (Proc.devRef .tc main_v3)) := by
  after_reads_simp
  try simp -implicitDefEqProofs only [StableHlo.TRef.toBuf, StableHlo.TRef.ofBuf, cast_cast, cast_eq, id]
  try rfl
theorem r2_v0 : after (hostOps0_2 (F := Ideal)) X (Proc.devRef .tc main_v0) = X (Proc.devRef .tc main_v0) := by
  after_reads_simp
theorem r3_v6 : after (hostOps0_3 (F := Ideal)) X (Proc.devRef .tc main_v6) = f8 (X (Proc.devRef .tc main_v5)) := by
  after_reads_simp
  try simp -implicitDefEqProofs only [StableHlo.TRef.toBuf, StableHlo.TRef.ofBuf, cast_cast, cast_eq, id]
  try rfl
theorem r3_v5 : after (hostOps0_3 (F := Ideal)) X (Proc.devRef .tc main_v5) = X (Proc.devRef .tc main_v5) := by
  after_reads_simp
theorem r3_v0 : after (hostOps0_3 (F := Ideal)) X (Proc.devRef .tc main_v0) = X (Proc.devRef .tc main_v0) := by
  after_reads_simp
theorem r4_0 : after (hostOps0_4 (F := Ideal)) X (Proc.devRef .tc main_v29_0) = shapeCast S32x1024x512 (extractStridedSlice S1x32x1024x512 ![0, 0, 0, 0] (X (Proc.devRef .tc main_arg2)) slices_S2x32x1024x512_S1x32x1024x512_0_0_0_0) shapeCasts_S1x32x1024x512_S32x1024x512 := by
  after_reads_simp
  try simp -implicitDefEqProofs only [StableHlo.TRef.toBuf, StableHlo.TRef.ofBuf, cast_cast, cast_eq, id]
  try rfl
theorem r4_1 : after (hostOps0_4 (F := Ideal)) X (Proc.devRef .tc main_v29_1) = shapeCast S32x1024x512 (extractStridedSlice S1x32x1024x512 ![0, 0, 0, 0] (X (Proc.devRef .tc main_arg3)) slices_S2x32x1024x512_S1x32x1024x512_0_0_0_0) shapeCasts_S1x32x1024x512_S32x1024x512 := by
  after_reads_simp
  try simp -implicitDefEqProofs only [StableHlo.TRef.toBuf, StableHlo.TRef.ofBuf, cast_cast, cast_eq, id]
  try rfl
theorem r4_2 : after (hostOps0_4 (F := Ideal)) X (Proc.devRef .tc main_v29_2) = shapeCast S32x512x1024 (extractStridedSlice S1x32x512x1024 ![0, 0, 0, 0] (X (Proc.devRef .tc main_arg4)) slices_S2x32x512x1024_S1x32x512x1024_0_0_0_0) shapeCasts_S1x32x512x1024_S32x512x1024 := by
  after_reads_simp
  try simp -implicitDefEqProofs only [StableHlo.TRef.toBuf, StableHlo.TRef.ofBuf, cast_cast, cast_eq, id]
  try rfl
theorem r4_3 : after (hostOps0_4 (F := Ideal)) X (Proc.devRef .tc main_v29_3) = gates (X (Proc.devRef .tc main_v6)) (X (Proc.devRef .tc main_v5)) := by
  after_reads_simp
  try simp -implicitDefEqProofs only [StableHlo.TRef.toBuf, StableHlo.TRef.ofBuf, cast_cast, cast_eq, id]
  try rfl
theorem r4_4 : after (hostOps0_4 (F := Ideal)) X (Proc.devRef .tc main_v29_4) = X (Proc.devRef .tc main_v0) := by
  after_reads_simp
  try simp -implicitDefEqProofs only [StableHlo.TRef.toBuf, StableHlo.TRef.ofBuf, cast_cast, cast_eq, id]
  try rfl
theorem r4_6 : after (hostOps0_4 (F := Ideal)) X (Proc.devRef .tc main_v29_6) = broadcastInDim S42752x1024 ![] bcast_S_S42752x1024 (constant (F := Ideal) S_ .f32 0x00000000#32) := by
  after_reads_simp
  try simp -implicitDefEqProofs only [StableHlo.TRef.toBuf, StableHlo.TRef.ofBuf, cast_cast, cast_eq, id]
  try rfl

end Cert.ReferenceIdeal.Hand
end
-- ==== Proof.RefVal.lean ====
/-
  Hand-written, untrusted. The reference's result, entry by entry: the sum over the experts, in order, of the gate times
  the expert's value at that row.
-/
module
public import proofs.«01_k».proof.Proof.RefHost
public import proofs.«01_k».proof.Proof.Tables
@[expose] public section

noncomputable section

namespace Cert.ReferenceIdeal.Hand

open Cert.ReferenceIdeal Cert.ReferenceIdeal.Gen Cert.ReferenceIdeal.Value
open Idealize.ShloMosaic hiding ix0 ix1 ix2 ix3 ix4
open Idealize.ShloMosaic.StableHlo Idealize.ShloMosaic.Pipeline
open Idealize.ShloMosaic.TcCoe
open Idealize.ShloMosaic.Routing Idealize.ShloMosaic.ValueIdx Idealize.ShloMosaic.WordCmp
open Cert.KernelIdeal.Hand (f5 f7 f8 k32 d7 d8 f4 CountsOK padn cum d7_ap d8_ap cum_le padn_le_cum bit0)

/-- One layer of a weight, read at an entry. -/
theorem layer (a b : ℕ) (w : (⟨4, ![2, 32, a, b]⟩ : Shape).Idx → EReal) (h1 : (⟨4, ![2, 32, a, b]⟩ : Shape).Slices (![0, 0, 0, 0] : Fin 4 → ℕ) (⟨4, ![1, 32, a, b]⟩ : Shape))
    (h2 : (⟨4, ![1, 32, a, b]⟩ : Shape).ShapeCasts (shape3 32 a b)) (e : Fin 32) (k : Fin a) (j : Fin b) :
    shapeCast (shape3 32 a b) (extractStridedSlice (⟨4, ![1, 32, a, b]⟩ : Shape) (![0, 0, 0, 0] : Fin 4 → ℕ) w h1) h2 (ix3 e k j) = w (ix4 0 e k j) := by
  refine (shapeCast_apply _ h2 (ix3 e k j) (ix4 0 e k j) ?_).trans (extractStridedSlice_apply _ w h1 _ _ ?_)
  · rw [Shape.rowMajor_val_four, Shape.rowMajor_val_three]
    show ((0 * 32 + e.val) * a + k.val) * b + j.val = (e.val * a + k.val) * b + j.val
    rw [Nat.zero_mul, Nat.zero_add]
  · intro x
    match x with
    | ⟨0, _⟩ => rfl
    | ⟨1, _⟩ => exact (Nat.zero_add _).symm
    | ⟨2, _⟩ => exact (Nat.zero_add _).symm
    | ⟨3, _⟩ => exact (Nat.zero_add _).symm

/-- The rows, from the slabs of eight. -/
theorem rows (x : S342016x128.Idx → EReal) (r : Fin 42752) (i : Fin 1024) :
    shapeCast S42752x1024 x shapeCasts_S342016x128_S42752x1024 (ix2 r i) = x (ix2 ⟨8 * r.val + i.val / 128, by omega⟩ ⟨i.val % 128, by omega⟩) := by
  refine shapeCast_apply _ shapeCasts_S342016x128_S42752x1024 (ix2 r i) _ ?_
  rw [Shape.rowMajor_val_two, Shape.rowMajor_val_two]
  show (8 * r.val + i.val / 128) * 128 + i.val % 128 = r.val * 1024 + i.val
  omega
theorem slabs (x : S42752x1024.Idx → EReal) (R : Fin 342016) (l : Fin 128) :
    shapeCast S342016x128 x shapeCasts_S42752x1024_S342016x128 (ix2 R l) = x (ix2 ⟨R.val / 8, by omega⟩ ⟨128 * (R.val % 8) + l.val, by omega⟩) := by
  refine shapeCast_apply _ shapeCasts_S42752x1024_S342016x128 (ix2 R l) _ ?_
  rw [Shape.rowMajor_val_two, Shape.rowMajor_val_two]
  show R.val / 8 * 1024 + (128 * (R.val % 8) + l.val) = R.val * 128 + l.val
  omega

/-- The reference rounds the counts up as the kernel's host lines do. -/
theorem v5_eq (c : IVec S32 32) : f7 (f5 (addi c (k32 255#32))) = d7 c := by
  unfold d7
  refine congrArg (fun z => f7 (f5 z)) (funext fun x => ?_)
  show c x + 255#32 = c x + 256#32 - 1#32
  rw [BitVec.sub_eq_add_neg, BitVec.add_assoc]; rfl

section gate
variable {c : IVec S32 32} {n : ℕ → ℕ} (H : CountsOK c n)
include H
theorem gate_at (e : Fin 32) (r : Fin 42752) :
    gates (d8 c) (d7 c) (ix2 e r) = (if cum n e.val - padn n e.val ≤ r.val ∧ r.val < cum n e.val then (1 : EReal) else 0) := by
  have hc := cum_le H e
  have hp := padn_le_cum n e.val
  unfold gates
  refine (transpose_apply [1, 0] _ transposes_S42752x32_S32x42752_1_0 (ix2 e r) (ix2 r e) ?_).trans ?_
  · intro b
    match b with
    | ⟨0, _⟩ => rfl
    | ⟨1, _⟩ => rfl
  show ((((IntOp.andi (IntOp.cmpi .sge _ _) (IntOp.cmpi .slt _ _)).toNat : ℝ) : EReal)) = _
  rw [bcRows (n := 42752) (m := 32), bcCols (n := 42752) (m := 32), bcCols (n := 42752) (m := 32)]
  rw [show subi (d8 c) (d7 c) (ix1 e) = BitVec.ofNat 32 (cum n e.val - padn n e.val) from by
        show d8 c (ix1 e) - d7 c (ix1 e) = _
        rw [d8_ap H, d7_ap H, BitVec.ofNat_sub_ofNat_of_le _ _ (by omega) hp], d8_ap H,
    show iotaInDim S42752 32 0 (ix1 r) = BitVec.ofNat 32 r.val from rfl]
  have hr := r.isLt
  have g1 := cmpi_sge_ofNat_eq_one_iff (w := 32) (a := r.val) (b := cum n e.val - padn n e.val) (by omega) (by omega)
  have g2 := cmpi_slt_ofNat_eq_one_iff (w := 32) (a := r.val) (b := cum n e.val) (by omega) (by omega)
  by_cases h : cum n e.val - padn n e.val ≤ r.val ∧ r.val < cum n e.val
  · rw [if_pos h, g1.2 h.1, g2.2 h.2]
    show (((1 : ℕ) : ℝ) : EReal) = 1
    norm_num
  · rw [if_neg h, bit0 (b := IntOp.andi _ _) (fun hh => h ⟨g1.1 (IntOp.andi_eq_one.1 hh).1, g2.1 (IntOp.andi_eq_one.1 hh).2⟩)]
    show (((0 : ℕ) : ℝ) : EReal) = 0
    norm_num
end gate

section entry
variable (m : (ℓ : Loc nD τ sig) → Buf (Elt Ideal) ℓ) (c : Dev nD)

/-- What the loop starts from. -/
abbrev E0 : Valuation τ sig (Elt Ideal) := entryContents preI m c

theorem e_0 : E0 m c (Proc.devRef .tc main_v29_0) = shapeCast S32x1024x512 (extractStridedSlice S1x32x1024x512 ![0, 0, 0, 0] (m ((c.tc : Thread nD τ).loc main_arg2)) slices_S2x32x1024x512_S1x32x1024x512_0_0_0_0) shapeCasts_S1x32x1024x512_S32x1024x512 := by
  simp only [E0, entryContents, preI, afterL_cons, afterL_nil]
  rw [r4_0, keep_main_arg2_hostOps0_3, keep_main_arg2_hostOps0_2, keep_main_arg2_hostOps0_1, keep_main_arg2_hostOps0]
theorem e_1 : E0 m c (Proc.devRef .tc main_v29_1) = shapeCast S32x1024x512 (extractStridedSlice S1x32x1024x512 ![0, 0, 0, 0] (m ((c.tc : Thread nD τ).loc main_arg3)) slices_S2x32x1024x512_S1x32x1024x512_0_0_0_0) shapeCasts_S1x32x1024x512_S32x1024x512 := by
  simp only [E0, entryContents, preI, afterL_cons, afterL_nil]
  rw [r4_1, keep_main_arg3_hostOps0_3, keep_main_arg3_hostOps0_2, keep_main_arg3_hostOps0_1, keep_main_arg3_hostOps0]
theorem e_2 : E0 m c (Proc.devRef .tc main_v29_2) = shapeCast S32x512x1024 (extractStridedSlice S1x32x512x1024 ![0, 0, 0, 0] (m ((c.tc : Thread nD τ).loc main_arg4)) slices_S2x32x512x1024_S1x32x512x1024_0_0_0_0) shapeCasts_S1x32x512x1024_S32x512x1024 := by
  simp only [E0, entryContents, preI, afterL_cons, afterL_nil]
  rw [r4_2, keep_main_arg4_hostOps0_3, keep_main_arg4_hostOps0_2, keep_main_arg4_hostOps0_1, keep_main_arg4_hostOps0]
theorem e_3 : E0 m c (Proc.devRef .tc main_v29_3) = gates (d8 (m ((c.tc : Thread nD τ).loc main_arg1))) (d7 (m ((c.tc : Thread nD τ).loc main_arg1))) := by
  simp only [E0, entryContents, preI, afterL_cons, afterL_nil]
  rw [r4_3, r3_v6, r3_v5, r2_v5, r1_v3 _ (r0_c _), r0_v2, v5_eq]
  rfl
theorem e_4 : E0 m c (Proc.devRef .tc main_v29_4) = shapeCast S42752x1024 (m ((c.tc : Thread nD τ).loc main_arg0)) shapeCasts_S342016x128_S42752x1024 := by
  simp only [E0, entryContents, preI, afterL_cons, afterL_nil]
  rw [r4_4, r3_v0, r2_v0, r1_v0, r0_v0]
theorem e_6 : E0 m c (Proc.devRef .tc main_v29_6) = broadcastInDim S42752x1024 ![] bcast_S_S42752x1024 (constant (F := Ideal) S_ .f32 0x00000000#32) := by
  simp only [E0, entryContents, preI, afterL_cons, afterL_nil]
  rw [r4_6]

end entry

end Cert.ReferenceIdeal.Hand
end
-- ==== Proof.RefLoop.lean ====
/-
  Hand-written, untrusted. The reference's loop, trip by trip, and its result.
-/
module
public import proofs.«01_k».proof.Proof.RefVal
@[expose] public section

noncomputable section

namespace Cert.ReferenceIdeal.Hand

open Cert.ReferenceIdeal Cert.ReferenceIdeal.Gen Cert.ReferenceIdeal.Value
open Idealize.ShloMosaic hiding ix0 ix1 ix2 ix3 ix4
open Idealize.ShloMosaic.StableHlo Idealize.ShloMosaic.Pipeline
open Idealize.ShloMosaic.TcCoe
open Idealize.ShloMosaic.Routing Idealize.ShloMosaic.ValueIdx Idealize.ShloMosaic.WordCmp
open Cert.KernelIdeal.Hand (CountsOK padn cum)

/-- What an expert of layer 0 makes of a row of the slabs. -/
def mval (xs : S342016x128.Idx → EReal) (w1 w3 : S2x32x1024x512.Idx → EReal) (w2 : S2x32x512x1024.Idx → EReal) (e : Fin 32) (r : Fin 42752) (col : Fin 1024) : EReal :=
  Moe.val (fun i : Fin 1024 => xs (ix2 ⟨8 * r.val + i.val / 128, by omega⟩ ⟨i.val % 128, by omega⟩)) (fun k j => w1 (ix4 0 e k j)) (fun k j => w3 (ix4 0 e k j)) (fun j c => w2 (ix4 0 e j c)) col

section loop
variable (m : (ℓ : Loc nD τ sig) → Buf (Elt Ideal) ℓ) (c : Dev nD)

/-- The sum of the first `k` trips. -/
def part (r : Fin 42752) (col : Fin 1024) : ℕ → EReal
  | 0 => 0
  | k + 1 => part r col k + (if h : k < 32 then gates (Cert.KernelIdeal.Hand.d8 (m ((c.tc : Thread nD τ).loc main_arg1))) (Cert.KernelIdeal.Hand.d7 (m ((c.tc : Thread nD τ).loc main_arg1))) (ix2 ⟨k, h⟩ r)
      * mval (m ((c.tc : Thread nD τ).loc main_arg0)) (m ((c.tc : Thread nD τ).loc main_arg2)) (m ((c.tc : Thread nD τ).loc main_arg3)) (m ((c.tc : Thread nD τ).loc main_arg4)) ⟨k, h⟩ r col else 0)

theorem it_0 (k : ℕ) : (STEP^[k] (E0 m c)) (Proc.devRef .tc main_v29_0) = E0 m c (Proc.devRef .tc main_v29_0) := by
  induction k with
  | zero => rfl
  | succ k ih => rw [Function.iterate_succ_apply', STEP_main_v29_0, ih]
theorem it_1 (k : ℕ) : (STEP^[k] (E0 m c)) (Proc.devRef .tc main_v29_1) = E0 m c (Proc.devRef .tc main_v29_1) := by
  induction k with
  | zero => rfl
  | succ k ih => rw [Function.iterate_succ_apply', STEP_main_v29_1, ih]
theorem it_2 (k : ℕ) : (STEP^[k] (E0 m c)) (Proc.devRef .tc main_v29_2) = E0 m c (Proc.devRef .tc main_v29_2) := by
  induction k with
  | zero => rfl
  | succ k ih => rw [Function.iterate_succ_apply', STEP_main_v29_2, ih]
theorem it_3 (k : ℕ) : (STEP^[k] (E0 m c)) (Proc.devRef .tc main_v29_3) = E0 m c (Proc.devRef .tc main_v29_3) := by
  induction k with
  | zero => rfl
  | succ k ih => rw [Function.iterate_succ_apply', STEP_main_v29_3, ih]
theorem it_4 (k : ℕ) : (STEP^[k] (E0 m c)) (Proc.devRef .tc main_v29_4) = E0 m c (Proc.devRef .tc main_v29_4) := by
  induction k with
  | zero => rfl
  | succ k ih => rw [Function.iterate_succ_apply', STEP_main_v29_4, ih]
theorem it_5 (k : ℕ) : (STEP^[k] (E0 m c)) (Proc.devRef .tc main_v29_5) = constantI S_ 32 (BitVec.ofNat 32 k) := by
  induction k with
  | zero => exact ctr_entry m c
  | succ k ih =>
    rw [Function.iterate_succ_apply', STEP_main_v29_5]
    unfold step_main_v29_5
    rw [ih]
    refine funext fun x => ?_
    show BitVec.ofNat 32 k + 1#32 = BitVec.ofNat 32 (k + 1)
    rw [BitVec.ofNat_add]

theorem it_6 (k : ℕ) (hk : k ≤ 32) (r : Fin 42752) (col : Fin 1024) :
    ((STEP^[k] (E0 m c)) (Proc.devRef .tc main_v29_6) : FVec Ideal S42752x1024 .f32) (ix2 r col) = part m c r col k := by
  induction k with
  | zero =>
    exact (congrFun (e_6 m c) (ix2 r col)).trans Ideal.ofBits_zero_f32
  | succ k ih =>
    rw [Function.iterate_succ_apply', STEP_main_v29_6]
    have hk' : k < 32 := by omega
    refine (step_at (STEP^[k] (E0 m c)) k hk' _ _ _ _ _ _ ((it_0 m c k).trans (e_0 m c)) ((it_1 m c k).trans (e_1 m c)) ((it_2 m c k).trans (e_2 m c))
      ((it_3 m c k).trans (e_3 m c)) ((it_4 m c k).trans (e_4 m c)) (it_5 m c k) rfl r col).trans ?_
    unfold part
    rw [dif_pos hk']
    refine congrArg₂ (fun y z : EReal => y + z) (ih (by omega)) (congrArg₂ (fun y z : EReal => y * z) rfl ?_)
    unfold mval
    have h1 : ∀ (w : S2x32x1024x512.Idx → EReal), (fun (a : Fin 1024) (j : Fin 512) => shapeCast S32x1024x512 (extractStridedSlice S1x32x1024x512 ![0, 0, 0, 0] w slices_S2x32x1024x512_S1x32x1024x512_0_0_0_0) shapeCasts_S1x32x1024x512_S32x1024x512 (ix3 ⟨k, hk'⟩ a j)) = fun a j => w (ix4 0 ⟨k, hk'⟩ a j) :=
      fun w => funext fun a => funext fun j => layer 1024 512 w _ _ ⟨k, hk'⟩ a j
    have h2 : ∀ (w : S2x32x512x1024.Idx → EReal), (fun (a : Fin 512) (j : Fin 1024) => shapeCast S32x512x1024 (extractStridedSlice S1x32x512x1024 ![0, 0, 0, 0] w slices_S2x32x512x1024_S1x32x512x1024_0_0_0_0) shapeCasts_S1x32x512x1024_S32x512x1024 (ix3 ⟨k, hk'⟩ a j)) = fun a j => w (ix4 0 ⟨k, hk'⟩ a j) :=
      fun w => funext fun a => funext fun j => layer 512 1024 w _ _ ⟨k, hk'⟩ a j
    have h3 : ∀ (x : S342016x128.Idx → EReal), (fun i : Fin 1024 => shapeCast S42752x1024 x shapeCasts_S342016x128_S42752x1024 (ix2 r i)) = fun i => x (ix2 ⟨8 * r.val + i.val / 128, by omega⟩ ⟨i.val % 128, by omega⟩) :=
      fun x => funext fun i => rows x r i
    refine (congrFun (congr (congr (congr (congrArg (fun X A B C => Moe.val X A B C) (h3 _)) (h1 _)) (h1 _)) (h2 _)) col)

/-- The reference's result at an entry. -/
theorem ref_at (R : Fin 342016) (l : Fin 128) :
    (out_main_v30 (STEP^[32] (E0 m c)) : FVec Ideal S342016x128 .f32) (ix2 R l) = part m c ⟨R.val / 8, by omega⟩ ⟨128 * (R.val % 8) + l.val, by omega⟩ 32 := by
  unfold out_main_v30
  exact (slabs _ R l).trans (it_6 m c 32 le_rfl _ _)

variable {n : ℕ → ℕ} (H : CountsOK (m ((c.tc : Thread nD τ).loc main_arg1)) n)
include H
/-- No expert's rows hold this one. -/
theorem part_none (r : Fin 42752) (col : Fin 1024) (k : ℕ) (hk : k ≤ 32)
    (h : ∀ e, e < k → ¬ (cum n e - padn n e ≤ r.val ∧ r.val < cum n e)) : part m c r col k = 0 := by
  induction k with
  | zero => rfl
  | succ k ih =>
    unfold part
    rw [ih (by omega) (fun e he => h e (by omega)), dif_pos (by omega), gate_at H, if_neg (h k (by omega)), zero_mul, zero_add]
/-- One expert's rows hold this one. -/
theorem part_one (r : Fin 42752) (col : Fin 1024) (e0 : ℕ) (he0 : e0 < 32) (hin : cum n e0 - padn n e0 ≤ r.val ∧ r.val < cum n e0)
    (h : ∀ e, e < 32 → e ≠ e0 → ¬ (cum n e - padn n e ≤ r.val ∧ r.val < cum n e)) (k : ℕ) (hk : k ≤ 32) (hlt : e0 < k) :
    part m c r col k = mval (m ((c.tc : Thread nD τ).loc main_arg0)) (m ((c.tc : Thread nD τ).loc main_arg2)) (m ((c.tc : Thread nD τ).loc main_arg3)) (m ((c.tc : Thread nD τ).loc main_arg4)) ⟨e0, he0⟩ r col := by
  induction k with
  | zero => omega
  | succ k ih =>
    unfold part
    rw [dif_pos (show k < 32 by omega), gate_at H]
    by_cases hk0 : k = e0
    · subst hk0
      rw [part_none m c H r col k (by omega) (fun e he => h e (by omega) (by omega)), if_pos hin, one_mul, zero_add]
    · rw [ih (by omega) (by omega), if_neg (h k (by omega) hk0), zero_mul, add_zero]
end loop

end Cert.ReferenceIdeal.Hand
end
-- ==== Proof.KerVal.lean ====
/-
  Hand-written, untrusted. The kernel's result, entry by entry, over the extended reals: in a tile in use the value of
  the tile's expert at the entry's row, and zero in the other tiles.
-/
module
public import proofs.«01_k».proof.Proof.BlockVal
public import proofs.«01_k».proof.Proof.Pre
public import proofs.«01_k».proof.Proof.RefLoop
public import Idealize.ShloMosaic.Lib.Pipeline.ValueKit.Geometry
@[expose] public section

noncomputable section

namespace Cert.KernelIdeal.Hand

open Cert.KernelIdeal Cert.KernelIdeal.Gen
open Idealize.ShloMosaic hiding ix0 ix1 ix2 ix3 ix4
open Idealize.ShloMosaic.TcCoe
open Idealize.SL Idealize.SL.Sem
open Idealize.ShloMosaic.ValueIdx
open Cert.ReferenceIdeal.Hand (mval)
open Idealize.ShloMosaic.Pipeline (Dat Cfg Window)

theorem exA_at (c : Dev nD) (w : BufOf Ideal c hbA) (e : BitVec 32) (he : e.toNat < 32) (k : Fin 1024) (j : Fin 512) :
    (exA c w e : FVec Ideal S1024x512 .bf16) (ix2 k j) = (w : S2x32x1024x512.Idx → EReal) (ix4 0 ⟨e.toNat, he⟩ k j) := by
  unfold exA
  rw [dif_pos he]
  refine (shapeCast_apply _ _ (ix2 k j) (ix2 k j) rfl).trans ?_
  refine (congrFun (Memref.read_squeeze_slice (Val := Elt Ideal) hbA (Rect.unit (s := S2x32x1024x512) ![0, e.toNat, 0, 0] S1x1x1024x512.size (inWA e he)) (fun _ => rfl) squeezes_S1x1x1024x512_S1024x512 (by decide : S1x1x1024x512.ShapeCasts S1024x512) w) (ix2 k j)).trans ?_
  refine (shapeCast_apply _ _ (ix2 k j) (ix4 (0 : Fin 1) (0 : Fin 1) k j) ?_).trans ?_
  · rw [Shape.rowMajor_val_four, Shape.rowMajor_val_two]
    show ((0 * 1 + 0) * 1024 + k.val) * 512 + j.val = k.val * 512 + j.val
    omega
  · refine congrArg w (funext fun a => Fin.ext ?_)
    match a with
    | ⟨0, _⟩ => rfl
    | ⟨1, _⟩ => rfl
    | ⟨2, _⟩ => show 0 + 1 * k.val = k.val; omega
    | ⟨3, _⟩ => show 0 + 1 * j.val = j.val; omega
theorem exB_at (c : Dev nD) (w : BufOf Ideal c hbB) (e : BitVec 32) (he : e.toNat < 32) (k : Fin 1024) (j : Fin 512) :
    (exB c w e : FVec Ideal S1024x512 .bf16) (ix2 k j) = (w : S2x32x1024x512.Idx → EReal) (ix4 0 ⟨e.toNat, he⟩ k j) := by
  unfold exB
  rw [dif_pos he]
  refine (shapeCast_apply _ _ (ix2 k j) (ix2 k j) rfl).trans ?_
  refine (congrFun (Memref.read_squeeze_slice (Val := Elt Ideal) hbB (Rect.unit (s := S2x32x1024x512) ![0, e.toNat, 0, 0] S1x1x1024x512.size (inWA e he)) (fun _ => rfl) squeezes_S1x1x1024x512_S1024x512 (by decide : S1x1x1024x512.ShapeCasts S1024x512) w) (ix2 k j)).trans ?_
  refine (shapeCast_apply _ _ (ix2 k j) (ix4 (0 : Fin 1) (0 : Fin 1) k j) ?_).trans ?_
  · rw [Shape.rowMajor_val_four, Shape.rowMajor_val_two]
    show ((0 * 1 + 0) * 1024 + k.val) * 512 + j.val = k.val * 512 + j.val
    omega
  · refine congrArg w (funext fun a => Fin.ext ?_)
    match a with
    | ⟨0, _⟩ => rfl
    | ⟨1, _⟩ => rfl
    | ⟨2, _⟩ => show 0 + 1 * k.val = k.val; omega
    | ⟨3, _⟩ => show 0 + 1 * j.val = j.val; omega
theorem exC_at (c : Dev nD) (w : BufOf Ideal c hbC) (e : BitVec 32) (he : e.toNat < 32) (k : Fin 512) (j : Fin 1024) :
    (exC c w e : FVec Ideal S512x1024 .bf16) (ix2 k j) = (w : S2x32x512x1024.Idx → EReal) (ix4 0 ⟨e.toNat, he⟩ k j) := by
  unfold exC
  rw [dif_pos he]
  refine (shapeCast_apply _ _ (ix2 k j) (ix2 k j) rfl).trans ?_
  refine (congrFun (Memref.read_squeeze_slice (Val := Elt Ideal) hbC (Rect.unit (s := S2x32x512x1024) ![0, e.toNat, 0, 0] S1x1x512x1024.size (inWC e he)) (fun _ => rfl) squeezes_S1x1x512x1024_S512x1024 (by decide : S1x1x512x1024.ShapeCasts S512x1024) w) (ix2 k j)).trans ?_
  refine (shapeCast_apply _ _ (ix2 k j) (ix4 (0 : Fin 1) (0 : Fin 1) k j) ?_).trans ?_
  · rw [Shape.rowMajor_val_four, Shape.rowMajor_val_two]
    show ((0 * 1 + 0) * 512 + k.val) * 1024 + j.val = k.val * 1024 + j.val
    omega
  · refine congrArg w (funext fun a => Fin.ext ?_)
    match a with
    | ⟨0, _⟩ => rfl
    | ⟨1, _⟩ => rfl
    | ⟨2, _⟩ => show 0 + 1 * k.val = k.val; omega
    | ⟨3, _⟩ => show 0 + 1 * j.val = j.val; omega

variable {m : (ℓ : Loc nD τ sig) → Buf (Elt Ideal) ℓ} {N : ℕ} (hT : TabsOK m N)

theorem ix1_at (t : Fin (cfgA hT).N) : ((cfgA hT).win 1).index t = ![t.val, 0] := by
  have hc := coord_t hT t
  have ht : t.val < 167 := lt_of_lt_of_eq t.isLt N_0
  refine (show ((cfgA hT).win 1).index t = cc0_transform_4 (grid0.coords t) from rfl).trans ?_
  unfold cc0_transform_4
  rw [hc]
  refine congrArg₂ (fun x y : ℕ => (![x, y] : Fin 2 → ℕ)) ?_ rfl
  rw [BitVec.toNat_ofNat]; omega
theorem ix0_at (t : Fin (cfgA hT).N) : ((cfgA hT).win 0).index t = ![min t.val (N - 1), 0] := by
  rw [← coord_t hT t]
  exact tr0 (tbl m) N hT.ok.hN hT.n (grid0.coords t)

theorem cov1 : ((cfgA hT).win 1).Covers := by
  refine ⟨fun a => ?_, fun β => ?_⟩
  · match a with
    | ⟨0, _⟩ => exact (by decide : 0 < 2048)
    | ⟨1, _⟩ => exact (by decide : 0 < 128)
  · have hb0 : (β (0 : Fin 2)).val < 167 := lt_of_lt_of_eq (β (0 : Fin 2)).isLt (show (342016 + 2048 - 1) / 2048 = 167 by norm_num)
    have hb1 : (β (1 : Fin 2)).val < 1 := lt_of_lt_of_eq (β (1 : Fin 2)).isLt (show (128 + 128 - 1) / 128 = 1 by norm_num)
    have hN : (cfgA hT).N = 167 := N_0
    refine ⟨⟨(β (0 : Fin 2)).val, by rw [show grid0.N = 167 from N_0]; exact hb0⟩, ?_, ?_⟩
    · unfold Pipeline.Window.flush
      refine Bool.and_eq_true_iff.2 ⟨rfl, ?_⟩
      by_cases h : (β (0 : Fin 2)).val + 1 = 167
      · exact Bool.or_eq_true_iff.2 (.inl (decide_eq_true (h.trans hN.symm)))
      · have h' : (β (0 : Fin 2)).val + 1 < 167 := by omega
        refine Bool.or_eq_true_iff.2 (.inr (decide_eq_true ⟨lt_of_lt_of_eq h' hN.symm, fun hh => ?_⟩))
        have h0 := congrFun ((ix1_at hT _).symm.trans (hh.trans (ix1_at hT _))) (0 : Fin 2)
        have h1 : (β (0 : Fin 2)).val + 1 = (β (0 : Fin 2)).val := h0
        omega
    · intro a
      refine ⟨?_, .inl rfl⟩
      rw [ix1_at hT]
      match a with
      | ⟨0, _⟩ => rfl
      | ⟨1, _⟩ => exact (show 0 = (β (1 : Fin 2)).val by omega)

theorem emb1 (t : Fin (cfgA hT).N) (y : S2048x128.Idx) :
    ((((((cfgA hT).win 1).blk t).view.emb y) (0 : Fin 2) : Fin _) : ℕ) = t.val * 2048 + (y 0).val ∧ ((((((cfgA hT).win 1).blk t).view.emb y) (1 : Fin 2) : Fin _) : ℕ) = (y 1).val := by
  have h := ix1_at hT t
  constructor
  · refine (show ((((((cfgA hT).win 1).blk t).view.emb y) (0 : Fin 2) : Fin _) : ℕ) = ((cfgA hT).win 1).index t (0 : Fin 2) * 2048 + 1 * (y 0).val from rfl).trans ?_
    rw [h]; show t.val * 2048 + 1 * _ = _; omega
  · refine (show ((((((cfgA hT).win 1).blk t).view.emb y) (1 : Fin 2) : Fin _) : ℕ) = ((cfgA hT).win 1).index t (1 : Fin 2) * 128 + 1 * (y 1).val from rfl).trans ?_
    rw [h]; show 0 * 128 + 1 * _ = _; omega

theorem iblk_at (c : Dev nD) (t : Fin (cfgA hT).N) (ht : t.val < N) (y : S2048x128.Idx) (R : Fin 342016) (hR : R.val = t.val * 2048 + (y 0).val) :
    (iblk hT c t : S2048x128.Idx → EReal) y = (m ((c.tc : Thread nD τ).loc main_arg0) : S342016x128.Idx → EReal) (ix2 R (y 1)) := by
  have h := ix0_at hT t
  have hv : V m c main_arg0 = m ((c.tc : Thread nD τ).loc main_arg0) := V_arg m c main_arg0 (.inl rfl)
  refine (show (iblk hT c t : S2048x128.Idx → EReal) y = (V m c main_arg0 : S342016x128.Idx → EReal) ((((cfgA hT).win 0).blk t).view.emb y) from rfl).trans ?_
  rw [hv]
  refine congrArg _ (funext fun a => Fin.ext ?_)
  match a with
  | ⟨0, _⟩ =>
    refine (show ((((((cfgA hT).win 0).blk t).view.emb y) (0 : Fin 2) : Fin _) : ℕ) = ((cfgA hT).win 0).index t (0 : Fin 2) * 2048 + 1 * (y 0).val from rfl).trans ?_
    rw [h]; show min t.val (N - 1) * 2048 + 1 * _ = R.val; rw [Nat.min_eq_left (by omega)]; omega
  | ⟨1, _⟩ =>
    refine (show ((((((cfgA hT).win 0).blk t).view.emb y) (1 : Fin 2) : Fin _) : ℕ) = ((cfgA hT).win 0).index t (1 : Fin 2) * 128 + 1 * (y 1).val from rfl).trans ?_
    rw [h]; show 0 * 128 + 1 * _ = (y 1).val; omega

end Cert.KernelIdeal.Hand
end
-- ==== Proof.KerOut.lean ====
/-
  Hand-written, untrusted. What every block of the kernel's result holds, and the result from its blocks.
-/
module
public import proofs.«01_k».proof.Proof.KerVal
@[expose] public section

noncomputable section

namespace Cert.KernelIdeal.Hand

open Cert.KernelIdeal Cert.KernelIdeal.Gen
open Idealize.ShloMosaic hiding ix0 ix1 ix2 ix3 ix4
open Idealize.ShloMosaic.TcCoe
open Idealize.SL Idealize.SL.Sem
open Idealize.ShloMosaic.ValueIdx
open Cert.ReferenceIdeal.Hand (mval)
open Idealize.ShloMosaic.Pipeline (Dat Cfg Window)

variable {m : (ℓ : Loc nD τ sig) → Buf (Elt Ideal) ℓ}

/-- The value of expert `e` at an entry of the slabs. -/
def entry (m : (ℓ : Loc nD τ sig) → Buf (Elt Ideal) ℓ) (c : Dev nD) (e : Fin 32) (i : S342016x128.Idx) : EReal :=
  mval (m ((c.tc : Thread nD τ).loc main_arg0)) (m ((c.tc : Thread nD τ).loc main_arg2)) (m ((c.tc : Thread nD τ).loc main_arg3)) (m ((c.tc : Thread nD τ).loc main_arg4)) e
    ⟨(i 0).val / 8, by have h : (i 0).val < 342016 := (i 0).isLt; omega⟩
    ⟨128 * ((i 0).val % 8) + (i 1).val, by have h : (i 1).val < 128 := (i 1).isLt; omega⟩

section block
variable {N : ℕ} (hT : TabsOK m N)

theorem outs_in (c : Dev nD) (t : Fin (cfgA hT).N) (ht : t.val < N) (e : Fin 32) (he : (tw (V m 0 main_v34) t.val).toNat = e.val)
    (y : S2048x128.Idx) (i : S342016x128.Idx) (h0 : (i 0).val = t.val * 2048 + (y 0).val) (h1 : (i 1).val = (y 1).val) :
    (outsAt hT c t : S2048x128.Idx → EReal) y = entry m c e i := by
  have he' : (tw (V m 0 main_v34) t.val).toNat < 32 := by rw [he]; exact e.isLt
  have hy0 : (y 0).val < 2048 := (y 0).isLt
  have hy1 : (y 1).val < 128 := (y 1).isLt
  unfold outsAt pcs
  rw [if_pos ht]
  refine (outP_at _ _ _ _ _ VO y (coverP _ _ _ _ _ y)).trans ?_
  have hA : (fun (k : Fin 1024) (j : Fin 512) => (exA c (W1 m c) (tw (V m 0 main_v34) t.val) : FVec Ideal S1024x512 .bf16) (ix2 k j)) = fun k j => (m ((c.tc : Thread nD τ).loc main_arg2) : S2x32x1024x512.Idx → EReal) (ix4 0 e k j) :=
    funext fun k => funext fun j => (exA_at c _ _ he' k j).trans (by
      rw [show (⟨(tw (V m 0 main_v34) t.val).toNat, he'⟩ : Fin 32) = e from Fin.ext he]
      exact congrFun (V_arg m c main_arg2 (.inr (.inr (.inl rfl)))) _)
  have hB : (fun (k : Fin 1024) (j : Fin 512) => (exB c (W3 m c) (tw (V m 0 main_v34) t.val) : FVec Ideal S1024x512 .bf16) (ix2 k j)) = fun k j => (m ((c.tc : Thread nD τ).loc main_arg3) : S2x32x1024x512.Idx → EReal) (ix4 0 e k j) :=
    funext fun k => funext fun j => (exB_at c _ _ he' k j).trans (by
      rw [show (⟨(tw (V m 0 main_v34) t.val).toNat, he'⟩ : Fin 32) = e from Fin.ext he]
      exact congrFun (V_arg m c main_arg3 (.inr (.inr (.inr (.inl rfl))))) _)
  have hC : (fun (k : Fin 512) (j : Fin 1024) => (exC c (W2 m c) (tw (V m 0 main_v34) t.val) : FVec Ideal S512x1024 .bf16) (ix2 k j)) = fun k j => (m ((c.tc : Thread nD τ).loc main_arg4) : S2x32x512x1024.Idx → EReal) (ix4 0 e k j) :=
    funext fun k => funext fun j => (exC_at c _ _ he' k j).trans (by
      rw [show (⟨(tw (V m 0 main_v34) t.val).toNat, he'⟩ : Fin 32) = e from Fin.ext he]
      exact congrFun (V_arg m c main_arg4 (.inr (.inr (.inr (.inr rfl))))) _)
  unfold blockG entry mval
  have hi0 : (i 0).val < 342016 := (i 0).isLt
  have hX : rowOf (iblk hT c t) ⟨(y 0).val / 8, by omega⟩ = fun k : Fin 1024 => (m ((c.tc : Thread nD τ).loc main_arg0) : S342016x128.Idx → EReal) (ix2 ⟨8 * ((i 0).val / 8) + k.val / 128, by omega⟩ ⟨k.val % 128, by omega⟩) :=
    funext fun k => by
      unfold rowOf
      exact iblk_at hT c t ht _ _ (by show 8 * ((i 0).val / 8) + k.val / 128 = t.val * 2048 + (8 * ((y 0).val / 8) + k.val / 128); omega)
  have hcol : (⟨128 * ((y 0).val % 8) + (y 1).val, by omega⟩ : Fin 1024) = ⟨128 * ((i 0).val % 8) + (i 1).val, by omega⟩ :=
    Fin.ext (by show 128 * ((y 0).val % 8) + (y 1).val = 128 * ((i 0).val % 8) + (i 1).val; omega)
  exact congr (congr (congr (congr (congrArg (fun X A B C => Moe.val X A B C) hX) hA) hB) hC) hcol

/-- A block of zeros. -/
def zeroV : Vec Ideal S2048x128 .f32 := fun _ => (0 : EReal)

theorem outs_out (c : Dev nD) (t : Fin (cfgA hT).N) (ht : ¬ t.val < N) (y : S2048x128.Idx) : (outsAt hT c t : S2048x128.Idx → EReal) y = 0 := by
  unfold outsAt pcs
  rw [if_neg ht]
  rw [View.read_writes_apply_eq_canon VO _ y _ (coverZ y)]
  refine View.canon_apply_of_pieces zeroV _ ?_ y (coverZ y)
  intro p hp
  unfold outZ at hp
  simp only [List.mem_cons, List.not_mem_nil, or_false] at hp
  subst hp
  exact fun z => Ideal.ofBits_zero_f32

/-- The kernel's result: in the tiles in use the tile's expert's value, zero in the others. -/
def kout (m : (ℓ : Loc nD τ sig) → Buf (Elt Ideal) ℓ) (N : ℕ) (E : ℕ → Fin 32) (c : Dev nD) : S342016x128.Idx → EReal :=
  fun i => if (i 0).val / 2048 < N then entry m c (E ((i 0).val / 2048)) i else 0

theorem arr_eq (c : Dev nD) (E : ℕ → Fin 32) (hE : ∀ t, t < N → (tw (V m 0 main_v34) t).toNat = (E t).val) :
    (dats hT 0 c).arrAt 1 (cfgA hT).N = kout m N E c := by
  refine (dats hT 0 c).arrAt_eq_of_covers 1 (kout m N E c) (cov1 hT) (fun t hf y => ?_) (harr0 1)
  have hy := (fun z : S2048x128.Idx => show (z 0).val < 2048 from (z 0).isLt) y
  obtain ⟨e0, e1⟩ := emb1 hT t y
  refine (show _ = (outsAt hT c t : S2048x128.Idx → EReal) y from rfl).trans ?_
  unfold kout
  have hd : (((((((cfgA hT).win 1).blk t).view.emb y) (0 : Fin 2) : Fin _) : ℕ)) / 2048 = t.val := by rw [e0]; omega
  by_cases ht : t.val < N
  · refine (outs_in hT c t ht (E t.val) (hE _ ht) y _ e0 e1).trans ?_
    refine ((if_pos (hd.symm ▸ ht)).trans ?_).symm
    exact congrArg (fun x => entry m c (E x) _) hd
  · exact (outs_out hT c t ht y).trans (if_neg (hd.symm ▸ ht)).symm
end block

end Cert.KernelIdeal.Hand
end
-- ==== Proof.Equal.lean ====
/-
  Hand-written, untrusted. The kernel and the reference end with the same result over the extended reals: of the
  experts' gates at a row, only that of the row's tile is one.
-/
module
public import proofs.«01_k».proof.Proof.KerOut
public import proofs.«01_k».proof.Defs
public import proofs.«01_k».proof.Proof.Gen.Pre_counts_fit
@[expose] public section

noncomputable section

namespace Cert.Equal

open Idealize.ShloMosaic hiding ix0 ix1 ix2 ix3 ix4
open Idealize.ShloMosaic.TcCoe
open Idealize.SL Idealize.SL.Sem
open Idealize.ShloMosaic.ValueIdx
open Cert.KernelIdeal.Hand
open Cert.ReferenceIdeal.Hand (part part_one part_none ref_at E0 mval)

/-- The tile's expert, as a number below 32. -/
def te (n : ℕ → ℕ) (t : ℕ) : Fin 32 := if h : texp n t < 32 then ⟨texp n t, h⟩ else 0

section nat
variable {c : IVec Cert.KernelIdeal.S32 32} {n : ℕ → ℕ} (H : CountsOK c n)
include H
/-- The row's own expert, below the rows in use. -/
theorem own (r : ℕ) (h : 256 * (r / 256) < cum n 31) :
    cum n (texp n (r / 256)) - padn n (texp n (r / 256)) ≤ r ∧ r < cum n (texp n (r / 256)) := by
  have h32 := texp_lt H h
  have h1 := lt_cum_texp H h
  have h2 := cum_dvd n (texp n (r / 256))
  refine ⟨?_, by omega⟩
  rcases Nat.eq_zero_or_pos (texp n (r / 256)) with h0 | h0
  · rw [h0]
    have : cum n 0 = padn n 0 := by unfold cum; simp
    omega
  · have h3 := (lt_texp_iff H (r / 256) (e := texp n (r / 256) - 1) (by omega)).2 (by omega)
    have h4 := cum_succ n (texp n (r / 256) - 1)
    rw [show texp n (r / 256) - 1 + 1 = texp n (r / 256) from by omega] at h4
    omega
/-- No other expert's. -/
theorem other (r : ℕ) (h : 256 * (r / 256) < cum n 31) (e : ℕ) (he : e < 32) (hne : e ≠ texp n (r / 256)) :
    ¬ (cum n e - padn n e ≤ r ∧ r < cum n e) := by
  have h1 := (own H r h).2
  rintro ⟨h2, h3⟩
  rcases lt_or_gt_of_ne hne with hl | hg
  · have := (lt_texp_iff H (r / 256) he).2 hl
    omega
  · have h4 := cum_succ n (e - 1)
    rw [show e - 1 + 1 = e from by omega] at h4
    have h5 := cum_mono n (show texp n (r / 256) ≤ e - 1 by omega)
    omega
theorem nobody (r : ℕ) (h : ¬ r / 256 < cum n 31 / 256) (e : ℕ) (he : e < 32) : ¬ (cum n e - padn n e ≤ r ∧ r < cum n e) := by
  have h1 := cum_mono n (show e ≤ 31 by omega)
  have h2 := cum_dvd n 31
  omega
theorem te_val {t : ℕ} (h : 256 * t < cum n 31) : (te n t).val = texp n t := by
  unfold te; rw [dif_pos (texp_lt H h)]
end nat

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem out_eq (c : Dev Cert.KernelIdeal.nD) (n : ℕ → ℕ) (H : CountsOK (m ((c.tc : Thread Cert.KernelIdeal.nD Cert.KernelIdeal.τ).loc Cert.KernelIdeal.main_arg1)) n)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.out_main_v30 (Cert.ReferenceIdeal.Value.STEP^[32] (E0 m' c)) : Cert.KernelIdeal.S342016x128.Idx → EReal)
      = kout m (cum n 31 / 256) (te n) c := by
  have H' : CountsOK (m' ((c.tc : Thread Cert.ReferenceIdeal.nD Cert.ReferenceIdeal.τ).loc Cert.ReferenceIdeal.main_arg1)) n := h1 ▸ H
  funext i
  have hi0 : (i 0).val < 342016 := (i 0).isLt
  have hi1 : (i 1).val < 128 := (i 1).isLt
  have hi : i = ix2 (⟨(i 0).val, hi0⟩ : Fin 342016) (⟨(i 1).val, hi1⟩ : Fin 128) := funext fun a => match a with
    | ⟨0, _⟩ => rfl
    | ⟨1, _⟩ => rfl
  refine (congrArg _ hi).trans ((ref_at m' c ⟨(i 0).val, hi0⟩ ⟨(i 1).val, hi1⟩).trans ?_)
  have hd : (i 0).val / 2048 = (i 0).val / 8 / 256 := by omega
  unfold kout
  by_cases ht : (i 0).val / 2048 < cum n 31 / 256
  · rw [if_pos ht]
    have ht' : 256 * ((i 0).val / 8 / 256) < cum n 31 := by omega
    refine (part_one m' c H' _ _ (texp n ((i 0).val / 8 / 256)) (texp_lt H ht') (own H _ ht') (other H _ ht') 32 le_rfl (texp_lt H ht')).trans ?_
    rw [show te n ((i 0).val / 2048) = ⟨texp n ((i 0).val / 8 / 256), texp_lt H ht'⟩ from Fin.ext (by rw [hd]; exact te_val H ht')]
    unfold entry
    rw [h0, h2, h3, h4]
  · rw [if_neg ht]
    exact part_none m' c H' _ _ 32 le_rfl (nobody H _ (by rw [← hd]; exact ht))

theorem core (n : ℕ → ℕ) (H : CountsOK (m (((0 : Dev Cert.KernelIdeal.nD).tc : Thread Cert.KernelIdeal.nD Cert.KernelIdeal.τ).loc Cert.KernelIdeal.main_arg1)) n) (t : ℕ)
    (ht : t < cum n 31 / 256) : (tw (V m 0 Cert.KernelIdeal.main_v34) t).toNat = (te n t).val := by
  have hN := H.tot
  have hc : cum n 31 ≤ 42976 := hN
  have ht' : 256 * t < cum n 31 := by omega
  have h167 : t < 167 := by omega
  rw [te_val H ht', V_v34, tw_of h167]
  refine (congrArg BitVec.toNat (d34_ap H ⟨t, h167⟩ ht')).trans ?_
  rw [BitVec.toNat_ofNat]
  have := texp_lt H ht'
  exact Nat.mod_eq_of_lt (show texp n t < 2 ^ 32 by omega)

theorem algebraic : Cert.algebraic_KernelIdeal_ReferenceIdeal := by
  intro m ρ m' ρ' hpre hargs
  have H := countsOK (F := Ideal) _ _ _ _ _ (hpre 0)
  have hT := tabsOK (F := Ideal) m H
  refine ⟨fun c => kout m _ (te _) c, (θ_run Cert.KernelIdeal.defs _ _).mono (fun r h c => ⟨(h.1 c).1.trans (arr_eq hT c (te _) (core m _ H)), (h.1 c).2⟩) (run_args m ρ hT),
    (θ_run Cert.ReferenceIdeal.defs _ _).mono (fun r h c => ⟨(h c).1.trans ?_, (h c).2⟩) (Cert.ReferenceIdeal.Value.run (F := Ideal) m' ρ')⟩
  have hc := dev0 c
  subst hc
  obtain ⟨h0, h1, h2, h3, h4⟩ := hargs 0
  exact out_eq m m' 0 _ H h0 h1 h2 h3 h4

end Cert.Equal
end
-- ==== Proof.lean ====
/- The certificate: the frames of the kernel and of the reference, and what the kernel computes. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_counts_fit
public import proofs.«01_k».proof.Proof.Gen.ReferenceIdeal.Run
public import proofs.«01_k».proof.Proof.Pre
public import proofs.«01_k».proof.Proof.Same
public import proofs.«01_k».proof.Proof.Equal

@[expose] public section

noncomputable section

namespace Cert.Proof

open Idealize.ShloMosaic Idealize.SL.Sem

attribute [local instance] Cert.Kernel.Gen.facts Cert.KernelIdeal.Gen.facts Cert.ReferenceIdeal.Gen.facts Cert.Pre_counts_fit.Gen.facts

/-- The kernel over words terminates, leaves its arguments and zero counters. -/
theorem frame_kernel : Cert.quiescent_Kernel := by
  intro m ρ h
  have hc := Cert.KernelIdeal.Hand.countsOK (F := Bits) _ _ _ _ _ (h 0)
  have hT := Cert.KernelIdeal.Hand.tabsOK (F := Bits) m hc
  exact Cert.Same.run m ρ _ ((θ_run Cert.KernelIdeal.defs _ _).mono (fun _ h => ⟨fun c => (h.1 c).2, h.2⟩)
    (Cert.KernelIdeal.Hand.run_args (F := Bits) m ρ hT))

/-- So does the kernel over the extended reals. -/
theorem frame_kernelIdeal : Cert.quiescent_KernelIdeal := fun m ρ h =>
  (θ_run Cert.KernelIdeal.defs _ _).mono (fun _ h => ⟨fun c => (h.1 c).2, h.2⟩)
    (Cert.KernelIdeal.Hand.run_args (F := Ideal) m ρ
      (Cert.KernelIdeal.Hand.tabsOK m (Cert.KernelIdeal.Hand.countsOK (F := Ideal) _ _ _ _ _ (h 0))))

/-- So does the reference. -/
theorem frame_reference : Cert.quiescent_ReferenceIdeal := fun m ρ _ =>
  (θ_run Cert.ReferenceIdeal.defs _ _).mono (fun r h => ⟨fun c => (h c).2, funext fun l => nomatch l⟩)
    (Cert.ReferenceIdeal.Value.run (F := Ideal) m ρ)

theorem frame_reference_fit : Cert.quiescent_ReferenceIdeal_pre_counts_fit := fun m ρ _ => frame_reference m ρ trivial

/-- The kernel computes what the reference computes. -/
theorem algebraic : Cert.algebraic_KernelIdeal_ReferenceIdeal := Cert.Equal.algebraic

theorem claim : Cert.Claim :=
  ⟨Cert.Kernel.Gen.facts, Cert.KernelIdeal.Gen.facts, Cert.ReferenceIdeal.Gen.facts, Cert.Pre_counts_fit.Gen.facts,
    frame_kernel, frame_kernelIdeal, frame_reference, frame_reference_fit, trivial, algebraic⟩

end Cert.Proof

end
